-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)) (v3 : (c : Dev Cert.KernelIdeal.nD) → Buf (Elt Ideal) ((c.tc : Thread Cert.KernelIdeal.nD Cert.KernelIdeal.τ).loc Cert.KernelIdeal.main_v43_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_v43_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_v182) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S8x2048x1024 : Shape := ⟨3, ![8, 2048, 1024]⟩
abbrev S8x6144 : Shape := ⟨2, ![8, 6144]⟩
abbrev S1024 : Shape := ⟨1, ![1024]⟩
abbrev S4x1024x2944 : Shape := ⟨3, ![4, 1024, 2944]⟩
abbrev S4x256 : Shape := ⟨2, ![4, 256]⟩
abbrev S256 : Shape := ⟨1, ![256]⟩
abbrev S4x64x64 : Shape := ⟨3, ![4, 64, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x6144 : S_.BroadcastsInDim S8x6144 (![] : Fin 0 → Fin S8x6144.rank)
  reducesTo_S8x6144_S_d0_1 : S8x6144.ReducesTo [0, 1] S_
  bcast_S_S1024 : S_.BroadcastsInDim S1024 (![] : Fin 0 → Fin S1024.rank)
  reducesTo_S1024_S_d0 : S1024.ReducesTo [0] S_
  bcast_S_S4x1024x2944 : S_.BroadcastsInDim S4x1024x2944 (![] : Fin 0 → Fin S4x1024x2944.rank)
  reducesTo_S4x1024x2944_S_d0_1_2 : S4x1024x2944.ReducesTo [0, 1, 2] S_
  bcast_S_S4x256 : S_.BroadcastsInDim S4x256 (![] : Fin 0 → Fin S4x256.rank)
  reducesTo_S4x256_S_d0_1 : S4x256.ReducesTo [0, 1] S_
  bcast_S_S256 : S_.BroadcastsInDim S256 (![] : Fin 0 → Fin S256.rank)
  reducesTo_S256_S_d0 : S256.ReducesTo [0] S_
  bcast_S_S4x64x64 : S_.BroadcastsInDim S4x64x64 (![] : Fin 0 → Fin S4x64x64.rank)
  reducesTo_S4x64x64_S_d0_1_2 : S4x64x64.ReducesTo [0, 1, 2] S_

variable [Facts]

def fn_part3 {F : FTy → Type} [FloatOps F] (main_arg11 : FVec F S256 .f32) (main_v49 : IVec S_ 1) (main_v50 : FVec F S256 .f32) : IVec S_ 1 :=
  let main_cst_19 : FVec F S_ .f32 := constant S_ .f32 0x7F800000#32
  let main_v51 : FVec F S256 .f32 := broadcastInDim S256 ![] bcast_S_S256 main_cst_19
  let main_v52 : IVec S256 1 := cmpf .olt main_v50 main_v51
  let main_c_20 : IVec S_ 1 := constantI S_ 1 1#1
  let main_v53 : IVec S_ 1 := (fun x v => Host.reduce IntOp.andi x v reducesTo_S256_S_d0 h_S_) main_v52 main_c_20
  let main_v54 : IVec S_ 1 := andi main_v49 main_v53
  let main_v55 : FVec F S256 .f32 := Host.absf main_arg11
  let main_cst_21 : FVec F S_ .f32 := constant S_ .f32 0x7F800000#32
  let main_v56 : FVec F S256 .f32 := broadcastInDim S256 ![] bcast_S_S256 main_cst_21
  let main_v57 : IVec S256 1 := cmpf .olt main_v55 main_v56
  let main_c_22 : IVec S_ 1 := constantI S_ 1 1#1
  let main_v58 : IVec S_ 1 := (fun x v => Host.reduce IntOp.andi x v reducesTo_S256_S_d0 h_S_) main_v57 main_c_22
  let main_v59 : IVec S_ 1 := andi main_v54 main_v58
  main_v59

def fn_part2 {F : FTy → Type} [FloatOps F] (main_arg7 : FVec F S256 .f32) (main_arg8 : FVec F S4x64x64 .f32) (main_arg9 : FVec F S256 .f32) (main_arg10 : FVec F S256 .f32) (main_arg11 : FVec F S256 .f32) (main_v29 : IVec S_ 1) (main_v32 : IVec S4x64x64 1) (main_c_12 : IVec S_ 1) : IVec S_ 1 :=
  let main_v33 : IVec S_ 1 := (fun x v => Host.reduce IntOp.andi x v reducesTo_S4x64x64_S_d0_1_2 h_S_) main_v32 main_c_12
  let main_v34 : IVec S_ 1 := andi main_v29 main_v33
  let main_v35 : FVec F S256 .f32 := Host.absf main_arg7
  let main_cst_13 : FVec F S_ .f32 := constant S_ .f32 0x7F800000#32
  let main_v36 : FVec F S256 .f32 := broadcastInDim S256 ![] bcast_S_S256 main_cst_13
  let main_v37 : IVec S256 1 := cmpf .olt main_v35 main_v36
  let main_c_14 : IVec S_ 1 := constantI S_ 1 1#1
  let main_v38 : IVec S_ 1 := (fun x v => Host.reduce IntOp.andi x v reducesTo_S256_S_d0 h_S_) main_v37 main_c_14
  let main_v39 : IVec S_ 1 := andi main_v34 main_v38
  let main_v40 : FVec F S4x64x64 .f32 := Host.absf main_arg8
  let main_cst_15 : FVec F S_ .f32 := constant S_ .f32 0x7F800000#32
  let main_v41 : FVec F S4x64x64 .f32 := broadcastInDim S4x64x64 ![] bcast_S_S4x64x64 main_cst_15
  let main_v42 : IVec S4x64x64 1 := cmpf .olt main_v40 main_v41
  let main_c_16 : IVec S_ 1 := constantI S_ 1 1#1
  let main_v43 : IVec S_ 1 := (fun x v => Host.reduce IntOp.andi x v reducesTo_S4x64x64_S_d0_1_2 h_S_) main_v42 main_c_16
  let main_v44 : IVec S_ 1 := andi main_v39 main_v43
  let main_v45 : FVec F S256 .f32 := Host.absf main_arg9
  let main_cst_17 : FVec F S_ .f32 := constant S_ .f32 0x7F800000#32
  let main_v46 : FVec F S256 .f32 := broadcastInDim S256 ![] bcast_S_S256 main_cst_17
  let main_v47 : IVec S256 1 := cmpf .olt main_v45 main_v46
  let main_c_18 : IVec S_ 1 := constantI S_ 1 1#1
  let main_v48 : IVec S_ 1 := (fun x v => Host.reduce IntOp.andi x v reducesTo_S256_S_d0 h_S_) main_v47 main_c_18
  let main_v49 : IVec S_ 1 := andi main_v44 main_v48
  let main_v50 : FVec F S256 .f32 := Host.absf main_arg10
  fn_part3 (F := F) main_arg11 main_v49 main_v50

def fn_part1 {F : FTy → Type} [FloatOps F] (main_arg4 : FVec F S4x256 .f32) (main_arg5 : FVec F S256 .f32) (main_arg6 : FVec F S4x64x64 .f32) (main_arg7 : FVec F S256 .f32) (main_arg8 : FVec F S4x64x64 .f32) (main_arg9 : FVec F S256 .f32) (main_arg10 : FVec F S256 .f32) (main_arg11 : FVec F S256 .f32) (main_v14 : IVec S_ 1) (main_v15 : FVec F S4x1024x2944 .f32) (main_cst_5 : FVec F S_ .f32) : IVec S_ 1 :=
  let main_v16 : FVec F S4x1024x2944 .f32 := broadcastInDim S4x1024x2944 ![] bcast_S_S4x1024x2944 main_cst_5
  let main_v17 : IVec S4x1024x2944 1 := cmpf .olt main_v15 main_v16
  let main_c_6 : IVec S_ 1 := constantI S_ 1 1#1
  let main_v18 : IVec S_ 1 := (fun x v => Host.reduce IntOp.andi x v reducesTo_S4x1024x2944_S_d0_1_2 h_S_) main_v17 main_c_6
  let main_v19 : IVec S_ 1 := andi main_v14 main_v18
  let main_v20 : FVec F S4x256 .f32 := Host.absf main_arg4
  let main_cst_7 : FVec F S_ .f32 := constant S_ .f32 0x7F800000#32
  let main_v21 : FVec F S4x256 .f32 := broadcastInDim S4x256 ![] bcast_S_S4x256 main_cst_7
  let main_v22 : IVec S4x256 1 := cmpf .olt main_v20 main_v21
  let main_c_8 : IVec S_ 1 := constantI S_ 1 1#1
  let main_v23 : IVec S_ 1 := (fun x v => Host.reduce IntOp.andi x v reducesTo_S4x256_S_d0_1 h_S_) main_v22 main_c_8
  let main_v24 : IVec S_ 1 := andi main_v19 main_v23
  let main_v25 : FVec F S256 .f32 := Host.absf main_arg5
  let main_cst_9 : FVec F S_ .f32 := constant S_ .f32 0x7F800000#32
  let main_v26 : FVec F S256 .f32 := broadcastInDim S256 ![] bcast_S_S256 main_cst_9
  let main_v27 : IVec S256 1 := cmpf .olt main_v25 main_v26
  let main_c_10 : IVec S_ 1 := constantI S_ 1 1#1
  let main_v28 : IVec S_ 1 := (fun x v => Host.reduce IntOp.andi x v reducesTo_S256_S_d0 h_S_) main_v27 main_c_10
  let main_v29 : IVec S_ 1 := andi main_v24 main_v28
  let main_v30 : FVec F S4x64x64 .f32 := Host.absf main_arg6
  let main_cst_11 : FVec F S_ .f32 := constant S_ .f32 0x7F800000#32
  let main_v31 : FVec F S4x64x64 .f32 := broadcastInDim S4x64x64 ![] bcast_S_S4x64x64 main_cst_11
  let main_v32 : IVec S4x64x64 1 := cmpf .olt main_v30 main_v31
  let main_c_12 : IVec S_ 1 := constantI S_ 1 1#1
  fn_part2 (F := F) main_arg7 main_arg8 main_arg9 main_arg10 main_arg11 main_v29 main_v32 main_c_12

def fn {F : FTy → Type} [FloatOps F] (main_arg0 : FVec F S8x2048x1024 .f32) (main_arg1 : FVec F S8x6144 .f32) (main_arg2 : FVec F S1024 .f32) (main_arg3 : FVec F S4x1024x2944 .f32) (main_arg4 : FVec F S4x256 .f32) (main_arg5 : FVec F S256 .f32) (main_arg6 : FVec F S4x64x64 .f32) (main_arg7 : FVec F S256 .f32) (main_arg8 : FVec F S4x64x64 .f32) (main_arg9 : FVec F S256 .f32) (main_arg10 : FVec F S256 .f32) (main_arg11 : FVec F S256 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_c_0 : IVec S_ 1 := constantI S_ 1 1#1
  let main_v4 : IVec S_ 1 := andi main_c_0 main_v3
  let main_v5 : FVec F S8x6144 .f32 := Host.absf main_arg1
  let main_cst_1 : FVec F S_ .f32 := constant S_ .f32 0x7F800000#32
  let main_v6 : FVec F S8x6144 .f32 := broadcastInDim S8x6144 ![] bcast_S_S8x6144 main_cst_1
  let main_v7 : IVec S8x6144 1 := cmpf .olt main_v5 main_v6
  let main_c_2 : IVec S_ 1 := constantI S_ 1 1#1
  let main_v8 : IVec S_ 1 := (fun x v => Host.reduce IntOp.andi x v reducesTo_S8x6144_S_d0_1 h_S_) main_v7 main_c_2
  let main_v9 : IVec S_ 1 := andi main_v4 main_v8
  let main_v10 : FVec F S1024 .f32 := Host.absf main_arg2
  let main_cst_3 : FVec F S_ .f32 := constant S_ .f32 0x7F800000#32
  let main_v11 : FVec F S1024 .f32 := broadcastInDim S1024 ![] bcast_S_S1024 main_cst_3
  let main_v12 : IVec S1024 1 := cmpf .olt main_v10 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v9 main_v13
  let main_v15 : FVec F S4x1024x2944 .f32 := Host.absf main_arg3
  let main_cst_5 : FVec F S_ .f32 := constant S_ .f32 0x7F800000#32
  fn_part1 (F := F) main_arg4 main_arg5 main_arg6 main_arg7 main_arg8 main_arg9 main_arg10 main_arg11 main_v14 main_v15 main_cst_5
-- ==== Pre_finite4.lean ====
abbrev S8x2048x768 : Shape := ⟨3, ![8, 2048, 768]⟩
abbrev S256 : Shape := ⟨1, ![256]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel

variable [Facts]

def fn {F : FTy → Type} [FloatOps F] (main_arg0 : FVec F S8x2048x768 .f32) (main_arg1 : FVec F S256 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  main_v3
-- ==== Kernel.lean ====
abbrev S8x2048x1024 : Shape := ⟨3, ![8, 2048, 1024]⟩
abbrev S8x6144 : Shape := ⟨2, ![8, 6144]⟩
abbrev S1024 : Shape := ⟨1, ![1024]⟩
abbrev S4x1024x2944 : Shape := ⟨3, ![4, 1024, 2944]⟩
abbrev S4x256 : Shape := ⟨2, ![4, 256]⟩
abbrev S256 : Shape := ⟨1, ![256]⟩
abbrev S4x64x64 : Shape := ⟨3, ![4, 64, 64]⟩
abbrev S8x1x6144 : Shape := ⟨3, ![8, 1, 6144]⟩
abbrev S1x1024 : Shape := ⟨2, ![1, 1024]⟩
abbrev S1x256 : Shape := ⟨2, ![1, 256]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S256x1 : Shape := ⟨2, ![256, 1]⟩
abbrev S8x2048x768 : Shape := ⟨3, ![8, 2048, 768]⟩
abbrev S8x2048x256 : Shape := ⟨3, ![8, 2048, 256]⟩
abbrev S8x2048x896 : Shape := ⟨3, ![8, 2048, 896]⟩
abbrev S1x512x1024 : Shape := ⟨3, ![1, 512, 1024]⟩
abbrev S1x1x6144 : Shape := ⟨3, ![1, 1, 6144]⟩
abbrev S1x1024x2944 : Shape := ⟨3, ![1, 1024, 2944]⟩
abbrev S1x512x768 : Shape := ⟨3, ![1, 512, 768]⟩
abbrev S1x512x256 : Shape := ⟨3, ![1, 512, 256]⟩
abbrev S1x512x896 : Shape := ⟨3, ![1, 512, 896]⟩
abbrev S8x256 : Shape := ⟨2, ![8, 256]⟩
abbrev S1x6144 : Shape := ⟨2, ![1, 6144]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x1024x256 : Shape := ⟨3, ![1, 1024, 256]⟩
abbrev S1024x256 : Shape := ⟨2, ![1024, 256]⟩
abbrev S512x256 : Shape := ⟨2, ![512, 256]⟩
abbrev S520x256 : Shape := ⟨2, ![520, 256]⟩
abbrev S1x1024x128 : Shape := ⟨3, ![1, 1024, 128]⟩
abbrev S1024x128 : Shape := ⟨2, ![1024, 128]⟩
abbrev S512x128 : Shape := ⟨2, ![512, 128]⟩
abbrev S1x512x128 : Shape := ⟨3, ![1, 512, 128]⟩

abbrev nBuf : Space → Nat
  | .hbm => 78
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024, .f32⟩
  | .hbm, ⟨3, _⟩ => ⟨S4x1024x2944, .f32⟩
  | .hbm, ⟨4, _⟩ => ⟨S4x256, .f32⟩
  | .hbm, ⟨5, _⟩ => ⟨S256, .f32⟩
  | .hbm, ⟨6, _⟩ => ⟨S4x64x64, .f32⟩
  | .hbm, ⟨7, _⟩ => ⟨S256, .f32⟩
  | .hbm, ⟨8, _⟩ => ⟨S4x64x64, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S4x1024x2944, .bf16⟩
  | .hbm, ⟨13, _⟩ => ⟨S8x1x6144, .f32⟩
  | .hbm, ⟨14, _⟩ => ⟨S1x1024, .f32⟩
  | .hbm, ⟨15, _⟩ => ⟨S1x256, .f32⟩
  | .hbm, ⟨16, _⟩ => ⟨S4x4, .i32⟩
  | .hbm, ⟨17, _⟩ => ⟨S4x4, .i32⟩
  | .hbm, ⟨18, _⟩ => ⟨S_, .i32⟩
  | .hbm, ⟨19, _⟩ => ⟨S4x4, .i32⟩
  | .hbm, ⟨20, _⟩ => ⟨S4x4, .i32⟩
  | .hbm, ⟨21, _⟩ => ⟨S4x4, .i1⟩
  | .hbm, ⟨22, _⟩ => ⟨S4x4, .f32⟩
  | .hbm, ⟨23, _⟩ => ⟨S4x1x4x1, .f32⟩
  | .hbm, ⟨24, _⟩ => ⟨S4x64x1x64, .f32⟩
  | .hbm, ⟨25, _⟩ => ⟨S4x64x4x64, .f32⟩
  | .hbm, ⟨26, _⟩ => ⟨S4x64x4x64, .f32⟩
  | .hbm, ⟨27, _⟩ => ⟨S4x64x4x64, .f32⟩
  | .hbm, ⟨28, _⟩ => ⟨S256x256, .f32⟩
  | .hbm, ⟨29, _⟩ => ⟨S256x256, .bf16⟩
  | .hbm, ⟨30, _⟩ => ⟨S1x256, .f32⟩
  | .hbm, ⟨31, _⟩ => ⟨S4x4, .i32⟩
  | .hbm, ⟨32, _⟩ => ⟨S4x4, .i32⟩
  | .hbm, ⟨33, _⟩ => ⟨S_, .i32⟩
  | .hbm, ⟨34, _⟩ => ⟨S4x4, .i32⟩
  | .hbm, ⟨35, _⟩ => ⟨S4x4, .i32⟩
  | .hbm, ⟨36, _⟩ => ⟨S4x4, .i1⟩
  | .hbm, ⟨37, _⟩ => ⟨S4x4, .f32⟩
  | .hbm, ⟨38, _⟩ => ⟨S4x1x4x1, .f32⟩
  | .hbm, ⟨39, _⟩ => ⟨S4x64x1x64, .f32⟩
  | .hbm, ⟨40, _⟩ => ⟨S4x64x4x64, .f32⟩
  | .hbm, ⟨41, _⟩ => ⟨S4x64x4x64, .f32⟩
  | .hbm, ⟨42, _⟩ => ⟨S4x64x4x64, .f32⟩
  | .hbm, ⟨43, _⟩ => ⟨S256x256, .f32⟩
  | .hbm, ⟨44, _⟩ => ⟨S256x256, .bf16⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S256, .i32⟩
  | .hbm, ⟨49, _⟩ => ⟨S_, .i32⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S_, .i32⟩
  | .hbm, ⟨55, _⟩ => ⟨S256, .i32⟩
  | .hbm, ⟨56, _⟩ => ⟨S256, .i1⟩
  | .hbm, ⟨57, _⟩ => ⟨S256, .i32⟩
  | .hbm, ⟨58, _⟩ => ⟨S256, .i32⟩
  | .hbm, ⟨59, _⟩ => ⟨S_, .i32⟩
  | .hbm, ⟨60, _⟩ => ⟨S256, .i32⟩
  | .hbm, ⟨61, _⟩ => ⟨S256, .i1⟩
  | .hbm, ⟨62, _⟩ => ⟨S256, .i1⟩
  | .hbm, ⟨63, _⟩ => ⟨S_, .i32⟩
  | .hbm, ⟨64, _⟩ => ⟨S256, .i32⟩
  | .hbm, ⟨65, _⟩ => ⟨S256, .i32⟩
  | .hbm, ⟨66, _⟩ => ⟨S256, .i32⟩
  | .hbm, ⟨67, _⟩ => ⟨S256x1, .i32⟩
  | .hbm, ⟨68, _⟩ => ⟨S1x256, .i32⟩
  | .hbm, ⟨69, _⟩ => ⟨S256x256, .i32⟩
  | .hbm, ⟨70, _⟩ => ⟨S256x256, .i32⟩
  | .hbm, ⟨71, _⟩ => ⟨S256x256, .i1⟩
  | .hbm, ⟨72, _⟩ => ⟨S256x256, .f32⟩
  | .hbm, ⟨73, _⟩ => ⟨S256x256, .bf16⟩
  | .hbm, ⟨74, _⟩ => ⟨S8x2048x768, .f32⟩
  | .hbm, ⟨75, _⟩ => ⟨S8x2048x768, .f32⟩
  | .hbm, ⟨76, _⟩ => ⟨S8x2048x256, .bf16⟩
  | .hbm, ⟨77, _⟩ => ⟨S8x2048x896, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1x1024x2944, .bf16⟩
  | .local _ .vmem, ⟨6, _⟩ => ⟨S4x256, .f32⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x256, .bf16⟩
  | .local _ .vmem, ⟨15, _⟩ => ⟨S1x512x768, .f32⟩
  | .local _ .vmem, ⟨16, _⟩ => ⟨S1x512x768, .f32⟩
  | .local _ .vmem, ⟨17, _⟩ => ⟨S1x512x768, .f32⟩
  | .local _ .vmem, ⟨18, _⟩ => ⟨S1x512x768, .f32⟩
  | .local _ .vmem, ⟨19, _⟩ => ⟨S1x512x256, .bf16⟩
  | .local _ .vmem, ⟨20, _⟩ => ⟨S1x512x256, .bf16⟩
  | .local _ .vmem, ⟨21, _⟩ => ⟨S1x512x896, .f32⟩
  | .local _ .vmem, ⟨22, _⟩ => ⟨S1x512x896, .f32⟩
  | .local _ .vmem, ⟨23, _⟩ => ⟨S8x256, .f32⟩
  | .local _ .vmem, ⟨24, _⟩ => ⟨S8x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_1 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_0 : Ref sig .tc := ⟨.hbm, 63, rfl⟩
abbrev main_call0_v12 : Ref sig .tc := ⟨.hbm, 64, rfl⟩
abbrev main_call0_v13 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43_0 : Ref sig .tc := ⟨.hbm, 74, rfl⟩
abbrev main_v43_1 : Ref sig .tc := ⟨.hbm, 75, rfl⟩
abbrev main_v43_2 : Ref sig .tc := ⟨.hbm, 76, rfl⟩
abbrev main_v43_3 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x896 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S8x2048x1024 : Shape := ⟨3, ![8, 2048, 1024]⟩
abbrev S8x6144 : Shape := ⟨2, ![8, 6144]⟩
abbrev S1024 : Shape := ⟨1, ![1024]⟩
abbrev S4x1024x2944 : Shape := ⟨3, ![4, 1024, 2944]⟩
abbrev S4x256 : Shape := ⟨2, ![4, 256]⟩
abbrev S256 : Shape := ⟨1, ![256]⟩
abbrev S4x64x64 : Shape := ⟨3, ![4, 64, 64]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2944 : Shape := ⟨3, ![1, 1024, 2944]⟩
abbrev S1024x2944 : Shape := ⟨2, ![1024, 2944]⟩
abbrev S8x2048x2944 : Shape := ⟨3, ![8, 2048, 2944]⟩
abbrev S8x2048x768 : Shape := ⟨3, ![8, 2048, 768]⟩
abbrev S8x2048x512 : Shape := ⟨3, ![8, 2048, 512]⟩
abbrev S8x2048x896 : Shape := ⟨3, ![8, 2048, 896]⟩
abbrev S8x2048x256 : Shape := ⟨3, ![8, 2048, 256]⟩
abbrev S8x2051x256 : Shape := ⟨3, ![8, 2051, 256]⟩
abbrev S1x256 : Shape := ⟨2, ![1, 256]⟩
abbrev S1x1x256 : Shape := ⟨3, ![1, 1, 256]⟩
abbrev S8x2048x4x64 : Shape := ⟨4, ![8, 2048, 4, 64]⟩
abbrev S4x64x8x2048 : Shape := ⟨4, ![4, 64, 8, 2048]⟩
abbrev S2048 : Shape := ⟨1, ![2048]⟩
abbrev S1x2048x1 : Shape := ⟨3, ![1, 2048, 1]⟩
abbrev S8x256 : Shape := ⟨2, ![8, 256]⟩
abbrev S2048x8x256 : Shape := ⟨3, ![2048, 8, 256]⟩
abbrev S1x8x256 : Shape := ⟨3, ![1, 8, 256]⟩
abbrev S8x2048x4 : Shape := ⟨3, ![8, 2048, 4]⟩
abbrev S8x2048x4x1 : Shape := ⟨4, ![8, 2048, 4, 1]⟩
abbrev S4x64 : Shape := ⟨2, ![4, 64]⟩
abbrev S1x1x4x64 : Shape := ⟨4, ![1, 1, 4, 64]⟩

abbrev nBuf : Space → Nat
  | .hbm => 268
  | .vmem => 0
  | .smem => 0
  | _ => 0

abbrev hbmTy0_0 (i : Nat) : BufTy := match i % 128 with
  | 0 => ⟨S8x2048x1024, .f32⟩
  | 1 => ⟨S8x6144, .f32⟩
  | 2 => ⟨S1024, .f32⟩
  | 3 => ⟨S4x1024x2944, .f32⟩
  | 4 => ⟨S4x256, .f32⟩
  | 5 => ⟨S256, .f32⟩
  | 6 => ⟨S4x64x64, .f32⟩
  | 7 => ⟨S256, .f32⟩
  | 8 => ⟨S4x64x64, .f32⟩
  | 9 => ⟨S256, .f32⟩
  | 10 => ⟨S256, .f32⟩
  | 11 => ⟨S256, .f32⟩
  | 12 => ⟨S8x1x6144, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x2048x1024, .f32⟩
  | 20 => ⟨S_, .f32⟩
  | 21 => ⟨S8x2048, .f32⟩
  | 22 => ⟨S8x2048x1, .f32⟩
  | 23 => ⟨S_, .f32⟩
  | 24 => ⟨S8x2048x1, .f32⟩
  | 25 => ⟨S8x2048x1, .f32⟩
  | 26 => ⟨S_, .f32⟩
  | 27 => ⟨S8x2048x1, .f32⟩
  | 28 => ⟨S8x2048x1, .f32⟩
  | 29 => ⟨S8x2048x1, .f32⟩
  | 30 => ⟨S8x2048x1024, .f32⟩
  | 31 => ⟨S8x2048x1024, .f32⟩
  | 32 => ⟨S1x1x1024, .f32⟩
  | 33 => ⟨S8x2048x1024, .f32⟩
  | 34 => ⟨S8x2048x1024, .f32⟩
  | 35 => ⟨S_, .f32⟩
  | 36 => ⟨S8x1x1024, .f32⟩
  | 37 => ⟨S8x1x1024, .f32⟩
  | 38 => ⟨S8x2048x1024, .f32⟩
  | 39 => ⟨S8x2048x1024, .f32⟩
  | 40 => ⟨S8x2048x1024, .f32⟩
  | 41 => ⟨S8x2048x1024, .f32⟩
  | 42 => ⟨S1x1024x2944, .f32⟩
  | 43 => ⟨S1024x2944, .f32⟩
  | 44 => ⟨S8x2048x2944, .f32⟩
  | 45 => ⟨S8x2048x768, .f32⟩
  | 46 => ⟨S8x2048x768, .f32⟩
  | 47 => ⟨S8x2048x512, .f32⟩
  | 48 => ⟨S8x2048x896, .f32⟩
  | 49 => ⟨S8x2048x256, .f32⟩
  | 50 => ⟨S8x2048x256, .f32⟩
  | 51 => ⟨S_, .i32⟩
  | 52 => ⟨S_, .f32⟩
  | 53 => ⟨S8x2051x256, .f32⟩
  | 54 => ⟨S1x256, .f32⟩
  | 55 => ⟨S256, .f32⟩
  | 56 => ⟨S8x2048x256, .f32⟩
  | 57 => ⟨S1x1x256, .f32⟩
  | 58 => ⟨S8x2048x256, .f32⟩
  | 59 => ⟨S8x2048x256, .f32⟩
  | 60 => ⟨S_, .f32⟩
  | 61 => ⟨S8x2048x256, .f32⟩
  | 62 => ⟨S8x2048x256, .f32⟩
  | 63 => ⟨S1x256, .f32⟩
  | 64 => ⟨S256, .f32⟩
  | 65 => ⟨S8x2048x256, .f32⟩
  | 66 => ⟨S1x1x256, .f32⟩
  | 67 => ⟨S8x2048x256, .f32⟩
  | 68 => ⟨S8x2048x256, .f32⟩
  | 69 => ⟨S8x2048x256, .f32⟩
  | 70 => ⟨S1x256, .f32⟩
  | 71 => ⟨S256, .f32⟩
  | 72 => ⟨S8x2048x256, .f32⟩
  | 73 => ⟨S1x1x256, .f32⟩
  | 74 => ⟨S8x2048x256, .f32⟩
  | 75 => ⟨S8x2048x256, .f32⟩
  | 76 => ⟨S8x2048x256, .f32⟩
  | 77 => ⟨S1x256, .f32⟩
  | 78 => ⟨S256, .f32⟩
  | 79 => ⟨S8x2048x256, .f32⟩
  | 80 => ⟨S1x1x256, .f32⟩
  | 81 => ⟨S8x2048x256, .f32⟩
  | 82 => ⟨S8x2048x256, .f32⟩
  | 83 => ⟨S8x2048x256, .f32⟩
  | 84 => ⟨S1x1x256, .f32⟩
  | 85 => ⟨S8x2048x256, .f32⟩
  | 86 => ⟨S8x2048x256, .f32⟩
  | 87 => ⟨S8x2048x4x64, .f32⟩
  | 88 => ⟨S4x64x8x2048, .f32⟩
  | 89 => ⟨S8x2048x4x64, .f32⟩
  | 90 => ⟨S8x2048x256, .f32⟩
  | 91 => ⟨S1x1x256, .f32⟩
  | 92 => ⟨S8x2048x256, .f32⟩
  | 93 => ⟨S8x2048x256, .f32⟩
  | 94 => ⟨S8x2048x256, .f32⟩
  | 95 => ⟨S8x2048x256, .f32⟩
  | 96 => ⟨S_, .f32⟩
  | 97 => ⟨S8x2048x256, .f32⟩
  | 98 => ⟨S8x2048x256, .f32⟩
  | 99 => ⟨S_, .f32⟩
  | 100 => ⟨S8x2048x256, .f32⟩
  | 101 => ⟨S8x2048x256, .f32⟩
  | 102 => ⟨S4x64x8x2048, .f32⟩
  | 103 => ⟨S8x2048x4x64, .f32⟩
  | 104 => ⟨S8x2048x256, .f32⟩
  | 105 => ⟨S1x1x256, .f32⟩
  | 106 => ⟨S8x2048x256, .f32⟩
  | 107 => ⟨S8x2048x256, .f32⟩
  | 108 => ⟨S8x2048x256, .f32⟩
  | 109 => ⟨S8x2048x256, .f32⟩
  | 110 => ⟨S_, .f32⟩
  | 111 => ⟨S8x2048x256, .f32⟩
  | 112 => ⟨S8x2048x256, .f32⟩
  | 113 => ⟨S_, .f32⟩
  | 114 => ⟨S8x2048x256, .f32⟩
  | 115 => ⟨S8x2048x256, .f32⟩
  | 116 => ⟨S_, .f32⟩
  | 117 => ⟨S8x2048x256, .f32⟩
  | 118 => ⟨S8x2048x256, .f32⟩
  | 119 => ⟨S256, .f32⟩
  | 120 => ⟨S_, .f32⟩
  | 121 => ⟨S256, .f32⟩
  | 122 => ⟨S256, .f32⟩
  | 123 => ⟨S256, .f32⟩
  | 124 => ⟨S256, .f32⟩
  | 125 => ⟨S256, .i1⟩
  | 126 => ⟨S256, .f32⟩
  | 127 => ⟨S256, .f32⟩
  | _ => ⟨S8x2048x1024, .f32⟩

abbrev hbmTy0_1 (i : Nat) : BufTy := match i % 128 with
  | 0 => ⟨S256, .f32⟩
  | 1 => ⟨S256, .f32⟩
  | 2 => ⟨S256, .f32⟩
  | 3 => ⟨S256, .f32⟩
  | 4 => ⟨S256, .f32⟩
  | 5 => ⟨S256, .f32⟩
  | 6 => ⟨S1x1x256, .f32⟩
  | 7 => ⟨S8x2048x256, .f32⟩
  | 8 => ⟨S8x2048x256, .f32⟩
  | 9 => ⟨S8x2048x256, .f32⟩
  | 10 => ⟨S_, .f32⟩
  | 11 => ⟨S8x2048x256, .f32⟩
  | 12 => ⟨S8x2048x256, .f32⟩
  | 13 => ⟨S8x2048x256, .f32⟩
  | 14 => ⟨S8x2048x256, .f32⟩
  | 15 => ⟨S8x2048x256, .f32⟩
  | 16 => ⟨S2048, .i32⟩
  | 17 => ⟨S_, .i32⟩
  | 18 => ⟨S2048, .i32⟩
  | 19 => ⟨S2048, .i1⟩
  | 20 => ⟨S1x2048x1, .i1⟩
  | 21 => ⟨S_, .f32⟩
  | 22 => ⟨S_, .f32⟩
  | 23 => ⟨S8x2048x256, .i1⟩
  | 24 => ⟨S8x2048x256, .f32⟩
  | 25 => ⟨S8x2048x256, .f32⟩
  | 26 => ⟨S8x2048x256, .f32⟩
  | 27 => ⟨S8x2048x256, .f32⟩
  | 28 => ⟨S_, .f32⟩
  | 29 => ⟨S8x256, .f32⟩
  | 30 => ⟨S8x2048x256, .f32⟩
  | 31 => ⟨S8x2048x256, .f32⟩
  | 32 => ⟨S_, .f32⟩
  | 33 => ⟨S8x2048x256, .f32⟩
  | 34 => ⟨S8x2048x256, .f32⟩
  | 35 => ⟨S8x2048x256, .f32⟩
  | 36 => ⟨S_, .f32⟩
  | 37 => ⟨S8x2048x256, .f32⟩
  | 38 => ⟨S8x2048x256, .f32⟩
  | 39 => ⟨S8x2048x256, .f32⟩
  | 40 => ⟨S_, .f32⟩
  | 41 => ⟨S8x2048x256, .f32⟩
  | 42 => ⟨S8x2048x256, .f32⟩
  | 43 => ⟨S_, .f32⟩
  | 44 => ⟨S8x2048x256, .f32⟩
  | 45 => ⟨S8x2048x256, .f32⟩
  | 46 => ⟨S8x2048x256, .f32⟩
  | 47 => ⟨S2048x8x256, .f32⟩
  | 48 => ⟨S2048x8x256, .f32⟩
  | 49 => ⟨S2048x8x256, .f32⟩
  | 50 => ⟨S_, .f32⟩
  | 51 => ⟨S2048x8x256, .f32⟩
  | 52 => ⟨S_, .i32⟩
  | 53 => ⟨S2048x8x256, .f32⟩
  | 54 => ⟨S2048x8x256, .f32⟩
  | 55 => ⟨S2048x8x256, .f32⟩
  | 56 => ⟨S_, .i32⟩
  | 57 => ⟨S8x256, .f32⟩
  | 58 => ⟨S2048x8x256, .f32⟩
  | 59 => ⟨S_, .i32⟩
  | 60 => ⟨S_, .i1⟩
  | 61 => ⟨S_, .i32⟩
  | 62 => ⟨S_, .i32⟩
  | 63 => ⟨S1x8x256, .f32⟩
  | 64 => ⟨S8x256, .f32⟩
  | 65 => ⟨S_, .i32⟩
  | 66 => ⟨S_, .i32⟩
  | 67 => ⟨S1x8x256, .f32⟩
  | 68 => ⟨S8x256, .f32⟩
  | 69 => ⟨S_, .i32⟩
  | 70 => ⟨S_, .i32⟩
  | 71 => ⟨S1x8x256, .f32⟩
  | 72 => ⟨S8x256, .f32⟩
  | 73 => ⟨S8x256, .f32⟩
  | 74 => ⟨S8x256, .f32⟩
  | 75 => ⟨S8x256, .f32⟩
  | 76 => ⟨S1x8x256, .f32⟩
  | 77 => ⟨S_, .i32⟩
  | 78 => ⟨S_, .i32⟩
  | 79 => ⟨S2048x8x256, .f32⟩
  | 80 => ⟨S_, .i32⟩
  | 81 => ⟨S_, .i32⟩
  | 82 => ⟨S8x2048x256, .f32⟩
  | 83 => ⟨S8x2048x4x64, .f32⟩
  | 84 => ⟨S8x2048x4x64, .f32⟩
  | 85 => ⟨S_, .f32⟩
  | 86 => ⟨S8x2048x4, .f32⟩
  | 87 => ⟨S8x2048x4x1, .f32⟩
  | 88 => ⟨S_, .f32⟩
  | 89 => ⟨S8x2048x4x1, .f32⟩
  | 90 => ⟨S8x2048x4x1, .f32⟩
  | 91 => ⟨S_, .f32⟩
  | 92 => ⟨S8x2048x4x1, .f32⟩
  | 93 => ⟨S8x2048x4x1, .f32⟩
  | 94 => ⟨S8x2048x4x1, .f32⟩
  | 95 => ⟨S8x2048x4x64, .f32⟩
  | 96 => ⟨S8x2048x4x64, .f32⟩
  | 97 => ⟨S4x64, .f32⟩
  | 98 => ⟨S1x1x4x64, .f32⟩
  | 99 => ⟨S8x2048x4x64, .f32⟩
  | 100 => ⟨S8x2048x4x64, .f32⟩
  | 101 => ⟨S8x2048x256, .f32⟩
  | 102 => ⟨S8x2048x256, .bf16⟩
  | 103 => ⟨S8x1x6144, .f32⟩
  | 104 => ⟨S8x1x1024, .f32⟩
  | 105 => ⟨S8x1x1024, .f32⟩
  | 106 => ⟨S8x1x1024, .f32⟩
  | 107 => ⟨S8x1x1024, .f32⟩
  | 108 => ⟨S8x1x1024, .f32⟩
  | 109 => ⟨S8x1x1024, .f32⟩
  | 110 => ⟨S8x2048x1024, .f32⟩
  | 111 => ⟨S_, .f32⟩
  | 112 => ⟨S8x2048, .f32⟩
  | 113 => ⟨S8x2048x1, .f32⟩
  | 114 => ⟨S_, .f32⟩
  | 115 => ⟨S8x2048x1, .f32⟩
  | 116 => ⟨S8x2048x1, .f32⟩
  | 117 => ⟨S_, .f32⟩
  | 118 => ⟨S8x2048x1, .f32⟩
  | 119 => ⟨S8x2048x1, .f32⟩
  | 120 => ⟨S8x2048x1, .f32⟩
  | 121 => ⟨S8x2048x1024, .f32⟩
  | 122 => ⟨S8x2048x1024, .f32⟩
  | 123 => ⟨S1x1x1024, .f32⟩
  | 124 => ⟨S8x2048x1024, .f32⟩
  | 125 => ⟨S8x2048x1024, .f32⟩
  | 126 => ⟨S_, .f32⟩
  | 127 => ⟨S8x1x1024, .f32⟩
  | _ => ⟨S8x2048x1024, .f32⟩

abbrev hbmTy0_2 (i : Nat) : BufTy := match i % 128 with
  | 0 => ⟨S8x1x1024, .f32⟩
  | 1 => ⟨S8x2048x1024, .f32⟩
  | 2 => ⟨S8x2048x1024, .f32⟩
  | 3 => ⟨S8x2048x1024, .f32⟩
  | 4 => ⟨S8x2048x1024, .f32⟩
  | 5 => ⟨S1x1024x2944, .f32⟩
  | 6 => ⟨S1024x2944, .f32⟩
  | 7 => ⟨S8x2048x2944, .f32⟩
  | 8 => ⟨S8x2048x768, .f32⟩
  | 9 => ⟨S8x2048x768, .f32⟩
  | 10 => ⟨S8x2048x512, .f32⟩
  | 11 => ⟨S8x2048x896, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c : Ref sig .tc := ⟨.hbm, 51, rfl⟩
abbrev main_call0_v0 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_4 : Ref sig .tc := ⟨.hbm, 96, rfl⟩
abbrev main_v77 : Ref sig .tc := ⟨.hbm, 97, rfl⟩
abbrev main_v78 : Ref sig .tc := ⟨.hbm, 98, rfl⟩
abbrev main_cst_5 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_6 : Ref sig .tc := ⟨.hbm, 110, rfl⟩
abbrev main_v89 : Ref sig .tc := ⟨.hbm, 111, rfl⟩
abbrev main_v90 : Ref sig .tc := ⟨.hbm, 112, rfl⟩
abbrev main_cst_7 : Ref sig .tc := ⟨.hbm, 113, rfl⟩
abbrev main_v91 : Ref sig .tc := ⟨.hbm, 114, rfl⟩
abbrev main_v92 : Ref sig .tc := ⟨.hbm, 115, rfl⟩
abbrev main_cst_8 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_call1_cst : Ref sig .tc := ⟨.hbm, 120, rfl⟩
abbrev main_call1_v0 : Ref sig .tc := ⟨.hbm, 121, rfl⟩
abbrev main_call1_v1 : Ref sig .tc := ⟨.hbm, 122, rfl⟩
abbrev main_call1_v2 : Ref sig .tc := ⟨.hbm, 123, rfl⟩
abbrev main_call1_v3 : Ref sig .tc := ⟨.hbm, 124, rfl⟩
abbrev main_call1_v4 : Ref sig .tc := ⟨.hbm, 125, rfl⟩
abbrev main_call1_v5 : Ref sig .tc := ⟨.hbm, 126, rfl⟩
abbrev main_call1_v6 : Ref sig .tc := ⟨.hbm, 127, rfl⟩
abbrev main_call1_v7 : Ref sig .tc := ⟨.hbm, 128, rfl⟩
abbrev main_call1_v8 : Ref sig .tc := ⟨.hbm, 129, rfl⟩
abbrev main_call1_v9 : Ref sig .tc := ⟨.hbm, 130, rfl⟩
abbrev main_call1_v10 : Ref sig .tc := ⟨.hbm, 131, rfl⟩
abbrev main_call1_v11 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_9 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_10 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_11 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_12 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_13 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_14 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_15 : Ref sig .tc := ⟨.hbm, 168, rfl⟩
abbrev main_v122 : Ref sig .tc := ⟨.hbm, 169, rfl⟩
abbrev main_v123 : Ref sig .tc := ⟨.hbm, 170, rfl⟩
abbrev main_cst_16 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_17 : Ref sig .tc := ⟨.hbm, 178, rfl⟩
abbrev main_v130 : Ref sig .tc := ⟨.hbm, 179, rfl⟩
abbrev main_c_18 : Ref sig .tc := ⟨.hbm, 180, rfl⟩
abbrev main_v131_0 : Ref sig .tc := ⟨.hbm, 181, rfl⟩
abbrev main_v131_1 : Ref sig .tc := ⟨.hbm, 182, rfl⟩
abbrev main_v131_2 : Ref sig .tc := ⟨.hbm, 183, rfl⟩
abbrev main_v131_3 : Ref sig .tc := ⟨.hbm, 184, rfl⟩
abbrev main_v131_4 : Ref sig .tc := ⟨.hbm, 185, rfl⟩
abbrev main_v131_5 : Ref sig .tc := ⟨.hbm, 186, rfl⟩
abbrev main_while0c_c_31 : Ref sig .tc := ⟨.hbm, 187, rfl⟩
abbrev main_while0c_v183 : Ref sig .tc := ⟨.hbm, 188, rfl⟩
abbrev main_while0b_call3_c : Ref sig .tc := ⟨.hbm, 189, rfl⟩
abbrev main_while0b_call3_c_0 : Ref sig .tc := ⟨.hbm, 190, rfl⟩
abbrev main_while0b_call3_v0 : Ref sig .tc := ⟨.hbm, 191, rfl⟩
abbrev main_while0b_v183 : Ref sig .tc := ⟨.hbm, 192, rfl⟩
abbrev main_while0b_call4_c : Ref sig .tc := ⟨.hbm, 193, rfl⟩
abbrev main_while0b_call4_c_0 : Ref sig .tc := ⟨.hbm, 194, rfl⟩
abbrev main_while0b_call4_v0 : Ref sig .tc := ⟨.hbm, 195, rfl⟩
abbrev main_while0b_v184 : Ref sig .tc := ⟨.hbm, 196, rfl⟩
abbrev main_while0b_call5_c : Ref sig .tc := ⟨.hbm, 197, rfl⟩
abbrev main_while0b_call5_c_0 : Ref sig .tc := ⟨.hbm, 198, rfl⟩
abbrev main_while0b_call5_v0 : Ref sig .tc := ⟨.hbm, 199, rfl⟩
abbrev main_while0b_v185 : Ref sig .tc := ⟨.hbm, 200, rfl⟩
abbrev main_while0b_v186 : Ref sig .tc := ⟨.hbm, 201, rfl⟩
abbrev main_while0b_v187 : Ref sig .tc := ⟨.hbm, 202, rfl⟩
abbrev main_while0b_v188 : Ref sig .tc := ⟨.hbm, 203, rfl⟩
abbrev main_while0b_call6_v0 : Ref sig .tc := ⟨.hbm, 204, rfl⟩
abbrev main_while0b_call6_c : Ref sig .tc := ⟨.hbm, 205, rfl⟩
abbrev main_while0b_call6_c_0 : Ref sig .tc := ⟨.hbm, 206, rfl⟩
abbrev main_while0b_v189 : Ref sig .tc := ⟨.hbm, 207, rfl⟩
abbrev main_while0b_c_31 : Ref sig .tc := ⟨.hbm, 208, rfl⟩
abbrev main_while0b_v190 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_cst_19 : Ref sig .tc := ⟨.hbm, 213, rfl⟩
abbrev main_v135 : Ref sig .tc := ⟨.hbm, 214, rfl⟩
abbrev main_v136 : Ref sig .tc := ⟨.hbm, 215, rfl⟩
abbrev main_cst_20 : Ref sig .tc := ⟨.hbm, 216, rfl⟩
abbrev main_v137 : Ref sig .tc := ⟨.hbm, 217, rfl⟩
abbrev main_v138 : Ref sig .tc := ⟨.hbm, 218, rfl⟩
abbrev main_cst_21 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_cst_22 : Ref sig .tc := ⟨.hbm, 239, rfl⟩
abbrev main_v158 : Ref sig .tc := ⟨.hbm, 240, rfl⟩
abbrev main_v159 : Ref sig .tc := ⟨.hbm, 241, rfl⟩
abbrev main_cst_23 : Ref sig .tc := ⟨.hbm, 242, rfl⟩
abbrev main_v160 : Ref sig .tc := ⟨.hbm, 243, rfl⟩
abbrev main_v161 : Ref sig .tc := ⟨.hbm, 244, rfl⟩
abbrev main_cst_24 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_cst_25 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8x2048x1024 : Shape := ⟨3, ![8, 2048, 1024]⟩
abbrev S8x2048x256 : Shape := ⟨3, ![8, 2048, 256]⟩
abbrev S8x6144 : Shape := ⟨2, ![8, 6144]⟩
abbrev S1024 : Shape := ⟨1, ![1024]⟩
abbrev S4x1024x1024 : Shape := ⟨3, ![4, 1024, 1024]⟩
abbrev S4x1024x5632 : Shape := ⟨3, ![4, 1024, 5632]⟩
abbrev S3x5632 : Shape := ⟨2, ![3, 5632]⟩
abbrev S5632 : Shape := ⟨1, ![5632]⟩
abbrev S4x2816x1024 : Shape := ⟨3, ![4, 2816, 1024]⟩
abbrev S8x1x6144 : Shape := ⟨3, ![8, 1, 6144]⟩
abbrev S1x1024 : Shape := ⟨2, ![1, 1024]⟩
abbrev S1x5632 : Shape := ⟨2, ![1, 5632]⟩
abbrev S1x512x1024 : Shape := ⟨3, ![1, 512, 1024]⟩
abbrev S1x512x256 : Shape := ⟨3, ![1, 512, 256]⟩
abbrev S1x1x6144 : Shape := ⟨3, ![1, 1, 6144]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S8x5632 : Shape := ⟨2, ![8, 5632]⟩
abbrev S1x6144 : Shape := ⟨2, ![1, 6144]⟩
abbrev S512x256 : Shape := ⟨2, ![512, 256]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S3x256 : Shape := ⟨2, ![3, 256]⟩
abbrev S8x256 : Shape := ⟨2, ![8, 256]⟩
abbrev S1x256 : Shape := ⟨2, ![1, 256]⟩
abbrev S520x256 : Shape := ⟨2, ![520, 256]⟩
abbrev S512x768 : Shape := ⟨2, ![512, 768]⟩
abbrev S1x768x1024 : Shape := ⟨3, ![1, 768, 1024]⟩
abbrev S768x1024 : Shape := ⟨2, ![768, 1024]⟩

abbrev nBuf : Space → Nat
  | .hbm => 19
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .bf16⟩
  | .hbm, ⟨2, _⟩ => ⟨S8x2048x256, .bf16⟩
  | .hbm, ⟨3, _⟩ => ⟨S8x2048x256, .bf16⟩
  | .hbm, ⟨4, _⟩ => ⟨S8x2048x256, .bf16⟩
  | .hbm, ⟨5, _⟩ => ⟨S8x6144, .f32⟩
  | .hbm, ⟨6, _⟩ => ⟨S1024, .f32⟩
  | .hbm, ⟨7, _⟩ => ⟨S4x1024x1024, .f32⟩
  | .hbm, ⟨8, _⟩ => ⟨S4x1024x5632, .f32⟩
  | .hbm, ⟨9, _⟩ => ⟨S3x5632, .f32⟩
  | .hbm, ⟨10, _⟩ => ⟨S5632, .f32⟩
  | .hbm, ⟨11, _⟩ => ⟨S4x2816x1024, .f32⟩
  | .hbm, ⟨12, _⟩ => ⟨S4x1024x1024, .bf16⟩
  | .hbm, ⟨13, _⟩ => ⟨S4x1024x5632, .bf16⟩
  | .hbm, ⟨14, _⟩ => ⟨S4x2816x1024, .bf16⟩
  | .hbm, ⟨15, _⟩ => ⟨S8x1x6144, .f32⟩
  | .hbm, ⟨16, _⟩ => ⟨S1x1024, .f32⟩
  | .hbm, ⟨17, _⟩ => ⟨S1x5632, .f32⟩
  | .hbm, ⟨18, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x1x6144, .f32⟩
  | .local _ .vmem, ⟨11, _⟩ => ⟨S1x1x6144, .f32⟩
  | .local _ .vmem, ⟨12, _⟩ => ⟨S1x1024, .f32⟩
  | .local _ .vmem, ⟨13, _⟩ => ⟨S1x1024x1024, .bf16⟩
  | .local _ .vmem, ⟨14, _⟩ => ⟨S1x1024x5632, .bf16⟩
  | .local _ .vmem, ⟨15, _⟩ => ⟨S3x5632, .f32⟩
  | .local _ .vmem, ⟨16, _⟩ => ⟨S1x5632, .f32⟩
  | .local _ .vmem, ⟨17, _⟩ => ⟨S1x2816x1024, .bf16⟩
  | .local _ .vmem, ⟨18, _⟩ => ⟨S1x512x1024, .f32⟩
  | .local _ .vmem, ⟨19, _⟩ => ⟨S1x512x1024, .f32⟩
  | .local _ .vmem, ⟨20, _⟩ => ⟨S8x5632, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8x2048x1024 : Shape := ⟨3, ![8, 2048, 1024]⟩
abbrev S8x2048x256 : Shape := ⟨3, ![8, 2048, 256]⟩
abbrev S8x6144 : Shape := ⟨2, ![8, 6144]⟩
abbrev S1024 : Shape := ⟨1, ![1024]⟩
abbrev S4x1024x1024 : Shape := ⟨3, ![4, 1024, 1024]⟩
abbrev S4x1024x5632 : Shape := ⟨3, ![4, 1024, 5632]⟩
abbrev S3x5632 : Shape := ⟨2, ![3, 5632]⟩
abbrev S5632 : Shape := ⟨1, ![5632]⟩
abbrev S4x2816x1024 : Shape := ⟨3, ![4, 2816, 1024]⟩
abbrev S8x1x6144 : Shape := ⟨3, ![8, 1, 6144]⟩
abbrev S8x1x1024 : Shape := ⟨3, ![8, 1, 1024]⟩
abbrev S1x1024x1024 : Shape := ⟨3, ![1, 1024, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x2048x5632 : Shape := ⟨3, ![8, 2048, 5632]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S1x2816x1024 : Shape := ⟨3, ![1, 2816, 1024]⟩
abbrev S2816x1024 : Shape := ⟨2, ![2816, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x256, .bf16⟩
  | .hbm, ⟨2, _⟩ => ⟨S8x2048x256, .bf16⟩
  | .hbm, ⟨3, _⟩ => ⟨S8x2048x256, .bf16⟩
  | .hbm, ⟨4, _⟩ => ⟨S8x2048x256, .bf16⟩
  | .hbm, ⟨5, _⟩ => ⟨S8x6144, .f32⟩
  | .hbm, ⟨6, _⟩ => ⟨S1024, .f32⟩
  | .hbm, ⟨7, _⟩ => ⟨S4x1024x1024, .f32⟩
  | .hbm, ⟨8, _⟩ => ⟨S4x1024x5632, .f32⟩
  | .hbm, ⟨9, _⟩ => ⟨S3x5632, .f32⟩
  | .hbm, ⟨10, _⟩ => ⟨S5632, .f32⟩
  | .hbm, ⟨11, _⟩ => ⟨S4x2816x1024, .f32⟩
  | .hbm, ⟨12, _⟩ => ⟨S8x1x6144, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x2048x1024, .bf16⟩
  | .hbm, ⟨20, _⟩ => ⟨S1x1024x1024, .f32⟩
  | .hbm, ⟨21, _⟩ => ⟨S1024x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S1x1024x5632, .f32⟩
  | .hbm, ⟨50, _⟩ => ⟨S1024x5632, .f32⟩
  | .hbm, ⟨51, _⟩ => ⟨S8x2048x5632, .f32⟩
  | .hbm, ⟨52, _⟩ => ⟨S_, .i32⟩
  | .hbm, ⟨53, _⟩ => ⟨S_, .f32⟩
  | .hbm, ⟨54, _⟩ => ⟨S8x2050x5632, .f32⟩
  | .hbm, ⟨55, _⟩ => ⟨S1x5632, .f32⟩
  | .hbm, ⟨56, _⟩ => ⟨S5632, .f32⟩
  | .hbm, ⟨57, _⟩ => ⟨S8x2048x5632, .f32⟩
  | .hbm, ⟨58, _⟩ => ⟨S1x1x5632, .f32⟩
  | .hbm, ⟨59, _⟩ => ⟨S8x2048x5632, .f32⟩
  | .hbm, ⟨60, _⟩ => ⟨S8x2048x5632, .f32⟩
  | .hbm, ⟨61, _⟩ => ⟨S_, .f32⟩
  | .hbm, ⟨62, _⟩ => ⟨S8x2048x5632, .f32⟩
  | .hbm, ⟨63, _⟩ => ⟨S8x2048x5632, .f32⟩
  | .hbm, ⟨64, _⟩ => ⟨S1x5632, .f32⟩
  | .hbm, ⟨65, _⟩ => ⟨S5632, .f32⟩
  | .hbm, ⟨66, _⟩ => ⟨S8x2048x5632, .f32⟩
  | .hbm, ⟨67, _⟩ => ⟨S1x1x5632, .f32⟩
  | .hbm, ⟨68, _⟩ => ⟨S8x2048x5632, .f32⟩
  | .hbm, ⟨69, _⟩ => ⟨S8x2048x5632, .f32⟩
  | .hbm, ⟨70, _⟩ => ⟨S8x2048x5632, .f32⟩
  | .hbm, ⟨71, _⟩ => ⟨S1x5632, .f32⟩
  | .hbm, ⟨72, _⟩ => ⟨S5632, .f32⟩
  | .hbm, ⟨73, _⟩ => ⟨S8x2048x5632, .f32⟩
  | .hbm, ⟨74, _⟩ => ⟨S1x1x5632, .f32⟩
  | .hbm, ⟨75, _⟩ => ⟨S8x2048x5632, .f32⟩
  | .hbm, ⟨76, _⟩ => ⟨S8x2048x5632, .f32⟩
  | .hbm, ⟨77, _⟩ => ⟨S8x2048x5632, .f32⟩
  | .hbm, ⟨78, _⟩ => ⟨S1x1x5632, .f32⟩
  | .hbm, ⟨79, _⟩ => ⟨S8x2048x5632, .f32⟩
  | .hbm, ⟨80, _⟩ => ⟨S8x2048x5632, .f32⟩
  | .hbm, ⟨81, _⟩ => ⟨S8x2048x2816, .f32⟩
  | .hbm, ⟨82, _⟩ => ⟨S8x2048x2816, .f32⟩
  | .hbm, ⟨83, _⟩ => ⟨S8x2048x2816, .f32⟩
  | .hbm, ⟨84, _⟩ => ⟨S8x2048x2816, .f32⟩
  | .hbm, ⟨85, _⟩ => ⟨S_, .f32⟩
  | .hbm, ⟨86, _⟩ => ⟨S8x2048x2816, .f32⟩
  | .hbm, ⟨87, _⟩ => ⟨S8x2048x2816, .f32⟩
  | .hbm, ⟨88, _⟩ => ⟨S_, .f32⟩
  | .hbm, ⟨89, _⟩ => ⟨S8x2048x2816, .f32⟩
  | .hbm, ⟨90, _⟩ => ⟨S8x2048x2816, .f32⟩
  | .hbm, ⟨91, _⟩ => ⟨S8x2048x2816, .f32⟩
  | .hbm, ⟨92, _⟩ => ⟨S8x2048x2816, .f32⟩
  | .hbm, ⟨93, _⟩ => ⟨S1x2816x1024, .f32⟩
  | .hbm, ⟨94, _⟩ => ⟨S2816x1024, .f32⟩
  | .hbm, ⟨95, _⟩ => ⟨S8x2048x1024, .f32⟩
  | .hbm, ⟨96, _⟩ => ⟨S8x2048x1024, .f32⟩
  | .hbm, ⟨97, _⟩ => ⟨S8x2048x1024, .f32⟩
  | .hbm, ⟨98, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c : Ref sig .tc := ⟨.hbm, 52, rfl⟩
abbrev main_call0_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_3 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== Kernel3.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x1024x6144, .f32⟩
  | .hbm, ⟨29, _⟩ => ⟨S1024x6144, .f32⟩
  | .hbm, ⟨30, _⟩ => ⟨S8x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S8x6144, .f32⟩
  | .hbm, ⟨35, _⟩ => ⟨S8x6144, .f32⟩
  | .hbm, ⟨36, _⟩ => ⟨S1x1024x6144, .f32⟩
  | .hbm, ⟨37, _⟩ => ⟨S1024x6144, .f32⟩
  | .hbm, ⟨38, _⟩ => ⟨S8x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S8x6144, .f32⟩
  | .hbm, ⟨43, _⟩ => ⟨S8x6144, .f32⟩
  | .hbm, ⟨44, _⟩ => ⟨S1x8x6144, .f32⟩
  | .hbm, ⟨45, _⟩ => ⟨S1x8x6144, .f32⟩
  | .hbm, ⟨46, _⟩ => ⟨S1x8x6144, .f32⟩
  | .hbm, ⟨47, _⟩ => ⟨S1x8x6144, .f32⟩
  | .hbm, ⟨48, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel4.lean ====
abbrev S8x2048x768 : Shape := ⟨3, ![8, 2048, 768]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S8x2048x256 : Shape := ⟨3, ![8, 2048, 256]⟩
abbrev S1x2048x768 : Shape := ⟨3, ![1, 2048, 768]⟩
abbrev S1x256x256 : Shape := ⟨3, ![1, 256, 256]⟩

abbrev nBuf : Space → Nat
  | .hbm => 38
  | .vmem => 7
  | .smem => 0
  | _ => 0

abbrev bufTy : (tb : Table) → Fin (tcTables nBuf tb) → BufTy
  | .hbm, ⟨0, _⟩ => ⟨S8x2048x768, .f32⟩
  | .hbm, ⟨1, _⟩ => ⟨S256, .f32⟩
  | .hbm, ⟨2, _⟩ => ⟨S256, .i32⟩
  | .hbm, ⟨3, _⟩ => ⟨S256x1, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .f32⟩
  | .hbm, ⟨9, _⟩ => ⟨S256x256, .bf16⟩
  | .hbm, ⟨10, _⟩ => ⟨S1x256, .f32⟩
  | .hbm, ⟨11, _⟩ => ⟨S256, .i32⟩
  | .hbm, ⟨12, _⟩ => ⟨S_, .i32⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S256, .i1⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S256x1, .i32⟩
  | .hbm, ⟨31, _⟩ => ⟨S1x256, .i32⟩
  | .hbm, ⟨32, _⟩ => ⟨S256x256, .i32⟩
  | .hbm, ⟨33, _⟩ => ⟨S256x256, .i32⟩
  | .hbm, ⟨34, _⟩ => ⟨S256x256, .i1⟩
  | .hbm, ⟨35, _⟩ => ⟨S256x256, .f32⟩
  | .hbm, ⟨36, _⟩ => ⟨S256x256, .bf16⟩
  | .hbm, ⟨37, _⟩ => ⟨S8x2048x256, .bf16⟩
  | .local _ .vmem, ⟨0, _⟩ => ⟨S1x2048x768, .f32⟩
  | .local _ .vmem, ⟨1, _⟩ => ⟨S1x2048x768, .f32⟩
  | .local _ .vmem, ⟨2, _⟩ => ⟨S1x256, .f32⟩
  | .local _ .vmem, ⟨3, _⟩ => ⟨S256x256, .bf16⟩
  | .local _ .vmem, ⟨4, _⟩ => ⟨S256x256, .bf16⟩
  | .local _ .vmem, ⟨5, _⟩ => ⟨S1x256x256, .bf16⟩
  | .local _ .vmem, ⟨6, _⟩ => ⟨S1x256x256, .bf16⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  let c0_0 : Index := 0#32
  ![0, v2.toNat, 0]
def k0_off2 (i : grid0.Coords) : Fin 3 → Nat :=
  let c0_6 : Index := 0#32
  let arg1 : BitVec 32 := BitVec.ofNat 32 (i 1).val
  let c256_i32 : BitVec 32 := 256#32
  let v0 : BitVec 32 := Scalar.muli arg1 c256_i32
  let v1 : BitVec 32 := v0
  let v25 : Index := Scalar.indexCast v1
  let c256 : Index := 256#32
  ![0, v25.toNat, 256]
def k0_off3 (i : grid0.Coords) : Fin 3 → Nat :=
  let c0_15 : Index := 0#32
  let arg1 : BitVec 32 := BitVec.ofNat 32 (i 1).val
  let c256_i32 : BitVec 32 := 256#32
  let v0 : BitVec 32 := Scalar.muli arg1 c256_i32
  let v1 : BitVec 32 := v0
  let v57 : Index := Scalar.indexCast v1
  let c512 : Index := 512#32
  ![0, v57.toNat, 512]
@[reducible] def k0_t1_loop (i : grid0.Coords) : Scf.Loop 32 :=
  let c0_i32_18 : BitVec 32 := 0#32
  let arg1 : BitVec 32 := BitVec.ofNat 32 (i 1).val
  let v70 : BitVec 32 := Scalar.subi arg1 c0_i32_18
  let c1_i32 : BitVec 32 := 1#32
  let v72 : BitVec 32 := Scalar.divsi v70 c1_i32
  let v73 : BitVec 32 := Scalar.muli v72 c1_i32
  let v74 : BitVec 32 := Scalar.addi c0_i32_18 v73
  let c1_i32_19 : BitVec 32 := 1#32
  ⟨c0_i32_18, v74, c1_i32_19⟩
def k0_mult2 (i : grid0.Coords) (k0_t1 : Fin (k0_t1_loop i).trips) : BitVec 32 :=
  let arg1 : BitVec 32 := BitVec.ofNat 32 (i 1).val
  let c1_i32_96 : BitVec 32 := 1#32
  let v293 : BitVec 32 := Scalar.subi arg1 c1_i32_96
  let c0_i32_18 : BitVec 32 := 0#32
  let c1_i32_19 : BitVec 32 := 1#32
  let arg7 : BitVec 32 := Scf.iv c0_i32_18 c1_i32_19 k0_t1
  let v294 : BitVec 32 := Scalar.subi v293 arg7
  let c256_i32_97 : BitVec 32 := 256#32
  let v295 : BitVec 32 := Scalar.muli v294 c256_i32_97
  v295
def k0_off4 (i : grid0.Coords) (k0_t1 : Fin (k0_t1_loop i).trips) : Fin 3 → Nat :=
  let c0_98 : Index := 0#32
  let arg1 : BitVec 32 := BitVec.ofNat 32 (i 1).val
  let c1_i32_96 : BitVec 32 := 1#32
  let v293 : BitVec 32 := Scalar.subi arg1 c1_i32_96
  let c0_i32_18 : BitVec 32 := 0#32
  let c1_i32_19 : BitVec 32 := 1#32
  let arg7 : BitVec 32 := Scf.iv c0_i32_18 c1_i32_19 k0_t1
  let v294 : BitVec 32 := Scalar.subi v293 arg7
  let c256_i32_97 : BitVec 32 := 256#32
  let v295 : BitVec 32 := Scalar.muli v294 c256_i32_97
  let v296 : BitVec 32 := v295
  let v297 : Index := Scalar.indexCast v296
  let c256_99 : Index := 256#32
  ![0, v297.toNat, 256]
def k0_off5 (i : grid0.Coords) (k0_t1 : Fin (k0_t1_loop i).trips) : Fin 3 → Nat :=
  let c0_106 : Index := 0#32
  let arg1 : BitVec 32 := BitVec.ofNat 32 (i 1).val
  let c1_i32_96 : BitVec 32 := 1#32
  let v293 : BitVec 32 := Scalar.subi arg1 c1_i32_96
  let c0_i32_18 : BitVec 32 := 0#32
  let c1_i32_19 : BitVec 32 := 1#32
  let arg7 : BitVec 32 := Scf.iv c0_i32_18 c1_i32_19 k0_t1
  let v294 : BitVec 32 := Scalar.subi v293 arg7
  let c256_i32_97 : BitVec 32 := 256#32
  let v295 : BitVec 32 := Scalar.muli v294 c256_i32_97
  let v296 : BitVec 32 := v295
  let v325 : Index := Scalar.indexCast v296
  let c512_107 : Index := 512#32
  ![0, v325.toNat, 512]
@[reducible] def k0_t2_loop (i : grid0.Coords) : Scf.Loop 32 :=
  let c0_i32_18 : BitVec 32 := 0#32
  let arg1 : BitVec 32 := BitVec.ofNat 32 (i 1).val
  let v70 : BitVec 32 := Scalar.subi arg1 c0_i32_18
  let c1_i32 : BitVec 32 := 1#32
  let v72 : BitVec 32 := Scalar.divsi v70 c1_i32
  let v73 : BitVec 32 := Scalar.muli v72 c1_i32
  let v74 : BitVec 32 := Scalar.addi c0_i32_18 v73
  let v71 : BitVec 32 := Scalar.addi c0_i32_18 v70
  let c1_i32_20 : BitVec 32 := 1#32
  ⟨v74, v71, c1_i32_20⟩
def k0_mult3 (i : grid0.Coords) (k0_t2 : Fin (k0_t2_loop i).trips) : BitVec 32 :=
  let arg1 : BitVec 32 := BitVec.ofNat 32 (i 1).val
  let c1_i32_96 : BitVec 32 := 1#32
  let v293 : BitVec 32 := Scalar.subi arg1 c1_i32_96
  let c0_i32_18 : BitVec 32 := 0#32
  let v70 : BitVec 32 := Scalar.subi arg1 c0_i32_18
  let c1_i32 : BitVec 32 := 1#32
  let v72 : BitVec 32 := Scalar.divsi v70 c1_i32
  let v73 : BitVec 32 := Scalar.muli v72 c1_i32
  let v74 : BitVec 32 := Scalar.addi c0_i32_18 v73
  let c1_i32_20 : BitVec 32 := 1#32
  let arg7 : BitVec 32 := Scf.iv v74 c1_i32_20 k0_t2
  let v294 : BitVec 32 := Scalar.subi v293 arg7
  let c256_i32_97 : BitVec 32 := 256#32
  let v295 : BitVec 32 := Scalar.muli v294 c256_i32_97
  v295
def k0_off6 (i : grid0.Coords) (k0_t2 : Fin (k0_t2_loop i).trips) : Fin 3 → Nat :=
  let c0_98 : Index := 0#32
  let arg1 : BitVec 32 := BitVec.ofNat 32 (i 1).val
  let c1_i32_96 : BitVec 32 := 1#32
  let v293 : BitVec 32 := Scalar.subi arg1 c1_i32_96
  let c0_i32_18 : BitVec 32 := 0#32
  let v70 : BitVec 32 := Scalar.subi arg1 c0_i32_18
  let c1_i32 : BitVec 32 := 1#32
  let v72 : BitVec 32 := Scalar.divsi v70 c1_i32
  let v73 : BitVec 32 := Scalar.muli v72 c1_i32
  let v74 : BitVec 32 := Scalar.addi c0_i32_18 v73
  let c1_i32_20 : BitVec 32 := 1#32
  let arg7 : BitVec 32 := Scf.iv v74 c1_i32_20 k0_t2
  let v294 : BitVec 32 := Scalar.subi v293 arg7
  let c256_i32_97 : BitVec 32 := 256#32
  let v295 : BitVec 32 := Scalar.muli v294 c256_i32_97
  let v296 : BitVec 32 := v295
  let v297 : Index := Scalar.indexCast v296
  let c256_99 : Index := 256#32
  ![0, v297.toNat, 256]
def k0_off7 (i : grid0.Coords) (k0_t2 : Fin (k0_t2_loop i).trips) : Fin 3 → Nat :=
  let c0_106 : Index := 0#32
  let arg1 : BitVec 32 := BitVec.ofNat 32 (i 1).val
  let c1_i32_96 : BitVec 32 := 1#32
  let v293 : BitVec 32 := Scalar.subi arg1 c1_i32_96
  let c0_i32_18 : BitVec 32 := 0#32
  let v70 : BitVec 32 := Scalar.subi arg1 c0_i32_18
  let c1_i32 : BitVec 32 := 1#32
  let v72 : BitVec 32 := Scalar.divsi v70 c1_i32
  let v73 : BitVec 32 := Scalar.muli v72 c1_i32
  let v74 : BitVec 32 := Scalar.addi c0_i32_18 v73
  let c1_i32_20 : BitVec 32 := 1#32
  let arg7 : BitVec 32 := Scf.iv v74 c1_i32_20 k0_t2
  let v294 : BitVec 32 := Scalar.subi v293 arg7
  let c256_i32_97 : BitVec 32 := 256#32
  let v295 : BitVec 32 := Scalar.muli v294 c256_i32_97
  let v296 : BitVec 32 := v295
  let v325 : Index := Scalar.indexCast v296
  let c512_107 : Index := 512#32
  ![0, v325.toNat, 512]
@[reducible] def k0_t3_loop (i : grid0.Coords) : Scf.Loop 32 :=
  let c0_i32_38 : BitVec 32 := 0#32
  let arg1 : BitVec 32 := BitVec.ofNat 32 (i 1).val
  let v134 : BitVec 32 := Scalar.subi arg1 c0_i32_38
  let c1_i32_39 : BitVec 32 := 1#32
  let v136 : BitVec 32 := Scalar.divsi v134 c1_i32_39
  let v137 : BitVec 32 := Scalar.muli v136 c1_i32_39
  let v138 : BitVec 32 := Scalar.addi c0_i32_38 v137
  let c1_i32_40 : BitVec 32 := 1#32
  ⟨c0_i32_38, v138, c1_i32_40⟩
def k0_mult4 (i : grid0.Coords) (k0_t3 : Fin (k0_t3_loop i).trips) : BitVec 32 :=
  let arg1 : BitVec 32 := BitVec.ofNat 32 (i 1).val
  let c1_i32_96 : BitVec 32 := 1#32
  let v293 : BitVec 32 := Scalar.subi arg1 c1_i32_96
  let c0_i32_38 : BitVec 32 := 0#32
  let c1_i32_40 : BitVec 32 := 1#32
  let arg7 : BitVec 32 := Scf.iv c0_i32_38 c1_i32_40 k0_t3
  let v294 : BitVec 32 := Scalar.subi v293 arg7
  let c256_i32_97 : BitVec 32 := 256#32
  let v295 : BitVec 32 := Scalar.muli v294 c256_i32_97
  v295
def k0_off8 (i : grid0.Coords) (k0_t3 : Fin (k0_t3_loop i).trips) : Fin 3 → Nat :=
  let c0_98 : Index := 0#32
  let arg1 : BitVec 32 := BitVec.ofNat 32 (i 1).val
  let c1_i32_96 : BitVec 32 := 1#32
  let v293 : BitVec 32 := Scalar.subi arg1 c1_i32_96
  let c0_i32_38 : BitVec 32 := 0#32
  let c1_i32_40 : BitVec 32 := 1#32
  let arg7 : BitVec 32 := Scf.iv c0_i32_38 c1_i32_40 k0_t3
  let v294 : BitVec 32 := Scalar.subi v293 arg7
  let c256_i32_97 : BitVec 32 := 256#32
  let v295 : BitVec 32 := Scalar.muli v294 c256_i32_97
  let v296 : BitVec 32 := v295
  let v297 : Index := Scalar.indexCast v296
  let c256_99 : Index := 256#32
  ![0, v297.toNat, 256]
def k0_off9 (i : grid0.Coords) (k0_t3 : Fin (k0_t3_loop i).trips) : Fin 3 → Nat :=
  let c0_106 : Index := 0#32
  let arg1 : BitVec 32 := BitVec.ofNat 32 (i 1).val
  let c1_i32_96 : BitVec 32 := 1#32
  let v293 : BitVec 32 := Scalar.subi arg1 c1_i32_96
  let c0_i32_38 : BitVec 32 := 0#32
  let c1_i32_40 : BitVec 32 := 1#32
  let arg7 : BitVec 32 := Scf.iv c0_i32_38 c1_i32_40 k0_t3
  let v294 : BitVec 32 := Scalar.subi v293 arg7
  let c256_i32_97 : BitVec 32 := 256#32
  let v295 : BitVec 32 := Scalar.muli v294 c256_i32_97
  let v296 : BitVec 32 := v295
  let v325 : Index := Scalar.indexCast v296
  let c512_107 : Index := 512#32
  ![0, v325.toNat, 512]
@[reducible] def k0_t4_loop (i : grid0.Coords) : Scf.Loop 32 :=
  let c0_i32_38 : BitVec 32 := 0#32
  let arg1 : BitVec 32 := BitVec.ofNat 32 (i 1).val
  let v134 : BitVec 32 := Scalar.subi arg1 c0_i32_38
  let c1_i32_39 : BitVec 32 := 1#32
  let v136 : BitVec 32 := Scalar.divsi v134 c1_i32_39
  let v137 : BitVec 32 := Scalar.muli v136 c1_i32_39
  let v138 : BitVec 32 := Scalar.addi c0_i32_38 v137
  let v135 : BitVec 32 := Scalar.addi c0_i32_38 v134
  let c1_i32_41 : BitVec 32 := 1#32
  ⟨v138, v135, c1_i32_41⟩
def k0_mult5 (i : grid0.Coords) (k0_t4 : Fin (k0_t4_loop i).trips) : BitVec 32 :=
  let arg1 : BitVec 32 := BitVec.ofNat 32 (i 1).val
  let c1_i32_96 : BitVec 32 := 1#32
  let v293 : BitVec 32 := Scalar.subi arg1 c1_i32_96
  let c0_i32_38 : BitVec 32 := 0#32
  let v134 : BitVec 32 := Scalar.subi arg1 c0_i32_38
  let c1_i32_39 : BitVec 32 := 1#32
  let v136 : BitVec 32 := Scalar.divsi v134 c1_i32_39
  let v137 : BitVec 32 := Scalar.muli v136 c1_i32_39
  let v138 : BitVec 32 := Scalar.addi c0_i32_38 v137
  let c1_i32_41 : BitVec 32 := 1#32
  let arg7 : BitVec 32 := Scf.iv v138 c1_i32_41 k0_t4
  let v294 : BitVec 32 := Scalar.subi v293 arg7
  let c256_i32_97 : BitVec 32 := 256#32
  let v295 : BitVec 32 := Scalar.muli v294 c256_i32_97
  v295
def k0_off10 (i : grid0.Coords) (k0_t4 : Fin (k0_t4_loop i).trips) : Fin 3 → Nat :=
  let c0_98 : Index := 0#32
  let arg1 : BitVec 32 := BitVec.ofNat 32 (i 1).val
  let c1_i32_96 : BitVec 32 := 1#32
  let v293 : BitVec 32 := Scalar.subi arg1 c1_i32_96
  let c0_i32_38 : BitVec 32 := 0#32
  let v134 : BitVec 32 := Scalar.subi arg1 c0_i32_38
  let c1_i32_39 : BitVec 32 := 1#32
  let v136 : BitVec 32 := Scalar.divsi v134 c1_i32_39
  let v137 : BitVec 32 := Scalar.muli v136 c1_i32_39
  let v138 : BitVec 32 := Scalar.addi c0_i32_38 v137
  let c1_i32_41 : BitVec 32 := 1#32
  let arg7 : BitVec 32 := Scf.iv v138 c1_i32_41 k0_t4
  let v294 : BitVec 32 := Scalar.subi v293 arg7
  let c256_i32_97 : BitVec 32 := 256#32
  let v295 : BitVec 32 := Scalar.muli v294 c256_i32_97
  let v296 : BitVec 32 := v295
  let v297 : Index := Scalar.indexCast v296
  let c256_99 : Index := 256#32
  ![0, v297.toNat, 256]
def k0_off11 (i : grid0.Coords) (k0_t4 : Fin (k0_t4_loop i).trips) : Fin 3 → Nat :=
  let c0_106 : Index := 0#32
  let arg1 : BitVec 32 := BitVec.ofNat 32 (i 1).val
  let c1_i32_96 : BitVec 32 := 1#32
  let v293 : BitVec 32 := Scalar.subi arg1 c1_i32_96
  let c0_i32_38 : BitVec 32 := 0#32
  let v134 : BitVec 32 := Scalar.subi arg1 c0_i32_38
  let c1_i32_39 : BitVec 32 := 1#32
  let v136 : BitVec 32 := Scalar.divsi v134 c1_i32_39
  let v137 : BitVec 32 := Scalar.muli v136 c1_i32_39
  let v138 : BitVec 32 := Scalar.addi c0_i32_38 v137
  let c1_i32_41 : BitVec 32 := 1#32
  let arg7 : BitVec 32 := Scf.iv v138 c1_i32_41 k0_t4
  let v294 : BitVec 32 := Scalar.subi v293 arg7
  let c256_i32_97 : BitVec 32 := 256#32
  let v295 : BitVec 32 := Scalar.muli v294 c256_i32_97
  let v296 : BitVec 32 := v295
  let v325 : Index := Scalar.indexCast v296
  let c512_107 : Index := 512#32
  ![0, v325.toNat, 512]
@[reducible] def k0_t5_loop (i : grid0.Coords) : Scf.Loop 32 :=
  let c0_i32_59 : BitVec 32 := 0#32
  let arg1 : BitVec 32 := BitVec.ofNat 32 (i 1).val
  let v198 : BitVec 32 := Scalar.subi arg1 c0_i32_59
  let c1_i32_60 : BitVec 32 := 1#32
  let v200 : BitVec 32 := Scalar.divsi v198 c1_i32_60
  let v201 : BitVec 32 := Scalar.muli v200 c1_i32_60
  let v202 : BitVec 32 := Scalar.addi c0_i32_59 v201
  let c1_i32_61 : BitVec 32 := 1#32
  ⟨c0_i32_59, v202, c1_i32_61⟩
def k0_mult6 (i : grid0.Coords) (k0_t5 : Fin (k0_t5_loop i).trips) : BitVec 32 :=
  let arg1 : BitVec 32 := BitVec.ofNat 32 (i 1).val
  let c1_i32_96 : BitVec 32 := 1#32
  let v293 : BitVec 32 := Scalar.subi arg1 c1_i32_96
  let c0_i32_59 : BitVec 32 := 0#32
  let c1_i32_61 : BitVec 32 := 1#32
  let arg7 : BitVec 32 := Scf.iv c0_i32_59 c1_i32_61 k0_t5
  let v294 : BitVec 32 := Scalar.subi v293 arg7
  let c256_i32_97 : BitVec 32 := 256#32
  let v295 : BitVec 32 := Scalar.muli v294 c256_i32_97
  v295
def k0_off12 (i : grid0.Coords) (k0_t5 : Fin (k0_t5_loop i).trips) : Fin 3 → Nat :=
  let c0_98 : Index := 0#32
  let arg1 : BitVec 32 := BitVec.ofNat 32 (i 1).val
  let c1_i32_96 : BitVec 32 := 1#32
  let v293 : BitVec 32 := Scalar.subi arg1 c1_i32_96
  let c0_i32_59 : BitVec 32 := 0#32
  let c1_i32_61 : BitVec 32 := 1#32
  let arg7 : BitVec 32 := Scf.iv c0_i32_59 c1_i32_61 k0_t5
  let v294 : BitVec 32 := Scalar.subi v293 arg7
  let c256_i32_97 : BitVec 32 := 256#32
  let v295 : BitVec 32 := Scalar.muli v294 c256_i32_97
  let v296 : BitVec 32 := v295
  let v297 : Index := Scalar.indexCast v296
  let c256_99 : Index := 256#32
  ![0, v297.toNat, 256]
def k0_off13 (i : grid0.Coords) (k0_t5 : Fin (k0_t5_loop i).trips) : Fin 3 → Nat :=
  let c0_106 : Index := 0#32
  let arg1 : BitVec 32 := BitVec.ofNat 32 (i 1).val
  let c1_i32_96 : BitVec 32 := 1#32
  let v293 : BitVec 32 := Scalar.subi arg1 c1_i32_96
  let c0_i32_59 : BitVec 32 := 0#32
  let c1_i32_61 : BitVec 32 := 1#32
  let arg7 : BitVec 32 := Scf.iv c0_i32_59 c1_i32_61 k0_t5
  let v294 : BitVec 32 := Scalar.subi v293 arg7
  let c256_i32_97 : BitVec 32 := 256#32
  let v295 : BitVec 32 := Scalar.muli v294 c256_i32_97
  let v296 : BitVec 32 := v295
  let v325 : Index := Scalar.indexCast v296
  let c512_107 : Index := 512#32
  ![0, v325.toNat, 512]
@[reducible] def k0_t6_loop (i : grid0.Coords) : Scf.Loop 32 :=
  let c0_i32_59 : BitVec 32 := 0#32
  let arg1 : BitVec 32 := BitVec.ofNat 32 (i 1).val
  let v198 : BitVec 32 := Scalar.subi arg1 c0_i32_59
  let c1_i32_60 : BitVec 32 := 1#32
  let v200 : BitVec 32 := Scalar.divsi v198 c1_i32_60
  let v201 : BitVec 32 := Scalar.muli v200 c1_i32_60
  let v202 : BitVec 32 := Scalar.addi c0_i32_59 v201
  let v199 : BitVec 32 := Scalar.addi c0_i32_59 v198
  let c1_i32_62 : BitVec 32 := 1#32
  ⟨v202, v199, c1_i32_62⟩
def k0_mult7 (i : grid0.Coords) (k0_t6 : Fin (k0_t6_loop i).trips) : BitVec 32 :=
  let arg1 : BitVec 32 := BitVec.ofNat 32 (i 1).val
  let c1_i32_96 : BitVec 32 := 1#32
  let v293 : BitVec 32 := Scalar.subi arg1 c1_i32_96
  let c0_i32_59 : BitVec 32 := 0#32
  let v198 : BitVec 32 := Scalar.subi arg1 c0_i32_59
  let c1_i32_60 : BitVec 32 := 1#32
  let v200 : BitVec 32 := Scalar.divsi v198 c1_i32_60
  let v201 : BitVec 32 := Scalar.muli v200 c1_i32_60
  let v202 : BitVec 32 := Scalar.addi c0_i32_59 v201
  let c1_i32_62 : BitVec 32 := 1#32
  let arg7 : BitVec 32 := Scf.iv v202 c1_i32_62 k0_t6
  let v294 : BitVec 32 := Scalar.subi v293 arg7
  let c256_i32_97 : BitVec 32 := 256#32
  let v295 : BitVec 32 := Scalar.muli v294 c256_i32_97
  v295
def k0_off14 (i : grid0.Coords) (k0_t6 : Fin (k0_t6_loop i).trips) : Fin 3 → Nat :=
  let c0_98 : Index := 0#32
  let arg1 : BitVec 32 := BitVec.ofNat 32 (i 1).val
  let c1_i32_96 : BitVec 32 := 1#32
  let v293 : BitVec 32 := Scalar.subi arg1 c1_i32_96
  let c0_i32_59 : BitVec 32 := 0#32
  let v198 : BitVec 32 := Scalar.subi arg1 c0_i32_59
  let c1_i32_60 : BitVec 32 := 1#32
  let v200 : BitVec 32 := Scalar.divsi v198 c1_i32_60
  let v201 : BitVec 32 := Scalar.muli v200 c1_i32_60
  let v202 : BitVec 32 := Scalar.addi c0_i32_59 v201
  let c1_i32_62 : BitVec 32 := 1#32
  let arg7 : BitVec 32 := Scf.iv v202 c1_i32_62 k0_t6
  let v294 : BitVec 32 := Scalar.subi v293 arg7
  let c256_i32_97 : BitVec 32 := 256#32
  let v295 : BitVec 32 := Scalar.muli v294 c256_i32_97
  let v296 : BitVec 32 := v295
  let v297 : Index := Scalar.indexCast v296
  let c256_99 : Index := 256#32
  ![0, v297.toNat, 256]
def k0_off15 (i : grid0.Coords) (k0_t6 : Fin (k0_t6_loop i).trips) : Fin 3 → Nat :=
  let c0_106 : Index := 0#32
  let arg1 : BitVec 32 := BitVec.ofNat 32 (i 1).val
  let c1_i32_96 : BitVec 32 := 1#32
  let v293 : BitVec 32 := Scalar.subi arg1 c1_i32_96
  let c0_i32_59 : BitVec 32 := 0#32
  let v198 : BitVec 32 := Scalar.subi arg1 c0_i32_59
  let c1_i32_60 : BitVec 32 := 1#32
  let v200 : BitVec 32 := Scalar.divsi v198 c1_i32_60
  let v201 : BitVec 32 := Scalar.muli v200 c1_i32_60
  let v202 : BitVec 32 := Scalar.addi c0_i32_59 v201
  let c1_i32_62 : BitVec 32 := 1#32
  let arg7 : BitVec 32 := Scf.iv v202 c1_i32_62 k0_t6
  let v294 : BitVec 32 := Scalar.subi v293 arg7
  let c256_i32_97 : BitVec 32 := 256#32
  let v295 : BitVec 32 := Scalar.muli v294 c256_i32_97
  let v296 : BitVec 32 := v295
  let v325 : Index := Scalar.indexCast v296
  let c512_107 : Index := 512#32
  ![0, v325.toNat, 512]
@[reducible] def k0_t7_loop (i : grid0.Coords) : Scf.Loop 32 :=
  let c0_i32_81 : BitVec 32 := 0#32
  let arg1 : BitVec 32 := BitVec.ofNat 32 (i 1).val
  let v262 : BitVec 32 := Scalar.subi arg1 c0_i32_81
  let c1_i32_82 : BitVec 32 := 1#32
  let v264 : BitVec 32 := Scalar.divsi v262 c1_i32_82
  let v265 : BitVec 32 := Scalar.muli v264 c1_i32_82
  let v266 : BitVec 32 := Scalar.addi c0_i32_81 v265
  let c1_i32_83 : BitVec 32 := 1#32
  ⟨c0_i32_81, v266, c1_i32_83⟩
def k0_mult8 (i : grid0.Coords) (k0_t7 : Fin (k0_t7_loop i).trips) : BitVec 32 :=
  let arg1 : BitVec 32 := BitVec.ofNat 32 (i 1).val
  let c1_i32_96 : BitVec 32 := 1#32
  let v293 : BitVec 32 := Scalar.subi arg1 c1_i32_96
  let c0_i32_81 : BitVec 32 := 0#32
  let c1_i32_83 : BitVec 32 := 1#32
  let arg7 : BitVec 32 := Scf.iv c0_i32_81 c1_i32_83 k0_t7
  let v294 : BitVec 32 := Scalar.subi v293 arg7
  let c256_i32_97 : BitVec 32 := 256#32
  let v295 : BitVec 32 := Scalar.muli v294 c256_i32_97
  v295
def k0_off16 (i : grid0.Coords) (k0_t7 : Fin (k0_t7_loop i).trips) : Fin 3 → Nat :=
  let c0_98 : Index := 0#32
  let arg1 : BitVec 32 := BitVec.ofNat 32 (i 1).val
  let c1_i32_96 : BitVec 32 := 1#32
  let v293 : BitVec 32 := Scalar.subi arg1 c1_i32_96
  let c0_i32_81 : BitVec 32 := 0#32
  let c1_i32_83 : BitVec 32 := 1#32
  let arg7 : BitVec 32 := Scf.iv c0_i32_81 c1_i32_83 k0_t7
  let v294 : BitVec 32 := Scalar.subi v293 arg7
  let c256_i32_97 : BitVec 32 := 256#32
  let v295 : BitVec 32 := Scalar.muli v294 c256_i32_97
  let v296 : BitVec 32 := v295
  let v297 : Index := Scalar.indexCast v296
  let c256_99 : Index := 256#32
  ![0, v297.toNat, 256]
def k0_off17 (i : grid0.Coords) (k0_t7 : Fin (k0_t7_loop i).trips) : Fin 3 → Nat :=
  let c0_106 : Index := 0#32
  let arg1 : BitVec 32 := BitVec.ofNat 32 (i 1).val
  let c1_i32_96 : BitVec 32 := 1#32
  let v293 : BitVec 32 := Scalar.subi arg1 c1_i32_96
  let c0_i32_81 : BitVec 32 := 0#32
  let c1_i32_83 : BitVec 32 := 1#32
  let arg7 : BitVec 32 := Scf.iv c0_i32_81 c1_i32_83 k0_t7
  let v294 : BitVec 32 := Scalar.subi v293 arg7
  let c256_i32_97 : BitVec 32 := 256#32
  let v295 : BitVec 32 := Scalar.muli v294 c256_i32_97
  let v296 : BitVec 32 := v295
  let v325 : Index := Scalar.indexCast v296
  let c512_107 : Index := 512#32
  ![0, v325.toNat, 512]
@[reducible] def k0_t8_loop (i : grid0.Coords) : Scf.Loop 32 :=
  let c0_i32_81 : BitVec 32 := 0#32
  let arg1 : BitVec 32 := BitVec.ofNat 32 (i 1).val
  let v262 : BitVec 32 := Scalar.subi arg1 c0_i32_81
  let c1_i32_82 : BitVec 32 := 1#32
  let v264 : BitVec 32 := Scalar.divsi v262 c1_i32_82
  let v265 : BitVec 32 := Scalar.muli v264 c1_i32_82
  let v266 : BitVec 32 := Scalar.addi c0_i32_81 v265
  let v263 : BitVec 32 := Scalar.addi c0_i32_81 v262
  let c1_i32_84 : BitVec 32 := 1#32
  ⟨v266, v263, c1_i32_84⟩
def k0_mult9 (i : grid0.Coords) (k0_t8 : Fin (k0_t8_loop i).trips) : BitVec 32 :=
  let arg1 : BitVec 32 := BitVec.ofNat 32 (i 1).val
  let c1_i32_96 : BitVec 32 := 1#32
  let v293 : BitVec 32 := Scalar.subi arg1 c1_i32_96
  let c0_i32_81 : BitVec 32 := 0#32
  let v262 : BitVec 32 := Scalar.subi arg1 c0_i32_81
  let c1_i32_82 : BitVec 32 := 1#32
  let v264 : BitVec 32 := Scalar.divsi v262 c1_i32_82
  let v265 : BitVec 32 := Scalar.muli v264 c1_i32_82
  let v266 : BitVec 32 := Scalar.addi c0_i32_81 v265
  let c1_i32_84 : BitVec 32 := 1#32
  let arg7 : BitVec 32 := Scf.iv v266 c1_i32_84 k0_t8
  let v294 : BitVec 32 := Scalar.subi v293 arg7
  let c256_i32_97 : BitVec 32 := 256#32
  let v295 : BitVec 32 := Scalar.muli v294 c256_i32_97
  v295
def k0_off18 (i : grid0.Coords) (k0_t8 : Fin (k0_t8_loop i).trips) : Fin 3 → Nat :=
  let c0_98 : Index := 0#32
  let arg1 : BitVec 32 := BitVec.ofNat 32 (i 1).val
  let c1_i32_96 : BitVec 32 := 1#32
  let v293 : BitVec 32 := Scalar.subi arg1 c1_i32_96
  let c0_i32_81 : BitVec 32 := 0#32
  let v262 : BitVec 32 := Scalar.subi arg1 c0_i32_81
  let c1_i32_82 : BitVec 32 := 1#32
  let v264 : BitVec 32 := Scalar.divsi v262 c1_i32_82
  let v265 : BitVec 32 := Scalar.muli v264 c1_i32_82
  let v266 : BitVec 32 := Scalar.addi c0_i32_81 v265
  let c1_i32_84 : BitVec 32 := 1#32
  let arg7 : BitVec 32 := Scf.iv v266 c1_i32_84 k0_t8
  let v294 : BitVec 32 := Scalar.subi v293 arg7
  let c256_i32_97 : BitVec 32 := 256#32
  let v295 : BitVec 32 := Scalar.muli v294 c256_i32_97
  let v296 : BitVec 32 := v295
  let v297 : Index := Scalar.indexCast v296
  let c256_99 : Index := 256#32
  ![0, v297.toNat, 256]
def k0_off19 (i : grid0.Coords) (k0_t8 : Fin (k0_t8_loop i).trips) : Fin 3 → Nat :=
  let c0_106 : Index := 0#32
  let arg1 : BitVec 32 := BitVec.ofNat 32 (i 1).val
  let c1_i32_96 : BitVec 32 := 1#32
  let v293 : BitVec 32 := Scalar.subi arg1 c1_i32_96
  let c0_i32_81 : BitVec 32 := 0#32
  let v262 : BitVec 32 := Scalar.subi arg1 c0_i32_81
  let c1_i32_82 : BitVec 32 := 1#32
  let v264 : BitVec 32 := Scalar.divsi v262 c1_i32_82
  let v265 : BitVec 32 := Scalar.muli v264 c1_i32_82
  let v266 : BitVec 32 := Scalar.addi c0_i32_81 v265
  let c1_i32_84 : BitVec 32 := 1#32
  let arg7 : BitVec 32 := Scf.iv v266 c1_i32_84 k0_t8
  let v294 : BitVec 32 := Scalar.subi v293 arg7
  let c256_i32_97 : BitVec 32 := 256#32
  let v295 : BitVec 32 := Scalar.muli v294 c256_i32_97
  let v296 : BitVec 32 := v295
  let v325 : Index := Scalar.indexCast v296
  let c512_107 : Index := 512#32
  ![0, v325.toNat, 512]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8x2048x768 : Shape := ⟨3, ![8, 2048, 768]⟩
abbrev S256 : Shape := ⟨1, ![256]⟩
abbrev S8x2048x256 : Shape := ⟨3, ![8, 2048, 256]⟩
abbrev S8x2048x4x64 : Shape := ⟨4, ![8, 2048, 4, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x2048x2048 : Shape := ⟨4, ![8, 4, 2048, 2048]⟩
abbrev S_ : Shape := ⟨0, ![]⟩
abbrev S8x4x64x2048 : Shape := ⟨4, ![8, 4, 64, 2048]⟩
abbrev S8x2048x4 : Shape := ⟨3, ![8, 2048, 4]⟩
abbrev S8x2048x4x1 : Shape := ⟨4, ![8, 2048, 4, 1]⟩
abbrev S4x64 : Shape := ⟨2, ![4, 64]⟩
abbrev S1x1x4x64 : Shape := ⟨4, ![1, 1, 4, 64]⟩

abbrev nBuf : Space → Nat
  | .hbm => 72
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S256, .f32⟩
  | .hbm, ⟨2, _⟩ => ⟨S8x2048x256, .f32⟩
  | .hbm, ⟨3, _⟩ => ⟨S8x2048x256, .f32⟩
  | .hbm, ⟨4, _⟩ => ⟨S8x2048x256, .f32⟩
  | .hbm, ⟨5, _⟩ => ⟨S8x2048x4x64, .f32⟩
  | .hbm, ⟨6, _⟩ => ⟨S8x2048x4x64, .f32⟩
  | .hbm, ⟨7, _⟩ => ⟨S8x2048x4x64, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S8x4x2048x2048, .f32⟩
  | .hbm, ⟨15, _⟩ => ⟨S_, .f32⟩
  | .hbm, ⟨16, _⟩ => ⟨S8x4x2048x2048, .f32⟩
  | .hbm, ⟨17, _⟩ => ⟨S8x4x2048x2048, .f32⟩
  | .hbm, ⟨18, _⟩ => ⟨S8x4x2048x2048, .f32⟩
  | .hbm, ⟨19, _⟩ => ⟨S_, .f32⟩
  | .hbm, ⟨20, _⟩ => ⟨S8x4x2048x2048, .f32⟩
  | .hbm, ⟨21, _⟩ => ⟨S8x4x2048x2048, .f32⟩
  | .hbm, ⟨22, _⟩ => ⟨S8x4x2048x2048, .f32⟩
  | .hbm, ⟨23, _⟩ => ⟨S8x4x2048x2048, .f32⟩
  | .hbm, ⟨24, _⟩ => ⟨S8x4x2048x2048, .i1⟩
  | .hbm, ⟨25, _⟩ => ⟨S8x4x2048x2048, .f32⟩
  | .hbm, ⟨26, _⟩ => ⟨S8x4x2048x2048, .f32⟩
  | .hbm, ⟨27, _⟩ => ⟨S8x4x2048x2048, .f32⟩
  | .hbm, ⟨28, _⟩ => ⟨S8x4x2048x2048, .f32⟩
  | .hbm, ⟨29, _⟩ => ⟨S8x4x2048x2048, .f32⟩
  | .hbm, ⟨30, _⟩ => ⟨S8x4x2048x2048, .f32⟩
  | .hbm, ⟨31, _⟩ => ⟨S8x4x2048x2048, .f32⟩
  | .hbm, ⟨32, _⟩ => ⟨S8x4x2048x2048, .f32⟩
  | .hbm, ⟨33, _⟩ => ⟨S8x4x2048x2048, .f32⟩
  | .hbm, ⟨34, _⟩ => ⟨S8x4x2048x2048, .f32⟩
  | .hbm, ⟨35, _⟩ => ⟨S_, .f32⟩
  | .hbm, ⟨36, _⟩ => ⟨S_, .f32⟩
  | .hbm, ⟨37, _⟩ => ⟨S8x4x2048x2048, .i1⟩
  | .hbm, ⟨38, _⟩ => ⟨S8x4x2048x2048, .f32⟩
  | .hbm, ⟨39, _⟩ => ⟨S8x4x2048x2048, .f32⟩
  | .hbm, ⟨40, _⟩ => ⟨S_, .f32⟩
  | .hbm, ⟨41, _⟩ => ⟨S_, .f32⟩
  | .hbm, ⟨42, _⟩ => ⟨S8x4x2048x2048, .f32⟩
  | .hbm, ⟨43, _⟩ => ⟨S8x4x2048x2048, .f32⟩
  | .hbm, ⟨44, _⟩ => ⟨S8x4x2048x2048, .f32⟩
  | .hbm, ⟨45, _⟩ => ⟨S8x4x2048x2048, .f32⟩
  | .hbm, ⟨46, _⟩ => ⟨S_, .f32⟩
  | .hbm, ⟨47, _⟩ => ⟨S_, .f32⟩
  | .hbm, ⟨48, _⟩ => ⟨S8x4x2048x2048, .i1⟩
  | .hbm, ⟨49, _⟩ => ⟨S8x4x2048x2048, .f32⟩
  | .hbm, ⟨50, _⟩ => ⟨S8x4x2048x2048, .f32⟩
  | .hbm, ⟨51, _⟩ => ⟨S8x4x64x2048, .f32⟩
  | .hbm, ⟨52, _⟩ => ⟨S8x2048x4x64, .f32⟩
  | .hbm, ⟨53, _⟩ => ⟨S8x2048x4x64, .f32⟩
  | .hbm, ⟨54, _⟩ => ⟨S_, .f32⟩
  | .hbm, ⟨55, _⟩ => ⟨S8x2048x4, .f32⟩
  | .hbm, ⟨56, _⟩ => ⟨S8x2048x4x1, .f32⟩
  | .hbm, ⟨57, _⟩ => ⟨S_, .f32⟩
  | .hbm, ⟨58, _⟩ => ⟨S8x2048x4x1, .f32⟩
  | .hbm, ⟨59, _⟩ => ⟨S8x2048x4x1, .f32⟩
  | .hbm, ⟨60, _⟩ => ⟨S_, .f32⟩
  | .hbm, ⟨61, _⟩ => ⟨S8x2048x4x1, .f32⟩
  | .hbm, ⟨62, _⟩ => ⟨S8x2048x4x1, .f32⟩
  | .hbm, ⟨63, _⟩ => ⟨S8x2048x4x1, .f32⟩
  | .hbm, ⟨64, _⟩ => ⟨S8x2048x4x64, .f32⟩
  | .hbm, ⟨65, _⟩ => ⟨S8x2048x4x64, .f32⟩
  | .hbm, ⟨66, _⟩ => ⟨S4x64, .f32⟩
  | .hbm, ⟨67, _⟩ => ⟨S1x1x4x64, .f32⟩
  | .hbm, ⟨68, _⟩ => ⟨S8x2048x4x64, .f32⟩
  | .hbm, ⟨69, _⟩ => ⟨S8x2048x4x64, .f32⟩
  | .hbm, ⟨70, _⟩ => ⟨S8x2048x256, .f32⟩
  | .hbm, ⟨71, _⟩ => ⟨S8x2048x256, .bf16⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_call2_cst : Ref sig .tc := ⟨.hbm, 40, rfl⟩
abbrev main_call2_v0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_1 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_2 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_cst_4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]
-- ==== Proof.AdaSpec.lean ====
/-
  The modulation of the layers by the condition, index by index.
-/
module

public import Idealize.ShloMosaic.Lib.Claim
public import Idealize.ShloMosaic.Lib.Pointwise

@[expose] public section

set_option maxRecDepth 16384

noncomputable section

namespace Cert.Ada

open Idealize.ShloMosaic Idealize.ShloMosaic.TcCoe Idealize.SL.Sem

/-- The activation of the condition: `x` times its logistic. -/
def silu (x : EReal) : EReal := x * Ideal.div 1 (1 + Ideal.exp (0 - x))

/-- The modulation of layer `l` for row `r` of the batch at column `n`: the activated condition times the layer's weights,
    and the bias. -/
def MOD (c : FVec Ideal ⟨2, ![8, 1024]⟩ .f32) (w : FVec Ideal ⟨3, ![4, 1024, 6144]⟩ .f32) (b : FVec Ideal ⟨2, ![4, 6144]⟩ .f32)
    (l : Fin 4) (r : Fin 8) (n : Fin 6144) : EReal :=
  (∑ k : Fin 1024, silu (c (ix2 r k)) * w (ix3 l k n)) + b (ix2 l n)

end Cert.Ada

end
-- ==== Proof.AdaKernel.lean ====
/-
  The array the condition's projection leaves, at every index: the modulation of the argument arrays.
-/
module

public import proofs.«01_k».proof.Proof.AdaSpec
public import proofs.«01_k».proof.Proof.Gen.Kernel3Ideal.Value
public import Idealize.ShloMosaic.Lib.Pipeline.ValueKit

@[expose] public section

set_option maxRecDepth 16384

noncomputable section

namespace Cert.Ada

open Idealize.ShloMosaic Idealize.ShloMosaic.TcCoe Idealize.SL.Sem
open Cert.Kernel3Ideal Cert.Kernel3Ideal.Gen

variable (m : (ℓ : Loc nD τ sig) → Buf (Elt Ideal) ℓ)

theorem lt_16 (t : Fin cfg0.N) : t.val < 16 := lt_of_lt_of_eq t.isLt N_0

/-- The layer that grid point `t` works on. -/
def lay (t : Fin cfg0.N) : Fin 4 := ⟨t.val / 4, by have := lt_16 t; omega⟩

/-- The column of the modulation at column `n` of the tile of grid point `t`. -/
def col (t : Fin cfg0.N) (n : Fin 1536) : Fin 6144 := ⟨1536 * (t.val % 4) + n.val, by omega⟩

theorem idx0 : ∀ t : Fin cfg0.N, win0_0.index t = ![0, 0] := (by decide +kernel : ∀ t : Fin grid0.N, _)
theorem idx1 : ∀ t : Fin cfg0.N, win0_1.index t = ![t.val / 4, 0, t.val % 4] := (by decide +kernel : ∀ t : Fin grid0.N, _)
theorem idx2 : ∀ t : Fin cfg0.N, win0_2.index t = ![t.val / 4, 0, t.val % 4] := (by decide +kernel : ∀ t : Fin grid0.N, _)
theorem idx3 : ∀ t : Fin cfg0.N, win0_3.index t = ![t.val / 4, 0, t.val % 4] := (by decide +kernel : ∀ t : Fin grid0.N, _)
theorem flush3 : ∀ t : Fin cfg0.N, (cfg0.win 3).flush t = true := (by decide +kernel : ∀ t : Fin grid0.N, win0_3.flush t = true)

theorem blk0 (c : Dev nD) (t : Fin cfg0.N) (r : Fin 8) (k : Fin 1024) :
    (iblk m c 0 t : Vec Ideal S8x1024 .f32) (ix2 r k) = m ((c : Thread nD τ).loc main_arg0) (ix2 r k) := by
  blk_ext [iblk, V_main_arg0, idx0 t]

theorem blk1 (c : Dev nD) (t : Fin cfg0.N) (k : Fin 1024) (n : Fin 1536) :
    (iblk m c 1 t : Vec Ideal S1x1024x1536 .f32) (ix3 0 k n)
      = m ((c : Thread nD τ).loc main_arg1) (ix3 (lay t) k (col t n)) := by
  blk_ext [iblk, V_main_arg1, idx1 t, lay, col]

theorem blk2 (c : Dev nD) (t : Fin cfg0.N) (n : Fin 1536) :
    (iblk m c 2 t : Vec Ideal S1x1x1536 .f32) (ix3 0 0 n)
      = m ((c : Thread nD τ).loc main_arg2) (ix2 (lay t) (col t n)) := by
  blk_simp [iblk]
  entry_read
  pointwise []
  blk_ext [idx2 t, lay, col]

theorem pay_apply (x : Vec Ideal S8x1024 .f32) (w : Vec Ideal S1x1024x1536 .f32) (b : Vec Ideal S1x1x1536 .f32)
    (r : Fin 8) (n : Fin 1536) :
    k0_pay1 x w b (ix3 0 r n) = (∑ k : Fin 1024, silu (x (ix2 r k)) * w (ix3 0 k n)) + b (ix3 0 0 n) := by
  pointwise [k0_pay1, silu]

/-- The body leaves its one payload. -/
theorem out_eq (x : Vec Ideal S8x1024 .f32) (w : Vec Ideal S1x1024x1536 .f32) (b : Vec Ideal S1x1x1536 .f32) :
    out0_3 x w b = k0_pay1 x w b := by
  unfold out0_3
  rw [View.canon_cons_unit_lit _ _ _ (by decide), View.ld_unit_lit _ _ (by decide), View.ld_unit_lit _ _ (by decide),
    View.ld_unit_lit _ _ (by decide)]

/-- What grid point `t` writes back, at an index of its tile. -/
theorem flushed_apply (c : Dev nD) (t : Fin cfg0.N) (r : Fin 8) (n : Fin 1536) :
    ((dats m 0 c).flushed 3 t : Vec Ideal S1x8x1536 .f32) (ix3 0 r n)
      = MOD (m ((c : Thread nD τ).loc main_arg0)) (m ((c : Thread nD τ).loc main_arg1)) (m ((c : Thread nD τ).loc main_arg2))
          (lay t) r (col t n) := by
  have e : ((dats m 0 c).flushed 3 t : Vec Ideal S1x8x1536 .f32) (ix3 0 r n)
      = k0_pay1 (iblk m c 0 t) (iblk m c 1 t) (iblk m c 2 t) (ix3 0 r n) := by
    rw [Value.flushed3, out_eq]
    rfl
  rw [e, pay_apply]
  simp only [blk0, blk1, blk2]
  rfl

/-- A tile of the final array, at an index of the tile. -/
theorem read_apply (c : Dev nD) (t : Fin cfg0.N) (X : FVec Ideal S4x8x6144 .f32) (r : Fin 8) (n : Fin 1536) :
    (((cfg0.win 3).blk t).view.read (Elt Ideal) X : Vec Ideal S1x8x1536 .f32) (ix3 0 r n) = X (ix3 (lay t) r (col t n)) := by
  blk_ext [idx3 t, lay, col]

/-- The kernel's result array, at every index. -/
theorem kernel_apply (c : Dev nD) (l : Fin 4) (r : Fin 8) (n : Fin 6144) :
    ((dats m 0 c).arrAt 3 cfg0.N : FVec Ideal S4x8x6144 .f32) (ix3 l r n)
      = MOD (m ((c : Thread nD τ).loc main_arg0)) (m ((c : Thread nD τ).loc main_arg1)) (m ((c : Thread nD τ).loc main_arg2))
          l r n := by
  obtain ⟨t, ht⟩ : ∃ t : Fin cfg0.N, t.val = 4 * l.val + n.val / 1536 :=
    ⟨⟨4 * l.val + n.val / 1536, lt_of_lt_of_eq (by omega) N_0.symm⟩, rfl⟩
  have h := (read_apply c t ((dats m 0 c).arrAt 3 cfg0.N) r ⟨n.val % 1536, by omega⟩).symm.trans
    ((congrFun (Value.blocks3 m c t (flush3 t)) _).trans (flushed_apply m c t r ⟨n.val % 1536, by omega⟩))
  have hl : lay t = l := Fin.ext (by simp only [lay]; omega)
  have hn : col t ⟨n.val % 1536, by omega⟩ = n := Fin.ext (by simp only [col]; omega)
  rwa [hl, hn] at h

end Cert.Ada

end
-- ==== Proof.AdaRef.lean ====
/-
  The reference's modulation, read at every index.
-/
module

public import proofs.«01_k».proof.Proof.AdaSpec
public import proofs.«01_k».proof.Proof.Gen.Reference3Ideal.Run

@[expose] public section

set_option maxRecDepth 16384

noncomputable section

namespace Cert.Ada

open Idealize.ShloMosaic Idealize.ShloMosaic.TcCoe Idealize.SL.Sem
open Cert.Reference3Ideal Cert.Reference3Ideal.Gen

/-- The reference's activated condition. -/
def rAct (a0 : FVec Ideal S8x1024 .f32) : FVec Ideal S8x1024 .f32 :=
  mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0))))

/-- The reference's modulation of layer 0. -/
def rLayer0 (a0 : FVec Ideal S8x1024 .f32) (a1 : FVec Ideal S4x1024x6144 .f32) (a2 : FVec Ideal S4x6144 .f32) : FVec Ideal S1x8x6144 .f32 :=
  (broadcastInDim S1x8x6144 ![1, 2] bcast_S8x6144_S1x8x6144_1_2 (addf (Host.dotGeneral dot_S8x1024_S1024x6144_S8x6144_1_0_0_1_n_n none (rAct a0) (shapeCast _ (extractStridedSlice S1x1024x6144 ![0, 0, 0] a1 slices_S4x1024x6144_S1x1024x6144_0_0_0) shapeCasts_S1x1024x6144_S1024x6144)) (broadcastInDim S8x6144 ![0, 1] bcast_S1x6144_S8x6144_0_1 (broadcastInDim S1x6144 ![1] bcast_S6144_S1x6144_1 (shapeCast _ (extractStridedSlice S1x6144 ![0, 0] a2 slices_S4x6144_S1x6144_0_0) shapeCasts_S1x6144_S6144)))))

/-- The reference's modulation of layer 1. -/
def rLayer1 (a0 : FVec Ideal S8x1024 .f32) (a1 : FVec Ideal S4x1024x6144 .f32) (a2 : FVec Ideal S4x6144 .f32) : FVec Ideal S1x8x6144 .f32 :=
  (broadcastInDim S1x8x6144 ![1, 2] bcast_S8x6144_S1x8x6144_1_2 (addf (Host.dotGeneral dot_S8x1024_S1024x6144_S8x6144_1_0_0_1_n_n none (rAct a0) (shapeCast _ (extractStridedSlice S1x1024x6144 ![1, 0, 0] a1 slices_S4x1024x6144_S1x1024x6144_1_0_0) shapeCasts_S1x1024x6144_S1024x6144)) (broadcastInDim S8x6144 ![0, 1] bcast_S1x6144_S8x6144_0_1 (broadcastInDim S1x6144 ![1] bcast_S6144_S1x6144_1 (shapeCast _ (extractStridedSlice S1x6144 ![1, 0] a2 slices_S4x6144_S1x6144_1_0) shapeCasts_S1x6144_S6144)))))

/-- The reference's modulation of layer 2. -/
def rLayer2 (a0 : FVec Ideal S8x1024 .f32) (a1 : FVec Ideal S4x1024x6144 .f32) (a2 : FVec Ideal S4x6144 .f32) : FVec Ideal S1x8x6144 .f32 :=
  (broadcastInDim S1x8x6144 ![1, 2] bcast_S8x6144_S1x8x6144_1_2 (addf (Host.dotGeneral dot_S8x1024_S1024x6144_S8x6144_1_0_0_1_n_n none (rAct a0) (shapeCast _ (extractStridedSlice S1x1024x6144 ![2, 0, 0] a1 slices_S4x1024x6144_S1x1024x6144_2_0_0) shapeCasts_S1x1024x6144_S1024x6144)) (broadcastInDim S8x6144 ![0, 1] bcast_S1x6144_S8x6144_0_1 (broadcastInDim S1x6144 ![1] bcast_S6144_S1x6144_1 (shapeCast _ (extractStridedSlice S1x6144 ![2, 0] a2 slices_S4x6144_S1x6144_2_0) shapeCasts_S1x6144_S6144)))))

/-- The reference's modulation of layer 3. -/
def rLayer3 (a0 : FVec Ideal S8x1024 .f32) (a1 : FVec Ideal S4x1024x6144 .f32) (a2 : FVec Ideal S4x6144 .f32) : FVec Ideal S1x8x6144 .f32 :=
  (broadcastInDim S1x8x6144 ![1, 2] bcast_S8x6144_S1x8x6144_1_2 (addf (Host.dotGeneral dot_S8x1024_S1024x6144_S8x6144_1_0_0_1_n_n none (rAct a0) (shapeCast _ (extractStridedSlice S1x1024x6144 ![3, 0, 0] a1 slices_S4x1024x6144_S1x1024x6144_3_0_0) shapeCasts_S1x1024x6144_S1024x6144)) (broadcastInDim S8x6144 ![0, 1] bcast_S1x6144_S8x6144_0_1 (broadcastInDim S1x6144 ![1] bcast_S6144_S1x6144_1 (shapeCast _ (extractStridedSlice S1x6144 ![3, 0] a2 slices_S4x6144_S1x6144_3_0) shapeCasts_S1x6144_S6144)))))

/-- The reference's result: the layers' modulations stacked. -/
def rAll (a0 : FVec Ideal S8x1024 .f32) (a1 : FVec Ideal S4x1024x6144 .f32) (a2 : FVec Ideal S4x6144 .f32) : FVec Ideal S4x8x6144 .f32 :=
  concatenate S4x8x6144 0 [⟨S1x8x6144, rLayer0 a0 a1 a2⟩, ⟨S1x8x6144, rLayer1 a0 a1 a2⟩, ⟨S1x8x6144, rLayer2 a0 a1 a2⟩, ⟨S1x8x6144, rLayer3 a0 a1 a2⟩] concatenates_S1x8x6144_S1x8x6144_S1x8x6144_S1x8x6144_S4x8x6144_d0

theorem rAct_apply (a0 : FVec Ideal S8x1024 .f32) (r : Fin 8) (k : Fin 1024) : rAct a0 (ix2 r k) = silu (a0 (ix2 r k)) := by
  pointwise [rAct, silu]
  simp only [sub_eq_add_neg, zero_add]

theorem rLayer0_apply (a0 : FVec Ideal S8x1024 .f32) (a1 : FVec Ideal S4x1024x6144 .f32) (a2 : FVec Ideal S4x6144 .f32)
    (r : Fin 8) (n : Fin 6144) : rLayer0 a0 a1 a2 (ix3 0 r n) = MOD a0 a1 a2 0 r n := by
  have e : rLayer0 a0 a1 a2 (ix3 0 r n) = (∑ k : Fin 1024, rAct a0 (ix2 r k) * a1 (ix3 0 k n)) + a2 (ix2 0 n) := by
    pointwise [rLayer0]
  rw [e]
  simp only [rAct_apply]
  rfl

theorem rLayer1_apply (a0 : FVec Ideal S8x1024 .f32) (a1 : FVec Ideal S4x1024x6144 .f32) (a2 : FVec Ideal S4x6144 .f32)
    (r : Fin 8) (n : Fin 6144) : rLayer1 a0 a1 a2 (ix3 0 r n) = MOD a0 a1 a2 1 r n := by
  have e : rLayer1 a0 a1 a2 (ix3 0 r n) = (∑ k : Fin 1024, rAct a0 (ix2 r k) * a1 (ix3 1 k n)) + a2 (ix2 1 n) := by
    pointwise [rLayer1]
  rw [e]
  simp only [rAct_apply]
  rfl

theorem rLayer2_apply (a0 : FVec Ideal S8x1024 .f32) (a1 : FVec Ideal S4x1024x6144 .f32) (a2 : FVec Ideal S4x6144 .f32)
    (r : Fin 8) (n : Fin 6144) : rLayer2 a0 a1 a2 (ix3 0 r n) = MOD a0 a1 a2 2 r n := by
  have e : rLayer2 a0 a1 a2 (ix3 0 r n) = (∑ k : Fin 1024, rAct a0 (ix2 r k) * a1 (ix3 2 k n)) + a2 (ix2 2 n) := by
    pointwise [rLayer2]
  rw [e]
  simp only [rAct_apply]
  rfl

theorem rLayer3_apply (a0 : FVec Ideal S8x1024 .f32) (a1 : FVec Ideal S4x1024x6144 .f32) (a2 : FVec Ideal S4x6144 .f32)
    (r : Fin 8) (n : Fin 6144) : rLayer3 a0 a1 a2 (ix3 0 r n) = MOD a0 a1 a2 3 r n := by
  have e : rLayer3 a0 a1 a2 (ix3 0 r n) = (∑ k : Fin 1024, rAct a0 (ix2 r k) * a1 (ix3 3 k n)) + a2 (ix2 3 n) := by
    pointwise [rLayer3]
  rw [e]
  simp only [rAct_apply]
  rfl

theorem rAll_apply (a0 : FVec Ideal S8x1024 .f32) (a1 : FVec Ideal S4x1024x6144 .f32) (a2 : FVec Ideal S4x6144 .f32)
    (l : Fin 4) (r : Fin 8) (n : Fin 6144) : rAll a0 a1 a2 (ix3 l r n) = MOD a0 a1 a2 l r n := by
  fin_cases l
  · refine Eq.trans ?_ (rLayer0_apply a0 a1 a2 r n)
    pointwise [rAll]
  · refine Eq.trans ?_ (rLayer1_apply a0 a1 a2 r n)
    pointwise [rAll]
  · refine Eq.trans ?_ (rLayer2_apply a0 a1 a2 r n)
    pointwise [rAll]
  · refine Eq.trans ?_ (rLayer3_apply a0 a1 a2 r n)
    pointwise [rAll]

end Cert.Ada

end
-- ==== Proof.AdaClaim.lean ====
/-
  The claims about the condition's projection: the kernel and the reference leave the same array.
-/
module

public import proofs.«01_k».proof.Defs
public import proofs.«01_k».proof.Proof.AdaKernel
public import proofs.«01_k».proof.Proof.AdaRef
public import proofs.«01_k».proof.Proof.Gen.Kernel3.Frame
public import Idealize.ShloMosaic.Lib.Quiescent

@[expose] public section

set_option maxRecDepth 16384

noncomputable section

namespace Cert.Ada

open Idealize.ShloMosaic Idealize.ShloMosaic.TcCoe Idealize.SL.Sem

/-- Two arrays of the result's shape equal at every triple of coordinates are equal. -/
theorem ext3 {u v : FVec Ideal Cert.Kernel3Ideal.S4x8x6144 .f32} (h : ∀ l r n, u (ix3 l r n) = v (ix3 l r n)) : u = v := by
  funext i
  have e : i = ix3 (i 0) (i 1) (i 2) := by idx_ext
  rw [e]
  exact h _ _ _

/-- Every run of the kernel terminates, keeps the arguments and leaves the counters at zero. -/
theorem frame_kernel : Cert.quiescent_Kernel3 := fun m ρ _ => Cert.Kernel3.Gen.frame m ρ

/-- The same of the kernel over the extended reals. -/
theorem frame_ideal : Cert.quiescent_Kernel3Ideal := fun m ρ _ => Cert.Kernel3Ideal.Gen.frame m ρ

/-- The same of the reference over the extended reals. -/
theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The kernel and the reference, started on the same arguments, end with the same array. -/
theorem algebraic : Cert.algebraic_Kernel3Ideal_Reference3Ideal := by
  intro m g m' g' _ hag
  refine ⟨fun c => (Cert.Kernel3Ideal.Gen.dats m 0 c).arrAt 3 Cert.Kernel3Ideal.cfg0.N,
    Cert.Kernel3Ideal.Value.run_blocks m g, ?_⟩
  refine (θ_run Cert.Reference3Ideal.defs _ _).mono (fun r h c => ⟨(h c).1.trans ?_, (h c).2⟩)
    (Cert.Reference3Ideal.Value.run (F := Ideal) m' g')
  obtain ⟨h0, h1, h2⟩ := hag c
  have e : rAll (m' (((c.tc : Thread Cert.Reference3Ideal.nD Cert.Reference3Ideal.τ)).loc Cert.Reference3Ideal.main_arg0))
        (m' (((c.tc : Thread Cert.Reference3Ideal.nD Cert.Reference3Ideal.τ)).loc Cert.Reference3Ideal.main_arg1))
        (m' (((c.tc : Thread Cert.Reference3Ideal.nD Cert.Reference3Ideal.τ)).loc Cert.Reference3Ideal.main_arg2))
      = (Cert.Kernel3Ideal.Gen.dats m 0 c).arrAt 3 Cert.Kernel3Ideal.cfg0.N := by
    refine ext3 fun l r n => (rAll_apply _ _ _ l r n).trans (Eq.trans ?_ (kernel_apply m c l r n).symm)
    rw [h0, h1, h2]
  exact e

end Cert.Ada

end
-- ==== Proof.FfnSpec.lean ====
/-
  The mathematics of the output projection and gated feed-forward part, written for one row at a time over the
  extended reals: a row is a function of its column. Both the kernel's blocks and the reference's arrays are read
  against these functions.
-/
module

public import Idealize.ShloMosaic.PureOps.Ideal

@[expose] public section

noncomputable section

namespace Cert.Ffn

open Idealize.ShloMosaic

/-- The residual row after the output projection: `x + gate · (y W)`. -/
def x1Row (x y gate : Fin 1024 → EReal) (w : Fin 1024 → Fin 1024 → EReal) (c : Fin 1024) : EReal :=
  x c + gate c * ∑ k, y k * w k c

/-- The reciprocal root mean square of a row, with the printed epsilon. -/
def rms (x : Fin 1024 → EReal) : EReal :=
  Ideal.rsqrt (Ideal.div (∑ k, x k * x k) (Ideal.ofBits .f32 0x44800000#32) + Ideal.ofBits .f32 0x358637BD#32)

/-- The normalised and modulated row. -/
def hRow (x g sc sh : Fin 1024 → EReal) (c : Fin 1024) : EReal :=
  x c * rms x * g c * (1 + sc c) + sh c

/-- The up-projection of a row. -/
def upRow (h : Fin 1024 → EReal) (w : Fin 1024 → Fin 5632 → EReal) (c : Fin 5632) : EReal :=
  ∑ k, h k * w k c

/-- The causal convolution of width three at one column: `u0` is the row itself, `u1` the row before, `u2` the one
    before that. -/
def conv (w0 w1 w2 b u0 u1 u2 : EReal) : EReal := w2 * u0 + b + w1 * u1 + w0 * u2

/-- The gated activation: `silu g · v`. -/
def act (g v : EReal) : EReal := g * Ideal.div 1 (1 + Ideal.exp (0 - g)) * v

/-- The activation at column `c` of the 2816, from the convolved row of 5632 columns. -/
def actRow (u : Fin 5632 → EReal) (c : Fin 2816) : EReal :=
  act (u ⟨c.val, by omega⟩) (u ⟨2816 + c.val, by omega⟩)

/-- The convolved row from the up-projected rows at three successive places. -/
def convRow (cw : Fin 3 → Fin 5632 → EReal) (cb : Fin 5632 → EReal) (u0 u1 u2 : Fin 5632 → EReal) (c : Fin 5632) : EReal :=
  conv (cw 0 c) (cw 1 c) (cw 2 c) (cb c) (u0 c) (u1 c) (u2 c)

/-- The layer's output row: the residual plus the gated down-projection. -/
def outRow (x1 gate : Fin 1024 → EReal) (a : Fin 2816 → EReal) (w : Fin 2816 → Fin 1024 → EReal) (c : Fin 1024) : EReal :=
  x1 c + gate c * ∑ k, a k * w k c

/-- Four rows of 256 columns side by side. -/
def sel4 (a b c d : Fin 256 → EReal) (k : Fin 1024) : EReal :=
  if h : k.val < 256 then a ⟨k.val, h⟩ else if h : k.val - 256 < 256 then b ⟨k.val - 256, h⟩
    else if h : k.val - 256 - 256 < 256 then c ⟨k.val - 256 - 256, h⟩ else d ⟨k.val - 256 - 256 - 256, by omega⟩

/-- Three rows of 256 columns side by side. -/
def sel3 (a b c : Fin 256 → EReal) (k : Fin 768) : EReal :=
  if h : k.val < 256 then a ⟨k.val, h⟩ else if h : k.val - 256 < 256 then b ⟨k.val - 256, h⟩
    else c ⟨k.val - 256 - 256, by omega⟩

/-- Four consecutive chunks of a row are the row. -/
theorem sel4_chunks (f : ℕ → EReal) (o : ℕ) (k : Fin 1024) :
    sel4 (fun c => f (o + c.val)) (fun c => f (o + 256 + c.val)) (fun c => f (o + 512 + c.val)) (fun c => f (o + 768 + c.val)) k
      = f (o + k.val) := by
  unfold sel4
  split_ifs <;> refine congrArg f ?_ <;> (try dsimp only) <;> omega

/-- Three consecutive chunks of a row are the row. -/
theorem sel3_chunks (f : ℕ → EReal) (o : ℕ) (k : Fin 768) :
    sel3 (fun c => f (o + c.val)) (fun c => f (o + 256 + c.val)) (fun c => f (o + 512 + c.val)) k = f (o + k.val) := by
  unfold sel3
  split_ifs <;> refine congrArg f ?_ <;> (try dsimp only) <;> omega

/-- A sum over 2816 in the three groups the down-projection takes. -/
theorem sum_2816 (f : ℕ → EReal) :
    ∑ k : Fin 2816, f k.val = (∑ k : Fin 1024, f k.val + ∑ k : Fin 1024, f (1024 + k.val)) + ∑ k : Fin 768, f (2048 + k.val) := by
  rw [Fin.sum_univ_eq_sum_range f 2816, Fin.sum_univ_eq_sum_range f 1024,
    Fin.sum_univ_eq_sum_range (fun k => f (1024 + k)) 1024, Fin.sum_univ_eq_sum_range (fun k => f (2048 + k)) 768,
    ← Finset.sum_range_add, ← Finset.sum_range_add]

end Cert.Ffn

end
-- ==== Proof.FfnPay.lean ====
/-
  The operations the feed-forward kernel's payloads are made of, each read at an index. `upC`, `convC`, `tailC`, `actC`
  and the down-projections are the pieces every one of the eleven column chunks repeats.
-/
module

public import proofs.«01_k».proof.Proof.FfnSpec
public import proofs.«01_k».proof.Proof.Gen.Kernel2Ideal.Skeleton
public import Idealize.ShloMosaic.Lib.Pointwise
public import Idealize.ShloMosaic.Lib.Pipeline.ValueKit

@[expose] public section

set_option maxRecDepth 16384

noncomputable section

namespace Cert.Ffn

open Idealize.ShloMosaic Idealize.ShloMosaic.TcCoe Idealize.SL.Sem
open Cert.Kernel2Ideal Cert.Kernel2Ideal.Gen

/-- Up-projection of a tile onto one chunk of 256 columns. -/
def upC (h : FVec Ideal S512x1024 .bf16) (w : Vec Ideal S1x1024x256 .bf16) : FVec Ideal S512x256 .f32 := k0_pay30 h w

/-- Convolution of one chunk of columns, the eight rows before the tile given. -/
def convC (u : FVec Ideal S512x256 .f32) (cw : Vec Ideal S3x256 .f32) (hist : Vec Ideal S8x256 .f32)
    (cb : Vec Ideal S1x256 .f32) : FVec Ideal S512x256 .f32 := k0_pay32 u cw hist cb

/-- The last eight rows of a tile. -/
def tailC (u : FVec Ideal S512x256 .f32) : FVec Ideal S8x256 .f32 := k0_pay33 u

/-- Gated activation of two chunks. -/
def actC (g v : FVec Ideal S512x256 .f32) : FVec Ideal S512x256 .bf16 := k0_pay54 g v

/-- Down-projection of four chunks. -/
def dn4 (a b c d : FVec Ideal S512x256 .bf16) (w : FVec Ideal S1x1024x1024 .bf16) : FVec Ideal S512x1024 .f32 :=
  have v333 : FVec Ideal S512x1024 .bf16 := concatenate S512x1024 1 [⟨S512x256, a⟩, ⟨S512x256, b⟩, ⟨S512x256, c⟩, ⟨S512x256, d⟩] concatenates_S512x256_S512x256_S512x256_S512x256_S512x1024_d1
  have v341 : FVec Ideal S1024x1024 .bf16 := shapeCast S1024x1024 w shapeCasts_S1x1024x1024_S1024x1024
  matmul dot_S512x1024_S1024x1024_S512x1024_1_0_0_1_n_n none v333 v341 (constant S512x1024 .f32 0x00000000#32)

/-- Down-projection of the last three chunks. -/
def dn3 (a b c : FVec Ideal S512x256 .bf16) (w : FVec Ideal S1x768x1024 .bf16) : FVec Ideal S512x1024 .f32 :=
  have v : FVec Ideal S512x768 .bf16 := concatenate S512x768 1 [⟨S512x256, a⟩, ⟨S512x256, b⟩, ⟨S512x256, c⟩] concatenates_S512x256_S512x256_S512x256_S512x768_d1
  have u : FVec Ideal S768x1024 .bf16 := shapeCast S768x1024 w shapeCasts_S1x768x1024_S768x1024
  matmul dot_S512x768_S768x1024_S512x1024_1_0_0_1_n_n none v u (constant S512x1024 .f32 0x00000000#32)

theorem upC_apply (h : FVec Ideal S512x1024 .bf16) (w : Vec Ideal S1x1024x256 .bf16) (r : Fin 512) (c : Fin 256) :
    upC h w (ix2 r c) = ∑ k : Fin 1024, h (ix2 r k) * w (ix3 0 k c) := by
  pointwise [upC, k0_pay30]

/-- The row `d` places before row `r` of a tile: in the tile, or among the eight rows before it. -/
def back (d : ℕ) (u : FVec Ideal S512x256 .f32) (hist : Vec Ideal S8x256 .f32) (r : Fin 512) (c : Fin 256) : EReal :=
  if h : d ≤ r.val then u (ix2 ⟨r.val - d, by omega⟩ c) else if h' : d ≤ 8 then hist (ix2 ⟨8 + r.val - d, by omega⟩ c) else 0

theorem convC_apply (u : FVec Ideal S512x256 .f32) (cw : Vec Ideal S3x256 .f32) (hist : Vec Ideal S8x256 .f32)
    (cb : Vec Ideal S1x256 .f32) (r : Fin 512) (c : Fin 256) :
    convC u cw hist cb (ix2 r c) = conv (cw (ix2 0 c)) (cw (ix2 1 c)) (cw (ix2 2 c)) (cb (ix2 0 c))
      (u (ix2 r c)) (back 1 u hist r c) (back 2 u hist r c) := by
  have hr := r.isLt
  pointwise [convC, k0_pay32]
  unfold conv back
  have e1 : (8 + r.val + 520 - 1) % 520 = 8 + r.val - 1 := by omega
  have e2 : (8 + r.val + 520 - 2) % 520 = 8 + r.val - 2 := by omega
  simp only [e1, e2]
  congr 1
  · congr 2
    by_cases h : 1 ≤ r.val
    · rw [dif_neg (by omega), dif_pos h]
      exact congrArg u (by idx_ext <;> omega)
    · rw [dif_pos (by omega), dif_neg h, dif_pos (by decide)]
  · congr 1
    by_cases h : 2 ≤ r.val
    · rw [dif_neg (by omega), dif_pos h]
      exact congrArg u (by idx_ext <;> omega)
    · rw [dif_pos (by omega), dif_neg h, dif_pos (by decide)]

theorem tailC_apply (u : FVec Ideal S512x256 .f32) (r : Fin 8) (c : Fin 256) :
    tailC u (ix2 r c) = u (ix2 ⟨504 + r.val, by omega⟩ c) := by
  pointwise [tailC, k0_pay33]

theorem actC_apply (g v : FVec Ideal S512x256 .f32) (r : Fin 512) (c : Fin 256) :
    actC g v (ix2 r c) = act (g (ix2 r c)) (v (ix2 r c)) := by
  pointwise [actC, k0_pay54, act]

theorem dn4_apply (a b c d : FVec Ideal S512x256 .bf16) (w : FVec Ideal S1x1024x1024 .bf16) (r : Fin 512) (n : Fin 1024) :
    dn4 a b c d w (ix2 r n) = ∑ k : Fin 1024, sel4 (fun j => a (ix2 r j)) (fun j => b (ix2 r j)) (fun j => c (ix2 r j))
      (fun j => d (ix2 r j)) k * w (ix3 0 k n) := by
  pointwise [dn4, sel4]

theorem dn3_apply (a b c : FVec Ideal S512x256 .bf16) (w : FVec Ideal S1x768x1024 .bf16) (r : Fin 512) (n : Fin 1024) :
    dn3 a b c w (ix2 r n) = ∑ k : Fin 768, sel3 (fun j => a (ix2 r j)) (fun j => b (ix2 r j)) (fun j => c (ix2 r j)) k
      * w (ix3 0 k n) := by
  pointwise [dn3, sel3]

theorem x1_apply (x : FVec Ideal S1x512x1024 .f32) (ya yb yc yd : FVec Ideal S1x512x256 .bf16) (md : FVec Ideal S1x1x6144 .f32)
    (wo : FVec Ideal S1x1024x1024 .bf16) (r : Fin 512) (n : Fin 1024) :
    k0_pay7 (F := Ideal) md ya yb yc yd wo x (ix2 r n) = x1Row (fun k => x (ix3 0 r k))
      (sel4 (fun j => ya (ix3 0 r j)) (fun j => yb (ix3 0 r j)) (fun j => yc (ix3 0 r j)) (fun j => yd (ix3 0 r j)))
      (fun k => md (ix3 0 0 ⟨2048 + k.val, by omega⟩)) (fun k c => wo (ix3 0 k c)) n := by
  pointwise [k0_pay7, k0_pay3, x1Row, sel4]

theorem sq_apply (x : FVec Ideal S1x512x1024 .f32) (ya yb yc yd : FVec Ideal S1x512x256 .bf16) (md : FVec Ideal S1x1x6144 .f32)
    (wo : FVec Ideal S1x1024x1024 .bf16) (r : Fin 512) :
    k0_pay9 (F := Ideal) md ya yb yc yd wo x (ix1 r) = ∑ k : Fin 1024, k0_pay7 (F := Ideal) md ya yb yc yd wo x (ix2 r k) * k0_pay7 (F := Ideal) md ya yb yc yd wo x (ix2 r k) := by
  pointwise [k0_pay9]

theorem h_apply (x : FVec Ideal S1x512x1024 .f32) (ya yb yc yd : FVec Ideal S1x512x256 .bf16) (md : FVec Ideal S1x1x6144 .f32)
    (wo : FVec Ideal S1x1024x1024 .bf16) (g : FVec Ideal S1x1024 .f32) (r : Fin 512) (n : Fin 1024) :
    k0_pay10 (F := Ideal) (k0_pay4 md) (k0_pay5 md) (k0_pay7 md ya yb yc yd wo x) (k0_pay8 g) (k0_pay9 md ya yb yc yd wo x) (ix2 r n)
      = hRow (fun k => k0_pay7 (F := Ideal) md ya yb yc yd wo x (ix2 r k)) (fun k => g (ix2 0 k))
        (fun k => md (ix3 0 0 ⟨4096 + k.val, by omega⟩)) (fun k => md (ix3 0 0 ⟨3072 + k.val, by omega⟩)) n := by
  pointwise [k0_pay10, k0_pay4, k0_pay5, k0_pay3, k0_pay8, hRow, rms, sq_apply]

/-- The stored block: the residual plus the gated down-projection. -/
theorem out_apply (x a : FVec Ideal S512x1024 .f32) (md : FVec Ideal S1x1x6144 .f32) (r : Fin 512) (n : Fin 1024) :
    k0_pay1 (F := Ideal) x a (k0_pay104 (k0_pay6 md)) (ix3 0 r n) = x (ix2 r n) + md (ix3 0 0 ⟨5120 + n.val, by omega⟩) * a (ix2 r n) := by
  pointwise [k0_pay1, k0_pay104, k0_pay6, k0_pay3]

end Cert.Ffn

end
-- ==== Proof.FfnBody.lean ====
/-
  The whole body of the feed-forward kernel at one grid point, as a function of the blocks it reads and of the eight
  rows before the tile, and what it stores read at an index.
-/
module

public import proofs.«01_k».proof.Proof.FfnPay
public import Idealize.ShloMosaic.Lib.Pipeline.ValueKit

@[expose] public section

set_option maxRecDepth 16384

noncomputable section

namespace Cert.Ffn

open Idealize.ShloMosaic Idealize.ShloMosaic.TcCoe Idealize.SL.Sem
open Cert.Kernel2Ideal Cert.Kernel2Ideal.Gen

/-- 256 columns of the up-projection's weights from column `o`. -/
def wuS (w : Vec Ideal S1x1024x5632 .bf16) (o : ℕ) (h : o + 256 ≤ 5632) : Vec Ideal S1x1024x256 .bf16 :=
  View.ld (Val := Elt Ideal) (e' := .bf16) w (Rect.unit (s := S1x1024x5632) ![0, 0, o] ![1, 1024, 256]
    (by intro a; fin_cases a <;> simp <;> omega))

/-- 256 columns of the convolution's weights. -/
def cwS (w : Vec Ideal S3x5632 .f32) (o : ℕ) (h : o + 256 ≤ 5632) : Vec Ideal S3x256 .f32 :=
  View.ld (Val := Elt Ideal) (e' := .f32) w (Rect.unit (s := S3x5632) ![0, o] ![3, 256]
    (by intro a; fin_cases a <;> simp <;> omega))

/-- 256 columns of the convolution's bias. -/
def cbS (w : Vec Ideal S1x5632 .f32) (o : ℕ) (h : o + 256 ≤ 5632) : Vec Ideal S1x256 .f32 :=
  View.ld (Val := Elt Ideal) (e' := .f32) w (Rect.unit (s := S1x5632) ![0, o] ![1, 256]
    (by intro a; fin_cases a <;> simp <;> omega))

/-- 256 columns of the eight rows carried from the tile before. -/
def hiS (w : Vec Ideal S8x5632 .f32) (o : ℕ) (h : o + 256 ≤ 5632) : Vec Ideal S8x256 .f32 :=
  View.ld (Val := Elt Ideal) (e' := .f32) w (Rect.unit (s := S8x5632) ![0, o] ![8, 256]
    (by intro a; fin_cases a <;> simp <;> omega))

/-- 1024 rows of the down-projection's weights from row `o`. -/
def wdS (w : Vec Ideal S1x2816x1024 .bf16) (o : ℕ) (h : o + 1024 ≤ 2816) : Vec Ideal S1x1024x1024 .bf16 :=
  View.ld (Val := Elt Ideal) (e' := .bf16) w (Rect.unit (s := S1x2816x1024) ![0, o, 0] ![1, 1024, 1024]
    (by intro a; fin_cases a <;> simp <;> omega))

/-- The last 768 rows of the down-projection's weights. -/
def wdT (w : Vec Ideal S1x2816x1024 .bf16) : Vec Ideal S1x768x1024 .bf16 :=
  View.ld (Val := Elt Ideal) (e' := .bf16) w (Rect.unit (s := S1x2816x1024) ![0, 2048, 0] ![1, 768, 1024]
    (by intro a; fin_cases a <;> simp))

theorem wuS_apply (w : Vec Ideal S1x1024x5632 .bf16) (o : ℕ) (h : o + 256 ≤ 5632) (k : Fin 1024) (c : Fin 256) :
    wuS w o h (ix3 0 k c) = w (ix3 0 k ⟨o + c.val, by omega⟩) :=
  View.ld_unit_apply_of _ _ _ _ _ _ (by intro a; fin_cases a <;> simp [ix3])

theorem cwS_apply (w : Vec Ideal S3x5632 .f32) (o : ℕ) (h : o + 256 ≤ 5632) (k : Fin 3) (c : Fin 256) :
    cwS w o h (ix2 k c) = w (ix2 k ⟨o + c.val, by omega⟩) :=
  View.ld_unit_apply_of _ _ _ _ _ _ (by intro a; fin_cases a <;> simp [ix2])

theorem cbS_apply (w : Vec Ideal S1x5632 .f32) (o : ℕ) (h : o + 256 ≤ 5632) (c : Fin 256) :
    cbS w o h (ix2 0 c) = w (ix2 0 ⟨o + c.val, by omega⟩) :=
  View.ld_unit_apply_of _ _ _ _ _ _ (by intro a; fin_cases a <;> simp [ix2])

theorem hiS_apply (w : Vec Ideal S8x5632 .f32) (o : ℕ) (h : o + 256 ≤ 5632) (k : Fin 8) (c : Fin 256) :
    hiS w o h (ix2 k c) = w (ix2 k ⟨o + c.val, by omega⟩) :=
  View.ld_unit_apply_of _ _ _ _ _ _ (by intro a; fin_cases a <;> simp [ix2])

theorem wdS_apply (w : Vec Ideal S1x2816x1024 .bf16) (o : ℕ) (h : o + 1024 ≤ 2816) (k : Fin 1024) (c : Fin 1024) :
    wdS w o h (ix3 0 k c) = w (ix3 0 ⟨o + k.val, by omega⟩ c) :=
  View.ld_unit_apply_of _ _ _ _ _ _ (by intro a; fin_cases a <;> simp [ix3])

theorem wdT_apply (w : Vec Ideal S1x2816x1024 .bf16) (k : Fin 768) (c : Fin 1024) :
    wdT w (ix3 0 k c) = w (ix3 0 ⟨2048 + k.val, by omega⟩ c) :=
  View.ld_unit_apply_of _ _ _ _ _ _ (by intro a; fin_cases a <;> simp [ix3])

/-- What the body stores into the output block. -/
def body (x : Vec Ideal S1x512x1024 .f32) (ya yb yc yd : Vec Ideal S1x512x256 .bf16) (md : Vec Ideal S1x1x6144 .f32)
    (g : Vec Ideal S1x1024 .f32) (wo : Vec Ideal S1x1024x1024 .bf16) (wu : Vec Ideal S1x1024x5632 .bf16)
    (cw : Vec Ideal S3x5632 .f32) (cb : Vec Ideal S1x5632 .f32) (wd : Vec Ideal S1x2816x1024 .bf16)
    (H : Vec Ideal S8x5632 .f32) : Vec Ideal S1x512x1024 .f32 :=
  let v3 : Vec Ideal S1x1x6144 .f32 := md
  let v9 : Vec Ideal S1x512x256 .bf16 := ya
  let v11 : Vec Ideal S1x512x256 .bf16 := yb
  let v13 : Vec Ideal S1x512x256 .bf16 := yc
  let v15 : Vec Ideal S1x512x256 .bf16 := yd
  let v18 : Vec Ideal S1x1024x1024 .bf16 := wo
  let v21 : Vec Ideal S1x512x1024 .f32 := x
  let v26 : Vec Ideal S1x1024 .f32 := g
  let v6 : FVec Ideal S1x1024 .f32 := k0_pay4 v3
  let v7 : FVec Ideal S1x1024 .f32 := k0_pay5 v3
  let v8 : FVec Ideal S1x1024 .f32 := k0_pay6 v3
  let v25 : FVec Ideal S512x1024 .f32 := k0_pay7 v3 v9 v11 v13 v15 v18 v21
  let v27 : FVec Ideal S1x1024 .f32 := k0_pay8 v26
  let v29 : FVec Ideal S512 .f32 := k0_pay9 v3 v9 v11 v13 v15 v18 v21
  let v47 : Vec Ideal S1x1024x256 .bf16 := (wuS wu 0 (by decide))
  let v50 : Vec Ideal S1x1024x256 .bf16 := (wuS wu 2816 (by decide))
  let v53 : Vec Ideal S1x1024x256 .bf16 := (wuS wu 256 (by decide))
  let v56 : Vec Ideal S1x1024x256 .bf16 := (wuS wu 3072 (by decide))
  let v59 : Vec Ideal S3x256 .f32 := (cwS cw 0 (by decide))
  let v60 : Vec Ideal S8x256 .f32 := (hiS H 0 (by decide))
  let v64 : Vec Ideal S1x256 .f32 := (cbS cb 0 (by decide))
  let v46 : FVec Ideal S512x1024 .bf16 := k0_pay10 v6 v7 v25 v27 v29
  let v49 : FVec Ideal S512x256 .f32 := k0_pay11 v6 v7 v25 v27 v29 v47
  let v52 : FVec Ideal S512x256 .f32 := k0_pay12 v6 v7 v25 v27 v29 v50
  let v55 : FVec Ideal S512x256 .f32 := k0_pay13 v6 v7 v25 v27 v29 v53
  let v58 : FVec Ideal S512x256 .f32 := k0_pay14 v6 v7 v25 v27 v29 v56
  let v63 : FVec Ideal S512x256 .f32 := k0_pay15 v6 v7 v25 v27 v29 v47 v59
  let v86 : Vec Ideal S3x256 .f32 := (cwS cw 2816 (by decide))
  let v87 : Vec Ideal S8x256 .f32 := (hiS H 2816 (by decide))
  let v91 : Vec Ideal S1x256 .f32 := (cbS cb 2816 (by decide))
  let v81 : FVec Ideal S512x256 .f32 := k0_pay16 v49 v59 v60 v63 v64
  let v108 : FVec Ideal S512x256 .f32 := k0_pay18 v52 v86 v87 v91
  let v123 : Vec Ideal S1x1024x256 .bf16 := (wuS wu 512 (by decide))
  let v126 : Vec Ideal S1x1024x256 .bf16 := (wuS wu 3328 (by decide))
  let v129 : Vec Ideal S3x256 .f32 := (cwS cw 256 (by decide))
  let v130 : Vec Ideal S8x256 .f32 := (hiS H 256 (by decide))
  let v134 : Vec Ideal S1x256 .f32 := (cbS cb 256 (by decide))
  let v122 : FVec Ideal S512x256 .bf16 := k0_pay21 v81 v108
  let v125 : FVec Ideal S512x256 .f32 := k0_pay22 v46 v123
  let v128 : FVec Ideal S512x256 .f32 := k0_pay23 v46 v126
  let v144 : FVec Ideal S512x256 .f32 := k0_pay24 v55 v129 v130 v134
  let v148 : FVec Ideal S512x256 .f32 := k0_pay25 v55 v130
  let v149 : FVec Ideal S512x256 .f32 := k0_pay26 v129
  let v156 : Vec Ideal S3x256 .f32 := (cwS cw 3072 (by decide))
  let v157 : Vec Ideal S8x256 .f32 := (hiS H 3072 (by decide))
  let v161 : Vec Ideal S1x256 .f32 := (cbS cb 3072 (by decide))
  let v192 : FVec Ideal S512x256 .bf16 := k0_pay29 v58 v144 v148 v149 v156 v157 v161
  let v193 : Vec Ideal S1x1024x256 .bf16 := (wuS wu 768 (by decide))
  let v196 : Vec Ideal S1x1024x256 .bf16 := (wuS wu 3584 (by decide))
  let v199 : Vec Ideal S3x256 .f32 := (cwS cw 512 (by decide))
  let v200 : Vec Ideal S8x256 .f32 := (hiS H 512 (by decide))
  let v204 : Vec Ideal S1x256 .f32 := (cbS cb 512 (by decide))
  let v226 : Vec Ideal S3x256 .f32 := (cwS cw 3328 (by decide))
  let v227 : Vec Ideal S8x256 .f32 := (hiS H 3328 (by decide))
  let v195 : FVec Ideal S512x256 .f32 := k0_pay30 v46 v193
  let v198 : FVec Ideal S512x256 .f32 := k0_pay31 v46 v196
  let v221 : FVec Ideal S512x256 .f32 := k0_pay32 v125 v199 v200 v204
  let v229 : FVec Ideal S512x256 .f32 := k0_pay34 v226
  let v231 : Vec Ideal S1x256 .f32 := (cbS cb 3328 (by decide))
  let v263 : Vec Ideal S1x1024x256 .bf16 := (wuS wu 1024 (by decide))
  let v266 : Vec Ideal S1x1024x256 .bf16 := (wuS wu 3840 (by decide))
  let v269 : Vec Ideal S3x256 .f32 := (cwS cw 768 (by decide))
  let v262 : FVec Ideal S512x256 .bf16 := k0_pay36 v128 v221 v226 v227 v229 v231
  let v265 : FVec Ideal S512x256 .f32 := k0_pay37 v46 v263
  let v268 : FVec Ideal S512x256 .f32 := k0_pay38 v46 v266
  let v270 : Vec Ideal S8x256 .f32 := (hiS H 768 (by decide))
  let v274 : Vec Ideal S1x256 .f32 := (cbS cb 768 (by decide))
  let v296 : Vec Ideal S3x256 .f32 := (cwS cw 3584 (by decide))
  let v297 : Vec Ideal S8x256 .f32 := (hiS H 3584 (by decide))
  let v301 : Vec Ideal S1x256 .f32 := (cbS cb 3584 (by decide))
  let v291 : FVec Ideal S512x256 .f32 := k0_pay39 v195 v269 v270 v274
  let v311 : FVec Ideal S512x256 .f32 := k0_pay41 v198 v296 v297 v301
  let v312 : FVec Ideal S1x256 .f32 := k0_pay42 v296
  let v313 : FVec Ideal S520x256 .f32 := k0_pay43 v198 v297
  let v334 : Vec Ideal S1x1024x256 .bf16 := (wuS wu 1280 (by decide))
  let v337 : Vec Ideal S1x1024x256 .bf16 := (wuS wu 4096 (by decide))
  let v340 : Vec Ideal S1x1024x1024 .bf16 := (wdS wd 0 (by decide))
  let v343 : Vec Ideal S3x256 .f32 := (cwS cw 1024 (by decide))
  let v344 : Vec Ideal S8x256 .f32 := (hiS H 1024 (by decide))
  let v348 : Vec Ideal S1x256 .f32 := (cbS cb 1024 (by decide))
  let v336 : FVec Ideal S512x256 .f32 := k0_pay45 v46 v334
  let v339 : FVec Ideal S512x256 .f32 := k0_pay46 v46 v337
  let v342 : FVec Ideal S512x1024 .f32 := k0_pay47 v122 v192 v262 v291 v311 v312 v313 v340
  let v347 : FVec Ideal S512x256 .f32 := k0_pay48 v265 v343
  let v370 : Vec Ideal S3x256 .f32 := (cwS cw 3840 (by decide))
  let v371 : Vec Ideal S8x256 .f32 := (hiS H 3840 (by decide))
  let v375 : Vec Ideal S1x256 .f32 := (cbS cb 3840 (by decide))
  let v365 : FVec Ideal S512x256 .f32 := k0_pay49 v265 v343 v344 v347 v348
  let v392 : FVec Ideal S512x256 .f32 := k0_pay51 v268 v370 v371 v375
  let v407 : Vec Ideal S1x1024x256 .bf16 := (wuS wu 1536 (by decide))
  let v410 : Vec Ideal S1x1024x256 .bf16 := (wuS wu 4352 (by decide))
  let v413 : Vec Ideal S3x256 .f32 := (cwS cw 1280 (by decide))
  let v414 : Vec Ideal S8x256 .f32 := (hiS H 1280 (by decide))
  let v418 : Vec Ideal S1x256 .f32 := (cbS cb 1280 (by decide))
  let v406 : FVec Ideal S512x256 .bf16 := k0_pay54 v365 v392
  let v409 : FVec Ideal S512x256 .f32 := k0_pay55 v46 v407
  let v412 : FVec Ideal S512x256 .f32 := k0_pay56 v46 v410
  let v428 : FVec Ideal S512x256 .f32 := k0_pay57 v336 v413 v414 v418
  let v432 : FVec Ideal S512x256 .f32 := k0_pay58 v336 v414
  let v433 : FVec Ideal S512x256 .f32 := k0_pay59 v413
  let v440 : Vec Ideal S3x256 .f32 := (cwS cw 4096 (by decide))
  let v441 : Vec Ideal S8x256 .f32 := (hiS H 4096 (by decide))
  let v445 : Vec Ideal S1x256 .f32 := (cbS cb 4096 (by decide))
  let v476 : FVec Ideal S512x256 .bf16 := k0_pay62 v339 v428 v432 v433 v440 v441 v445
  let v477 : Vec Ideal S1x1024x256 .bf16 := (wuS wu 1792 (by decide))
  let v480 : Vec Ideal S1x1024x256 .bf16 := (wuS wu 4608 (by decide))
  let v483 : Vec Ideal S3x256 .f32 := (cwS cw 1536 (by decide))
  let v484 : Vec Ideal S8x256 .f32 := (hiS H 1536 (by decide))
  let v488 : Vec Ideal S1x256 .f32 := (cbS cb 1536 (by decide))
  let v510 : Vec Ideal S3x256 .f32 := (cwS cw 4352 (by decide))
  let v511 : Vec Ideal S8x256 .f32 := (hiS H 4352 (by decide))
  let v479 : FVec Ideal S512x256 .f32 := k0_pay63 v46 v477
  let v482 : FVec Ideal S512x256 .f32 := k0_pay64 v46 v480
  let v505 : FVec Ideal S512x256 .f32 := k0_pay65 v409 v483 v484 v488
  let v513 : FVec Ideal S512x256 .f32 := k0_pay67 v510
  let v515 : Vec Ideal S1x256 .f32 := (cbS cb 4352 (by decide))
  let v547 : Vec Ideal S1x1024x256 .bf16 := (wuS wu 2048 (by decide))
  let v550 : Vec Ideal S1x1024x256 .bf16 := (wuS wu 4864 (by decide))
  let v553 : Vec Ideal S3x256 .f32 := (cwS cw 1792 (by decide))
  let v546 : FVec Ideal S512x256 .bf16 := k0_pay69 v412 v505 v510 v511 v513 v515
  let v549 : FVec Ideal S512x256 .f32 := k0_pay70 v46 v547
  let v552 : FVec Ideal S512x256 .f32 := k0_pay71 v46 v550
  let v554 : Vec Ideal S8x256 .f32 := (hiS H 1792 (by decide))
  let v558 : Vec Ideal S1x256 .f32 := (cbS cb 1792 (by decide))
  let v580 : Vec Ideal S3x256 .f32 := (cwS cw 4608 (by decide))
  let v581 : Vec Ideal S8x256 .f32 := (hiS H 4608 (by decide))
  let v585 : Vec Ideal S1x256 .f32 := (cbS cb 4608 (by decide))
  let v575 : FVec Ideal S512x256 .f32 := k0_pay72 v479 v553 v554 v558
  let v595 : FVec Ideal S512x256 .f32 := k0_pay74 v482 v580 v581 v585
  let v596 : FVec Ideal S1x256 .f32 := k0_pay75 v580
  let v597 : FVec Ideal S520x256 .f32 := k0_pay76 v482 v581
  let v618 : Vec Ideal S1x1024x256 .bf16 := (wuS wu 2304 (by decide))
  let v621 : Vec Ideal S1x1024x256 .bf16 := (wuS wu 5120 (by decide))
  let v624 : Vec Ideal S1x1024x1024 .bf16 := (wdS wd 1024 (by decide))
  let v628 : Vec Ideal S3x256 .f32 := (cwS cw 2048 (by decide))
  let v629 : Vec Ideal S8x256 .f32 := (hiS H 2048 (by decide))
  let v620 : FVec Ideal S512x256 .f32 := k0_pay78 v46 v618
  let v623 : FVec Ideal S512x256 .f32 := k0_pay79 v46 v621
  let v627 : FVec Ideal S512x1024 .f32 := k0_pay80 v342 v406 v476 v546 v575 v595 v596 v597 v624
  let v632 : FVec Ideal S512x256 .f32 := k0_pay81 v549 v628
  let v633 : Vec Ideal S1x256 .f32 := (cbS cb 2048 (by decide))
  let v655 : Vec Ideal S3x256 .f32 := (cwS cw 4864 (by decide))
  let v656 : Vec Ideal S8x256 .f32 := (hiS H 4864 (by decide))
  let v660 : Vec Ideal S1x256 .f32 := (cbS cb 4864 (by decide))
  let v650 : FVec Ideal S512x256 .f32 := k0_pay82 v549 v628 v629 v632 v633
  let v677 : FVec Ideal S512x256 .f32 := k0_pay84 v552 v655 v656 v660
  let v692 : Vec Ideal S1x1024x256 .bf16 := (wuS wu 2560 (by decide))
  let v695 : Vec Ideal S1x1024x256 .bf16 := (wuS wu 5376 (by decide))
  let v698 : Vec Ideal S3x256 .f32 := (cwS cw 2304 (by decide))
  let v699 : Vec Ideal S8x256 .f32 := (hiS H 2304 (by decide))
  let v703 : Vec Ideal S1x256 .f32 := (cbS cb 2304 (by decide))
  let v691 : FVec Ideal S512x256 .bf16 := k0_pay87 v650 v677
  let v694 : FVec Ideal S512x256 .f32 := k0_pay88 v46 v692
  let v697 : FVec Ideal S512x256 .f32 := k0_pay89 v46 v695
  let v713 : FVec Ideal S512x256 .f32 := k0_pay90 v620 v698 v699 v703
  let v714 : FVec Ideal S1x256 .f32 := k0_pay91 v698
  let v717 : FVec Ideal S512x256 .f32 := k0_pay92 v620 v699
  let v725 : Vec Ideal S3x256 .f32 := (cwS cw 5120 (by decide))
  let v726 : Vec Ideal S8x256 .f32 := (hiS H 5120 (by decide))
  let v730 : Vec Ideal S1x256 .f32 := (cbS cb 5120 (by decide))
  let v760 : FVec Ideal S512x256 .f32 := k0_pay95 v623 v713 v714 v717 v725 v726 v730
  let v762 : Vec Ideal S3x256 .f32 := (cwS cw 2560 (by decide))
  let v763 : Vec Ideal S8x256 .f32 := (hiS H 2560 (by decide))
  let v767 : Vec Ideal S1x256 .f32 := (cbS cb 2560 (by decide))
  let v789 : Vec Ideal S3x256 .f32 := (cwS cw 5376 (by decide))
  let v790 : Vec Ideal S8x256 .f32 := (hiS H 5376 (by decide))
  let v794 : Vec Ideal S1x256 .f32 := (cbS cb 5376 (by decide))
  let v761 : FVec Ideal S512x256 .bf16 := k0_pay96 v760
  let v784 : FVec Ideal S512x256 .f32 := k0_pay97 v694 v762 v763 v767
  let v797 : FVec Ideal S512x256 .f32 := k0_pay99 v697 v789 v794
  let v801 : FVec Ideal S512x256 .f32 := k0_pay100 v697 v790
  let v802 : FVec Ideal S512x256 .f32 := k0_pay101 v789
  let v827 : Vec Ideal S1x768x1024 .bf16 := (wdT wd)
  k0_pay1 (v25) (k0_pay103 v627 v691 v697 v761 v784 v789 v790 v797 v801 v802 v827) (k0_pay104 v8)

/-- The normalised tile. -/
def hT (x : Vec Ideal S1x512x1024 .f32) (ya yb yc yd : Vec Ideal S1x512x256 .bf16) (md : Vec Ideal S1x1x6144 .f32)
    (g : Vec Ideal S1x1024 .f32) (wo : Vec Ideal S1x1024x1024 .bf16) : FVec Ideal S512x1024 .bf16 :=
  k0_pay10 (F := Ideal) (k0_pay4 md) (k0_pay5 md) (k0_pay7 md ya yb yc yd wo x) (k0_pay8 g) (k0_pay9 md ya yb yc yd wo x)

/-- The convolved columns from `o`. -/
def uC (h : FVec Ideal S512x1024 .bf16) (wu : Vec Ideal S1x1024x5632 .bf16) (cw : Vec Ideal S3x5632 .f32)
    (cb : Vec Ideal S1x5632 .f32) (H : Vec Ideal S8x5632 .f32) (o : ℕ) (ho : o + 256 ≤ 5632) : FVec Ideal S512x256 .f32 :=
  convC (upC h (wuS wu o ho)) (cwS cw o ho) (hiS H o ho) (cbS cb o ho)

/-- The activations of the columns from `o`. -/
def aC (h : FVec Ideal S512x1024 .bf16) (wu : Vec Ideal S1x1024x5632 .bf16) (cw : Vec Ideal S3x5632 .f32)
    (cb : Vec Ideal S1x5632 .f32) (H : Vec Ideal S8x5632 .f32) (o : ℕ) (ho : o + 256 ≤ 2816) : FVec Ideal S512x256 .bf16 :=
  actC (uC h wu cw cb H o (by omega)) (uC h wu cw cb H (2816 + o) (by omega))

/-- The body again, its repeated pieces named. -/
def clean (x : Vec Ideal S1x512x1024 .f32) (ya yb yc yd : Vec Ideal S1x512x256 .bf16) (md : Vec Ideal S1x1x6144 .f32)
    (g : Vec Ideal S1x1024 .f32) (wo : Vec Ideal S1x1024x1024 .bf16) (wu : Vec Ideal S1x1024x5632 .bf16)
    (cw : Vec Ideal S3x5632 .f32) (cb : Vec Ideal S1x5632 .f32) (wd : Vec Ideal S1x2816x1024 .bf16)
    (H : Vec Ideal S8x5632 .f32) : Vec Ideal S1x512x1024 .f32 :=
  let h := hT x ya yb yc yd md g wo
  let a := aC h wu cw cb H
  k0_pay1 (F := Ideal) (k0_pay7 md ya yb yc yd wo x)
    (addf (addf (dn4 (a 0 (by decide)) (a 256 (by decide)) (a 512 (by decide)) (a 768 (by decide)) (wdS wd 0 (by decide)))
        (dn4 (a 1024 (by decide)) (a 1280 (by decide)) (a 1536 (by decide)) (a 1792 (by decide)) (wdS wd 1024 (by decide))))
      (dn3 (a 2048 (by decide)) (a 2304 (by decide)) (a 2560 (by decide)) (wdT wd)))
    (k0_pay104 (k0_pay6 md))

theorem body_eq_clean (x : Vec Ideal S1x512x1024 .f32) (ya yb yc yd : Vec Ideal S1x512x256 .bf16) (md : Vec Ideal S1x1x6144 .f32)
    (g : Vec Ideal S1x1024 .f32) (wo : Vec Ideal S1x1024x1024 .bf16) (wu : Vec Ideal S1x1024x5632 .bf16)
    (cw : Vec Ideal S3x5632 .f32) (cb : Vec Ideal S1x5632 .f32) (wd : Vec Ideal S1x2816x1024 .bf16)
    (H : Vec Ideal S8x5632 .f32) : body x ya yb yc yd md g wo wu cw cb wd H = clean x ya yb yc yd md g wo wu cw cb wd H := rfl

end Cert.Ffn

end
-- ==== Proof.FfnRead.lean ====
/-
  What the feed-forward kernel stores at one grid point, read at an index: the layer's output row.
-/
module

public import proofs.«01_k».proof.Proof.FfnBody

@[expose] public section

set_option maxRecDepth 16384

noncomputable section

namespace Cert.Ffn

open Idealize.ShloMosaic Idealize.ShloMosaic.TcCoe Idealize.SL.Sem
open Cert.Kernel2Ideal Cert.Kernel2Ideal.Gen

/-- The up-projected row of a tile. -/
def upT (h : FVec Ideal S512x1024 .bf16) (wu : Vec Ideal S1x1024x5632 .bf16) (r : Fin 512) (c : Fin 5632) : EReal :=
  upRow (fun k => h (ix2 r k)) (fun k c => wu (ix3 0 k c)) c

/-- The up-projected row `d` places before row `r` of a tile, the eight rows before the tile given. -/
def backT (d : ℕ) (h : FVec Ideal S512x1024 .bf16) (wu : Vec Ideal S1x1024x5632 .bf16) (H : Vec Ideal S8x5632 .f32)
    (r : Fin 512) (c : Fin 5632) : EReal :=
  if e : d ≤ r.val then upT h wu ⟨r.val - d, by omega⟩ c else if e' : d ≤ 8 then H (ix2 ⟨8 + r.val - d, by omega⟩ c) else 0

theorem upC_slice (h : FVec Ideal S512x1024 .bf16) (wu : Vec Ideal S1x1024x5632 .bf16) (o : ℕ) (ho : o + 256 ≤ 5632)
    (r : Fin 512) (c : Fin 256) : upC h (wuS wu o ho) (ix2 r c) = upT h wu r ⟨o + c.val, by omega⟩ := by
  rw [upC_apply]
  simp only [wuS_apply]
  rfl

theorem back_slice (d : ℕ) (h : FVec Ideal S512x1024 .bf16) (wu : Vec Ideal S1x1024x5632 .bf16) (H : Vec Ideal S8x5632 .f32)
    (o : ℕ) (ho : o + 256 ≤ 5632) (r : Fin 512) (c : Fin 256) :
    back d (upC h (wuS wu o ho)) (hiS H o ho) r c = backT d h wu H r ⟨o + c.val, by omega⟩ := by
  unfold back backT
  split_ifs
  · exact upC_slice h wu o ho _ c
  · exact hiS_apply H o ho _ c
  · rfl

/-- A chunk of the convolved columns is the convolved row at those columns. -/
theorem uC_apply (h : FVec Ideal S512x1024 .bf16) (wu : Vec Ideal S1x1024x5632 .bf16) (cw : Vec Ideal S3x5632 .f32)
    (cb : Vec Ideal S1x5632 .f32) (H : Vec Ideal S8x5632 .f32) (o : ℕ) (ho : o + 256 ≤ 5632) (r : Fin 512) (c : Fin 256) :
    uC h wu cw cb H o ho (ix2 r c)
      = convRow (fun k c => cw (ix2 k c)) (fun c => cb (ix2 0 c)) (upT h wu r) (backT 1 h wu H r) (backT 2 h wu H r)
          ⟨o + c.val, by omega⟩ := by
  unfold uC
  rw [convC_apply, upC_slice, back_slice, back_slice, cwS_apply, cwS_apply, cwS_apply, cbS_apply]
  rfl

/-- The activations of a tile, at column `k` of 2816. -/
def aT (h : FVec Ideal S512x1024 .bf16) (wu : Vec Ideal S1x1024x5632 .bf16) (cw : Vec Ideal S3x5632 .f32)
    (cb : Vec Ideal S1x5632 .f32) (H : Vec Ideal S8x5632 .f32) (r : Fin 512) : Fin 2816 → EReal :=
  actRow (convRow (fun k c => cw (ix2 k c)) (fun c => cb (ix2 0 c)) (upT h wu r) (backT 1 h wu H r) (backT 2 h wu H r))

/-- A function of 2816 columns continued by zero. -/
def ext (f : Fin 2816 → EReal) (k : ℕ) : EReal := if h : k < 2816 then f ⟨k, h⟩ else 0

theorem ext_of (f : Fin 2816 → EReal) (k : ℕ) (h : k < 2816) : ext f k = f ⟨k, h⟩ := dif_pos h

theorem aC_apply (h : FVec Ideal S512x1024 .bf16) (wu : Vec Ideal S1x1024x5632 .bf16) (cw : Vec Ideal S3x5632 .f32)
    (cb : Vec Ideal S1x5632 .f32) (H : Vec Ideal S8x5632 .f32) (o : ℕ) (ho : o + 256 ≤ 2816) (r : Fin 512) (c : Fin 256) :
    aC h wu cw cb H o ho (ix2 r c) = ext (aT h wu cw cb H r) (o + c.val) := by
  rw [ext_of _ _ (by omega)]
  unfold aC
  rw [actC_apply, uC_apply, uC_apply]
  unfold aT actRow
  congr 2
  exact Fin.ext (Nat.add_assoc _ _ _)

/-- The down-projection of a whole row of activations, in the three groups of columns. -/
theorem down_apply (a : (o : ℕ) → o + 256 ≤ 2816 → FVec Ideal S512x256 .bf16) (r : Fin 512) (f : Fin 2816 → EReal)
    (ha : ∀ o ho c, a o ho (ix2 r c) = ext f (o + c.val)) (wd : Vec Ideal S1x2816x1024 .bf16) (n : Fin 1024) :
    (addf (addf (dn4 (a 0 (by decide)) (a 256 (by decide)) (a 512 (by decide)) (a 768 (by decide)) (wdS wd 0 (by decide)))
        (dn4 (a 1024 (by decide)) (a 1280 (by decide)) (a 1536 (by decide)) (a 1792 (by decide)) (wdS wd 1024 (by decide))))
      (dn3 (a 2048 (by decide)) (a 2304 (by decide)) (a 2560 (by decide)) (wdT wd)) : FVec Ideal S512x1024 .f32) (ix2 r n)
      = ∑ k, f k * wd (ix3 0 k n) := by
  have hw : ∀ k : Fin 2816, f k * wd (ix3 0 k n) = ext (fun k => f k * wd (ix3 0 k n)) k.val := fun k => (ext_of (fun k => f k * wd (ix3 0 k n)) _ k.isLt).symm
  rw [Finset.sum_congr rfl fun k _ => hw k, sum_2816]
  show (dn4 _ _ _ _ _ (ix2 r n) + dn4 _ _ _ _ _ (ix2 r n)) + dn3 _ _ _ _ (ix2 r n) = _
  rw [dn4_apply, dn4_apply, dn3_apply]
  simp only [ha]
  congr 1
  · congr 1
    · refine Finset.sum_congr rfl fun k _ => ?_
      rw [show sel4 _ _ _ _ k = ext f (0 + k.val) from sel4_chunks (ext f) 0 k, ext_of _ _ (by omega), ext_of _ _ (by omega)]
      rw [wdS_apply]
      congr 1
      · exact congrArg f (Fin.ext (Nat.zero_add _))
      · exact congrArg wd (by idx_ext)
    · refine Finset.sum_congr rfl fun k _ => ?_
      rw [show sel4 _ _ _ _ k = ext f (1024 + k.val) from sel4_chunks (ext f) 1024 k, ext_of _ _ (by omega), ext_of _ _ (by omega), wdS_apply]
  · refine Finset.sum_congr rfl fun k _ => ?_
    rw [show sel3 _ _ _ k = ext f (2048 + k.val) from sel3_chunks (ext f) 2048 k, ext_of _ _ (by omega), ext_of _ _ (by omega), wdT_apply]

/-- What one grid point stores, at row `r` and column `n` of its tile. -/
theorem body_apply (x : Vec Ideal S1x512x1024 .f32) (ya yb yc yd : Vec Ideal S1x512x256 .bf16) (md : Vec Ideal S1x1x6144 .f32)
    (g : Vec Ideal S1x1024 .f32) (wo : Vec Ideal S1x1024x1024 .bf16) (wu : Vec Ideal S1x1024x5632 .bf16)
    (cw : Vec Ideal S3x5632 .f32) (cb : Vec Ideal S1x5632 .f32) (wd : Vec Ideal S1x2816x1024 .bf16)
    (H : Vec Ideal S8x5632 .f32) (r : Fin 512) (n : Fin 1024) :
    body x ya yb yc yd md g wo wu cw cb wd H (ix3 0 r n)
      = outRow (fun k => k0_pay7 (F := Ideal) md ya yb yc yd wo x (ix2 r k)) (fun k => md (ix3 0 0 ⟨5120 + k.val, by omega⟩))
          (aT (hT x ya yb yc yd md g wo) wu cw cb H r) (fun k c => wd (ix3 0 k c)) n := by
  rw [body_eq_clean]
  unfold clean
  rw [out_apply, down_apply (aC (hT x ya yb yc yd md g wo) wu cw cb H) r (aT (hT x ya yb yc yd md g wo) wu cw cb H r)
    (fun o ho c => aC_apply _ wu cw cb H o ho r c)]
  rfl

end Cert.Ffn

end
-- ==== Proof.FfnStep.lean ====
/-
  The feed-forward kernel's state after each grid point: the tile stored, and the eight rows carried on.
-/
module

public import proofs.«01_k».proof.Proof.FfnRead
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ)

/-- The body at grid point `t`, on the blocks of that point, from the eight rows `H`. -/
def bodyAt (c : Dev nD) (t : Fin cfg0.N) (H : Vec Ideal S8x5632 .f32) : Vec Ideal S1x512x1024 .f32 :=
  body (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) H

/-- The normalised tile at grid point `t`. -/
def hAt (c : Dev nD) (t : Fin cfg0.N) : FVec Ideal S512x1024 .bf16 :=
  hT (iblk m c 0 t) (iblk m c 1 t) (iblk m c 2 t) (iblk m c 3 t) (iblk m c 4 t) (iblk m c 5 t) (iblk m c 6 t) (iblk m c 7 t)

set_option maxHeartbeats 4000000 in
/-- At the first tile of a sequence the body runs from rows of zeros. -/
theorem outA (c : Dev nD) (t : Fin cfg0.N) (h : t.val % 4 = 0) :
    (outsAt0 m c t.val t.isLt).1 = bodyAt m c t (k0_pay2 (F := Ideal)) := by
  funext j
  rw [outsAt0_A m c t h]
  frame_out
  simp (disch := decide) only [↓ View.readCov_skip, ↓ View.readCov_cons_toLoadRect, ↓ View.readCov_fill]
  rfl

set_option maxHeartbeats 4000000 in
/-- At a later tile the body runs from the rows carried. -/
theorem outB (c : Dev nD) (t : Fin cfg0.N) (h : ¬ t.val % 4 = 0) :
    (outsAt0 m c t.val t.isLt).1 = bodyAt m c t (outsAt0 m c (t.val - 1) (by have := t.isLt; omega)).2 := by
  funext j
  rw [outsAt0_B m c t h]
  frame_out
  simp only [read_unread_whole]
  rfl

end Cert.Ffn

end
-- ==== Proof.FfnHist.lean ====
/-
  The eight rows the feed-forward kernel carries on after each grid point: the last eight up-projected rows of the tile.
-/
module

public import proofs.«01_k».proof.Proof.FfnStep

@[expose] public section

set_option maxRecDepth 16384

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ)

/-- The up-projected rows 504 to 511 of a tile: the rows carried to the next tile. -/
def tailT (h : FVec Ideal S512x1024 .bf16) (wu : Vec Ideal S1x1024x5632 .bf16) (i : S8x5632.Idx) : EReal :=
  upT h wu ⟨504 + (i 0).val, by have : (i 0).val < 8 := (i 0).isLt; omega⟩ (i 1)

/-- One chunk of the stored rows, at an index of the carried buffer. -/
theorem tail_tile (h : FVec Ideal S512x1024 .bf16) (wu : Vec Ideal S1x1024x5632 .bf16) (o : ℕ) (ho : o + 256 ≤ 5632)
    (i : S8x5632.Idx) (x : S8x256.Idx) (h0 : (i 0 : ℕ) = 0 + x 0) (h1 : (i 1 : ℕ) = o + x 1) :
    tailC (upC h (wuS wu o ho)) x = tailT h wu i := by
  have key : ∀ (r : Fin 8) (k : Fin 256), (i 0 : ℕ) = 0 + r → (i 1 : ℕ) = o + k →
      tailC (upC h (wuS wu o ho)) (ix2 r k) = tailT h wu i := by
    intro r k h0 h1
    rw [tailC_apply, upC_slice]
    unfold tailT
    have e0 : (⟨504 + r.val, by omega⟩ : Fin 512) = ⟨504 + (i 0).val, by omega⟩ := Fin.ext (by dsimp only; omega)
    have e1 : (⟨o + k.val, by omega⟩ : Fin 5632) = i 1 := Fin.ext h1.symm
    exact congrArg₂ (upT h wu) e0 e1
  have e : x = ix2 (x 0) (x 1) := by idx_ext
  exact (congrArg _ e).trans (key (x 0) (x 1) h0 h1)

/-- The last store of a list read at an index: its payload if it holds the index, the earlier stores otherwise. -/
theorem canon_step {o : ℕ} (inb) (w : S8x256.Idx → Ideal .f32) (L : List (View.Piece (Elt Ideal) S8x5632 .f32)) (i : S8x5632.Idx)
    (v : EReal) (h1 : ∀ x : S8x256.Idx, (i 0 : ℕ) = 0 + x 0 → (i 1 : ℕ) = o + x 1 → w x = v)
    (h2 : ¬ (o ≤ (i 1).val ∧ (i 1).val < o + 256) → View.canon L i = v) :
    View.canon (Val := Elt Ideal) (⟨Rect.unit (s := S8x5632) ![0, o] ![8, 256] inb, w⟩ :: L) i = v := by
  by_cases hm : i ∈ (Rect.unit (s := S8x5632) ![0, o] ![8, 256] inb).set
  · obtain ⟨x, rfl⟩ := (Rect.unit (s := S8x5632) ![0, o] ![8, 256] inb).exists_idx_of_mem hm
    refine (View.canon_cons_emb (Val := Elt Ideal) (e := .f32) (Rect.unit (s := S8x5632) ![0, o] ![8, 256] inb) w L x).trans (h1 x ?_ ?_)
    · exact Rect.idx_unit_val _ _ inb x 0
    · exact Rect.idx_unit_val _ _ inb x 1
  · refine (View.canon_cons_of_not_mem (Val := Elt Ideal) (e := .f32) ⟨Rect.unit (s := S8x5632) ![0, o] ![8, 256] inb, w⟩ L hm).trans ?_
    refine h2 fun hh => hm ((Rect.mem_set_unit (s := S8x5632) (off := ![0, o]) (size := ![8, 256]) (inb := inb) (i := i)).mpr fun a => ?_)
    have : (i 0).val < 8 := (i 0).isLt
    match a with
    | ⟨0, _⟩ => exact ⟨Nat.zero_le _, by show (i 0).val < 0 + 8; omega⟩
    | ⟨1, _⟩ => exact hh

set_option maxHeartbeats 4000000 in
/-- The rows carried on from a later tile. -/
theorem hist_B (c : Dev nD) (t : Fin cfg0.N) (h : ¬ t.val % 4 = 0) (i : S8x5632.Idx) :
    (outsAt0 m c t.val t.isLt).2 i = tailT (hAt m c t) (iblk m c 8 t) i := by
  have hi : (i 1).val < 5632 := (i 1).isLt
  rw [outsAt0_B m c t h]
  frame_out
  iterate 22
    refine canon_step _ _ _ _ _ (fun x h0 h1 => tail_tile (hAt m c t) (iblk m c 8 t) _ (by decide) i x h0 h1) (fun _ => ?_)
  omega

set_option maxHeartbeats 4000000 in
/-- The rows carried on from the first tile of a sequence. -/
theorem hist_A (c : Dev nD) (t : Fin cfg0.N) (h : t.val % 4 = 0) (i : S8x5632.Idx) :
    (outsAt0 m c t.val t.isLt).2 i = tailT (hAt m c t) (iblk m c 8 t) i := by
  have hi : (i 1).val < 5632 := (i 1).isLt
  rw [outsAt0_A m c t h]
  frame_out
  iterate 22
    refine canon_step _ _ _ _ _ (fun x h0 h1 => tail_tile (hAt m c t) (iblk m c 8 t) _ (by decide) i x h0 h1) (fun _ => ?_)
  omega

end Cert.Ffn

end
-- ==== Proof.FfnBlocks.lean ====
/-
  The blocks the feed-forward kernel reads at a grid point, at coordinates of the argument arrays.
-/
module

public import proofs.«01_k».proof.Proof.Gen.Kernel2Ideal.Value
public import Idealize.ShloMosaic.Lib.Pipeline.ValueKit
public import Idealize.ShloMosaic.Lib.Claim
public import Idealize.ShloMosaic.Lib.Pointwise

@[expose] public section

set_option maxRecDepth 16384

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ)

theorem lt_32 (t : Fin cfg0.N) : t.val < 32 := lt_of_lt_of_eq t.isLt N_0

/-- The sequence of the batch that grid point `t` works on. -/
def bt (t : Fin cfg0.N) : Fin 8 := ⟨t.val / 4, by have := lt_32 t; omega⟩

/-- The row of the sequence at row `r` of the tile of grid point `t`. -/
def rw' (t : Fin cfg0.N) (r : Fin 512) : Fin 2048 := ⟨512 * (t.val % 4) + r.val, by omega⟩

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, t.val % 4, 0] := (by decide +kernel : ∀ t : Fin grid0.N, _)
theorem idx3 : ∀ t : Fin cfg0.N, win0_3.index t = ![t.val / 4, t.val % 4, 0] := (by decide +kernel : ∀ t : Fin grid0.N, _)
theorem idx4 : ∀ t : Fin cfg0.N, win0_4.index t = ![t.val / 4, t.val % 4, 0] := (by decide +kernel : ∀ t : Fin grid0.N, _)
theorem idx5 : ∀ t : Fin cfg0.N, win0_5.index t = ![t.val / 4, 0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![1, 0, 0] := (by decide +kernel : ∀ t : Fin grid0.N, _)
theorem idx8 : ∀ t : Fin cfg0.N, win0_8.index t = ![1, 0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![1, 0, 0] := (by decide +kernel : ∀ t : Fin grid0.N, _)

theorem blk0 (c : Dev nD) (t : Fin cfg0.N) (r : Fin 512) (k : Fin 1024) :
    (iblk m c 0 t : Vec Ideal S1x512x1024 .f32) (ix3 0 r k) = m ((c : Thread nD τ).loc main_arg0) (ix3 (bt t) (rw' t r) k) := by
  blk_ext [iblk, V_main_arg0, idx0 t, bt, rw']

theorem blk1 (c : Dev nD) (t : Fin cfg0.N) (r : Fin 512) (k : Fin 256) :
    (iblk m c 1 t : Vec Ideal S1x512x256 .bf16) (ix3 0 r k) = m ((c : Thread nD τ).loc main_arg1) (ix3 (bt t) (rw' t r) k) := by
  blk_ext [iblk, V_main_arg1, idx1 t, bt, rw']

theorem blk2 (c : Dev nD) (t : Fin cfg0.N) (r : Fin 512) (k : Fin 256) :
    (iblk m c 2 t : Vec Ideal S1x512x256 .bf16) (ix3 0 r k) = m ((c : Thread nD τ).loc main_arg2) (ix3 (bt t) (rw' t r) k) := by
  blk_ext [iblk, V_main_arg2, idx2 t, bt, rw']

theorem blk3 (c : Dev nD) (t : Fin cfg0.N) (r : Fin 512) (k : Fin 256) :
    (iblk m c 3 t : Vec Ideal S1x512x256 .bf16) (ix3 0 r k) = m ((c : Thread nD τ).loc main_arg3) (ix3 (bt t) (rw' t r) k) := by
  blk_ext [iblk, V_main_arg3, idx3 t, bt, rw']

theorem blk4 (c : Dev nD) (t : Fin cfg0.N) (r : Fin 512) (k : Fin 256) :
    (iblk m c 4 t : Vec Ideal S1x512x256 .bf16) (ix3 0 r k) = m ((c : Thread nD τ).loc main_arg4) (ix3 (bt t) (rw' t r) k) := by
  blk_ext [iblk, V_main_arg4, idx4 t, bt, rw']

theorem blk5 (c : Dev nD) (t : Fin cfg0.N) (k : Fin 6144) :
    (iblk m c 5 t : Vec Ideal S1x1x6144 .f32) (ix3 0 0 k) = m ((c : Thread nD τ).loc main_arg5) (ix2 (bt t) k) := by
  blk_simp [iblk]
  entry_read
  pointwise []
  blk_ext [idx5 t, bt]

theorem blk6 (c : Dev nD) (t : Fin cfg0.N) (k : Fin 1024) :
    (iblk m c 6 t : Vec Ideal S1x1024 .f32) (ix2 0 k) = m ((c : Thread nD τ).loc main_arg6) (ix1 k) := by
  blk_simp [iblk]
  entry_read
  pointwise []
  blk_ext [idx6 t]

theorem blk7 (c : Dev nD) (t : Fin cfg0.N) (k n : Fin 1024) :
    (iblk m c 7 t : Vec Ideal S1x1024x1024 .bf16) (ix3 0 k n) = m ((c : Thread nD τ).loc main_arg7) (ix3 1 k n) := by
  blk_simp [iblk]
  entry_read
  pointwise []
  blk_ext [idx7 t]

theorem blk8 (c : Dev nD) (t : Fin cfg0.N) (k : Fin 1024) (n : Fin 5632) :
    (iblk m c 8 t : Vec Ideal S1x1024x5632 .bf16) (ix3 0 k n) = m ((c : Thread nD τ).loc main_arg8) (ix3 1 k n) := by
  blk_simp [iblk]
  entry_read
  pointwise []
  blk_ext [idx8 t]

theorem blk9 (c : Dev nD) (t : Fin cfg0.N) (k : Fin 3) (n : Fin 5632) :
    (iblk m c 9 t : Vec Ideal S3x5632 .f32) (ix2 k n) = m ((c : Thread nD τ).loc main_arg9) (ix2 k n) := by
  blk_ext [iblk, V_main_arg9, idx9 t]

theorem blk10 (c : Dev nD) (t : Fin cfg0.N) (n : Fin 5632) :
    (iblk m c 10 t : Vec Ideal S1x5632 .f32) (ix2 0 n) = m ((c : Thread nD τ).loc main_arg10) (ix1 n) := by
  blk_simp [iblk]
  entry_read
  pointwise []
  blk_ext [idx10 t]

theorem blk11 (c : Dev nD) (t : Fin cfg0.N) (k : Fin 2816) (n : Fin 1024) :
    (iblk m c 11 t : Vec Ideal S1x2816x1024 .bf16) (ix3 0 k n) = m ((c : Thread nD τ).loc main_arg11) (ix3 1 k n) := by
  blk_simp [iblk]
  entry_read
  pointwise []
  blk_ext [idx11 t]

end Cert.Ffn

end
-- ==== Proof.FfnArgs.lean ====
/-
  The second half of the layer as mathematics: the rows it computes from its argument arrays.
-/
module

public import proofs.«01_k».proof.Proof.FfnSpec
public import proofs.«01_k».proof.Kernel2Ideal
public import Idealize.ShloMosaic.Lib.Pointwise

@[expose] public section

set_option maxRecDepth 16384

noncomputable section

namespace Cert.Ffn

open Idealize.ShloMosaic
open Cert.Kernel2Ideal

/-- The argument arrays of the second half of the layer. -/
structure Args where
  x : FVec Ideal S8x2048x1024 .f32
  ya : FVec Ideal S8x2048x256 .bf16
  yb : FVec Ideal S8x2048x256 .bf16
  yc : FVec Ideal S8x2048x256 .bf16
  yd : FVec Ideal S8x2048x256 .bf16
  md : FVec Ideal S8x6144 .f32
  g : FVec Ideal S1024 .f32
  wo : FVec Ideal S4x1024x1024 .f32
  wu : FVec Ideal S4x1024x5632 .f32
  cw : FVec Ideal S3x5632 .f32
  cb : FVec Ideal S5632 .f32
  wd : FVec Ideal S4x2816x1024 .f32

variable (A : Args)

/-- The row after the mixers' output projection and residual. -/
def X1 (b : Fin 8) (s : Fin 2048) : Fin 1024 → EReal :=
  x1Row (fun k => A.x (ix3 b s k))
    (sel4 (fun j => A.ya (ix3 b s j)) (fun j => A.yb (ix3 b s j)) (fun j => A.yc (ix3 b s j)) (fun j => A.yd (ix3 b s j)))
    (fun k => A.md (ix2 b ⟨2048 + k.val, by omega⟩)) (fun k n => A.wo (ix3 1 k n))

/-- The row normalised and modulated. -/
def HH (b : Fin 8) (s : Fin 2048) : Fin 1024 → EReal :=
  hRow (X1 A b s) (fun k => A.g (ix1 k)) (fun k => A.md (ix2 b ⟨4096 + k.val, by omega⟩))
    (fun k => A.md (ix2 b ⟨3072 + k.val, by omega⟩))

/-- The row projected up. -/
def UP (b : Fin 8) (s : Fin 2048) : Fin 5632 → EReal := upRow (HH A b s) (fun k n => A.wu (ix3 1 k n))

/-- The up-projected row `d` places earlier in the sequence, zero before its start. -/
def UPb (d : ℕ) (b : Fin 8) (s : Fin 2048) (n : Fin 5632) : EReal :=
  if h : d ≤ s.val then UP A b ⟨s.val - d, by omega⟩ n else 0

/-- The gated activation of the convolved row. -/
def ACT (b : Fin 8) (s : Fin 2048) : Fin 2816 → EReal :=
  actRow (convRow (fun k n => A.cw (ix2 k n)) (fun n => A.cb (ix1 n)) (UP A b s) (UPb A 1 b s) (UPb A 2 b s))

/-- The layer's output row. -/
def OUT (b : Fin 8) (s : Fin 2048) : Fin 1024 → EReal :=
  outRow (X1 A b s) (fun k => A.md (ix2 b ⟨5120 + k.val, by omega⟩)) (ACT A b s) (fun k n => A.wd (ix3 1 k n))

end Cert.Ffn

end
-- ==== Proof.FfnKernel.lean ====
/-
  The array the feed-forward kernel leaves, at every index: the layer's output row of the argument arrays.
-/
module

public import proofs.«01_k».proof.Proof.FfnHist
public import proofs.«01_k».proof.Proof.FfnBlocks
public import proofs.«01_k».proof.Proof.FfnArgs

@[expose] public section

set_option maxRecDepth 16384

noncomputable section

namespace Cert.Ffn

open Idealize.ShloMosaic Idealize.ShloMosaic.TcCoe Idealize.SL.Sem
open Cert.Kernel2Ideal Cert.Kernel2Ideal.Gen Cert.Kernel2Ideal.Value

variable (m : (ℓ : Loc nD τ sig) → Buf (Elt Ideal) ℓ)

/-- The arguments as the program is started with them. -/
def argsK (c : Dev nD) : Args where
  x := m ((c : Thread nD τ).loc main_arg0)
  ya := m ((c : Thread nD τ).loc main_arg1)
  yb := m ((c : Thread nD τ).loc main_arg2)
  yc := m ((c : Thread nD τ).loc main_arg3)
  yd := m ((c : Thread nD τ).loc main_arg4)
  md := m ((c : Thread nD τ).loc main_arg5)
  g := m ((c : Thread nD τ).loc main_arg6)
  wo := m ((c : Thread nD τ).loc main_arg7)
  wu := m ((c : Thread nD τ).loc main_arg8)
  cw := m ((c : Thread nD τ).loc main_arg9)
  cb := m ((c : Thread nD τ).loc main_arg10)
  wd := m ((c : Thread nD τ).loc main_arg11)

theorem x1_at (c : Dev nD) (t : Fin cfg0.N) (r : Fin 512) (n : Fin 1024) :
    k0_pay7 (F := Ideal) (iblk m c 5 t) (iblk m c 1 t) (iblk m c 2 t) (iblk m c 3 t) (iblk m c 4 t) (iblk m c 7 t) (iblk m c 0 t) (ix2 r n)
      = X1 (argsK m c) (bt t) (rw' t r) n := by
  refine (x1_apply (iblk m c 0 t) (iblk m c 1 t) (iblk m c 2 t) (iblk m c 3 t) (iblk m c 4 t) (iblk m c 5 t) (iblk m c 7 t) r n).trans ?_
  simp only [blk0, blk1, blk2, blk3, blk4, blk5, blk7]
  rfl

theorem h_at (c : Dev nD) (t : Fin cfg0.N) (r : Fin 512) (n : Fin 1024) :
    hAt m c t (ix2 r n) = HH (argsK m c) (bt t) (rw' t r) n := by
  refine (h_apply (iblk m c 0 t) (iblk m c 1 t) (iblk m c 2 t) (iblk m c 3 t) (iblk m c 4 t) (iblk m c 5 t) (iblk m c 7 t) (iblk m c 6 t) r n).trans ?_
  simp only [x1_at, blk5, blk6]
  rfl

theorem up_at (c : Dev nD) (t : Fin cfg0.N) (r : Fin 512) (n : Fin 5632) :
    upT (hAt m c t) (iblk m c 8 t) r n = UP (argsK m c) (bt t) (rw' t r) n := by
  unfold upT
  simp only [h_at, blk8]
  rfl

/-- The rows carried after a grid point are the last eight up-projected rows of its tile. -/
theorem hist_at (c : Dev nD) (t : Fin cfg0.N) (r : Fin 8) (n : Fin 5632) :
    (outsAt0 m c t.val t.isLt).2 (ix2 r n) = UP (argsK m c) (bt t) (rw' t ⟨504 + r.val, by omega⟩) n := by
  refine Eq.trans ?_ (up_at m c t ⟨504 + r.val, by omega⟩ n)
  by_cases h : t.val % 4 = 0
  · exact hist_A m c t h (ix2 r n)
  · exact hist_B m c t h (ix2 r n)

theorem pay2_apply (r : Fin 8) (n : Fin 5632) : k0_pay2 (F := Ideal) (ix2 r n) = 0 := by
  pointwise [k0_pay2]

/-- The rows one and two places earlier, from the tile or from the rows carried into it. -/
theorem back_at (c : Dev nD) (t : Fin cfg0.N) (H : Vec Ideal S8x5632 .f32) (d : ℕ) (hd : d ≤ 8)
    (hA : t.val % 4 = 0 → ∀ r n, H (ix2 r n) = 0)
    (hB : ∀ h : ¬ t.val % 4 = 0, H = (outsAt0 m c (t.val - 1) (by have := t.isLt; omega)).2)
    (r : Fin 512) (n : Fin 5632) : backT d (hAt m c t) (iblk m c 8 t) H r n = UPb (argsK m c) d (bt t) (rw' t r) n := by
  have ht := lt_32 t
  unfold backT UPb
  by_cases e : d ≤ r.val
  · rw [dif_pos e, dif_pos (show d ≤ (rw' t r).val by simp only [rw']; omega), up_at]
    exact congrArg (fun s => UP (argsK m c) (bt t) s n) (Fin.ext (by simp only [rw']; omega))
  · rw [dif_neg e, dif_pos hd]
    by_cases h : t.val % 4 = 0
    · rw [dif_neg (show ¬ d ≤ (rw' t r).val by simp only [rw']; omega)]
      exact hA h _ _
    · rw [dif_pos (show d ≤ (rw' t r).val by simp only [rw']; omega), hB h]
      refine (hist_at m c ⟨t.val - 1, by have := t.isLt; omega⟩ ⟨8 + r.val - d, by omega⟩ n).trans ?_
      exact congrArg₂ (fun b s => UP (argsK m c) b s n) (Fin.ext (by simp only [bt]; omega)) (Fin.ext (by simp only [rw']; omega))

/-- What grid point `t` stores, at row `r` and column `n` of its tile. -/
theorem out_at (c : Dev nD) (t : Fin cfg0.N) (r : Fin 512) (n : Fin 1024) :
    (outsAt0 m c t.val t.isLt).1 (ix3 0 r n) = OUT (argsK m c) (bt t) (rw' t r) n := by
  obtain ⟨H, hH, hA, hB⟩ : ∃ H : Vec Ideal S8x5632 .f32, (outsAt0 m c t.val t.isLt).1 = bodyAt m c t H
      ∧ (t.val % 4 = 0 → ∀ r n, H (ix2 r n) = 0)
      ∧ (∀ h : ¬ t.val % 4 = 0, H = (outsAt0 m c (t.val - 1) (by have := t.isLt; omega)).2) := by
    by_cases h : t.val % 4 = 0
    · exact ⟨_, outA m c t h, fun _ => pay2_apply, fun h' => absurd h h'⟩
    · exact ⟨_, outB m c t h, fun h' => absurd h' h, fun _ => rfl⟩
  rw [hH]
  unfold bodyAt
  rw [body_apply]
  have e1 : backT 1 (hAt m c t) (iblk m c 8 t) H r = UPb (argsK m c) 1 (bt t) (rw' t r) :=
    funext fun n => back_at m c t H 1 (by decide) hA hB r n
  have e2 : backT 2 (hAt m c t) (iblk m c 8 t) H r = UPb (argsK m c) 2 (bt t) (rw' t r) :=
    funext fun n => back_at m c t H 2 (by decide) hA hB r n
  have e0 : upT (hAt m c t) (iblk m c 8 t) r = UP (argsK m c) (bt t) (rw' t r) := funext fun n => up_at m c t r n
  have ea : aT (hT (iblk m c 0 t) (iblk m c 1 t) (iblk m c 2 t) (iblk m c 3 t) (iblk m c 4 t) (iblk m c 5 t) (iblk m c 6 t) (iblk m c 7 t))
      (iblk m c 8 t) (iblk m c 9 t) (iblk m c 10 t) H r = ACT (argsK m c) (bt t) (rw' t r) := by
    show actRow (convRow _ _ (upT (hAt m c t) (iblk m c 8 t) r) (backT 1 (hAt m c t) (iblk m c 8 t) H r) (backT 2 (hAt m c t) (iblk m c 8 t) H r)) = _
    rw [e0, e1, e2]
    simp only [blk9, blk10]
    rfl
  rw [ea]
  simp only [x1_at, blk5, blk11]
  rfl

/-- The result array. -/
theorem kernel_apply (c : Dev nD) (b : Fin 8) (s : Fin 2048) (n : Fin 1024) :
    G12 m c (ix3 b s n) = OUT (argsK m c) b s n := by
  have hp : pt12Of (ix3 b s n) < cfg0.N := by
    refine lt_of_lt_of_eq ?_ N_0.symm
    show 4 * (b.val / 1 - 0) + 1 * (s.val / 512 - 0) + 1 * (n.val / 1024 - 0) < 32
    omega
  have hv : pt12Of (ix3 b s n) = 4 * b.val + s.val / 512 := by
    show 4 * (b.val / 1 - 0) + 1 * (s.val / 512 - 0) + 1 * (n.val / 1024 - 0) = _
    omega
  unfold G12
  rw [dif_pos hp, ← outsAt0_sweep m c _ hp]
  have hl : loc12Of (ix3 b s n) = ix3 0 ⟨s.val % 512, by omega⟩ n := by
    funext a
    match a with
    | ⟨0, _⟩ => exact Fin.ext (by show b.val % 1 = 0; omega)
    | ⟨1, _⟩ => rfl
    | ⟨2, _⟩ => exact Fin.ext (by show n.val % 1024 = n.val; omega)
  rw [hl]
  refine (out_at m c ⟨pt12Of (ix3 b s n), hp⟩ ⟨s.val % 512, by omega⟩ n).trans ?_
  exact congrArg₂ (fun b s => OUT (argsK m c) b s n) (Fin.ext (by simp only [bt]; omega)) (Fin.ext (by simp only [rw']; omega))

end Cert.Ffn

end
-- ==== Proof.FfnRef.lean ====
/-
  The reference of the layer's second half, read at every index: the layer's output row of the argument arrays.
-/
module

public import proofs.«01_k».proof.Proof.FfnArgs
public import proofs.«01_k».proof.Proof.Gen.Reference2Ideal.Run
public import Idealize.ShloMosaic.Lib.Pointwise

@[expose] public section

set_option maxRecDepth 16384

noncomputable section

namespace Cert.Ffn

open Idealize.ShloMosaic Idealize.ShloMosaic.TcCoe Idealize.SL.Sem
open Cert.Reference2Ideal Cert.Reference2Ideal.Gen

/-- The reference's array after the mixers' output projection and residual. -/
def rX1 (a0 : FVec Ideal S8x2048x1024 .f32) (a1 a2 a3 a4 : FVec Ideal S8x2048x256 .bf16) (a5 : FVec Ideal S8x6144 .f32)
    (a7 : FVec Ideal S4x1024x1024 .f32) : FVec Ideal S8x2048x1024 .f32 :=
  (addf a0 (mulf (broadcastInDim S8x2048x1024 ![0, 1, 2] bcast_S8x1x1024_S8x2048x1024_0_1_2 (extractStridedSlice S8x1x1024 ![0, 0, 2048] (broadcastInDim S8x1x6144 ![0, 2] bcast_S8x6144_S8x1x6144_0_2 a5) slices_S8x1x6144_S8x1x1024_0_0_2048)) (Host.dotGeneral dot_S8x2048x1024_S1024x1024_S8x2048x1024_2_0_01_1_n_n none ((concatenate S8x2048x1024 2 [⟨S8x2048x256, a1⟩, ⟨S8x2048x256, a2⟩, ⟨S8x2048x256, a3⟩, ⟨S8x2048x256, a4⟩] concatenates_S8x2048x256_S8x2048x256_S8x2048x256_S8x2048x256_S8x2048x1024_d2 : FVec Ideal S8x2048x1024 .bf16)) (shapeCast _ (extractStridedSlice S1x1024x1024 ![1, 0, 0] a7 slices_S4x1024x1024_S1x1024x1024_1_0_0) shapeCasts_S1x1024x1024_S1024x1024))))

/-- The reference's normalised and modulated array. -/
def rH (X1 : FVec Ideal S8x2048x1024 .f32) (a5 : FVec Ideal S8x6144 .f32) (a6 : FVec Ideal S1024 .f32) :
    FVec Ideal S8x2048x1024 .f32 :=
  (addf (mulf (mulf (mulf X1 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf X1 X1) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a6))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 4096] (broadcastInDim S8x1x6144 ![0, 2] bcast_S8x6144_S8x1x6144_0_2 a5) slices_S8x1x6144_S8x1x1024_0_0_4096)))) (broadcastInDim S8x2048x1024 ![0, 1, 2] bcast_S8x1x1024_S8x2048x1024_0_1_2 (extractStridedSlice S8x1x1024 ![0, 0, 3072] (broadcastInDim S8x1x6144 ![0, 2] bcast_S8x6144_S8x1x6144_0_2 a5) slices_S8x1x6144_S8x1x1024_0_0_3072)))

/-- The reference's up-projection. -/
def rUp (HH : FVec Ideal S8x2048x1024 .f32) (a8 : FVec Ideal S4x1024x5632 .f32) : FVec Ideal S8x2048x5632 .f32 :=
  (Host.dotGeneral dot_S8x2048x1024_S1024x5632_S8x2048x5632_2_0_01_1_n_n none HH (shapeCast _ (extractStridedSlice S1x1024x5632 ![1, 0, 0] a8 slices_S4x1024x5632_S1x1024x5632_1_0_0) shapeCasts_S1x1024x5632_S1024x5632))

/-- Two rows of zeros in front. -/
def rPad (UP : FVec Ideal S8x2048x5632 .f32) : FVec Ideal S8x2050x5632 .f32 :=
  (pad S8x2050x5632 ![0, 2, 0] ![0, 0, 0] ![0, 0, 0] UP (sitofp .f32 (constantI S_ 32 0#32)) pads_S8x2048x5632_S8x2050x5632_000_200_000 h_S_)

/-- The reference's convolution. -/
def rConv (PD : FVec Ideal S8x2050x5632 .f32) (a9 : FVec Ideal S3x5632 .f32) (a10 : FVec Ideal S5632 .f32) :
    FVec Ideal S8x2048x5632 .f32 :=
  (addf (addf (addf (addf (broadcastInDim S8x2048x5632 ![] bcast_S_S8x2048x5632 (constant S_ .f32 0x00000000#32)) (mulf (broadcastInDim S8x2048x5632 ![0, 1, 2] bcast_S1x1x5632_S8x2048x5632_0_1_2 (broadcastInDim S1x1x5632 ![2] bcast_S5632_S1x1x5632_2 (shapeCast _ (extractStridedSlice S1x5632 ![0, 0] a9 slices_S3x5632_S1x5632_0_0) shapeCasts_S1x5632_S5632))) (extractStridedSlice S8x2048x5632 ![0, 0, 0] PD slices_S8x2050x5632_S8x2048x5632_0_0_0))) (mulf (broadcastInDim S8x2048x5632 ![0, 1, 2] bcast_S1x1x5632_S8x2048x5632_0_1_2 (broadcastInDim S1x1x5632 ![2] bcast_S5632_S1x1x5632_2 (shapeCast _ (extractStridedSlice S1x5632 ![1, 0] a9 slices_S3x5632_S1x5632_1_0) shapeCasts_S1x5632_S5632))) (extractStridedSlice S8x2048x5632 ![0, 1, 0] PD slices_S8x2050x5632_S8x2048x5632_0_1_0))) (mulf (broadcastInDim S8x2048x5632 ![0, 1, 2] bcast_S1x1x5632_S8x2048x5632_0_1_2 (broadcastInDim S1x1x5632 ![2] bcast_S5632_S1x1x5632_2 (shapeCast _ (extractStridedSlice S1x5632 ![2, 0] a9 slices_S3x5632_S1x5632_2_0) shapeCasts_S1x5632_S5632))) (extractStridedSlice S8x2048x5632 ![0, 2, 0] PD slices_S8x2050x5632_S8x2048x5632_0_2_0))) (broadcastInDim S8x2048x5632 ![0, 1, 2] bcast_S1x1x5632_S8x2048x5632_0_1_2 (broadcastInDim S1x1x5632 ![2] bcast_S5632_S1x1x5632_2 a10)))

/-- The reference's result. -/
def rOut (X1 : FVec Ideal S8x2048x1024 .f32) (CV : FVec Ideal S8x2048x5632 .f32) (a5 : FVec Ideal S8x6144 .f32)
    (a11 : FVec Ideal S4x2816x1024 .f32) : FVec Ideal S8x2048x1024 .f32 :=
  addf X1 (mulf (broadcastInDim S8x2048x1024 ![0, 1, 2] bcast_S8x1x1024_S8x2048x1024_0_1_2 (extractStridedSlice S8x1x1024 ![0, 0, 5120] (broadcastInDim S8x1x6144 ![0, 2] bcast_S8x6144_S8x1x6144_0_2 a5) slices_S8x1x6144_S8x1x1024_0_0_5120)) (Host.dotGeneral dot_S8x2048x2816_S2816x1024_S8x2048x1024_2_0_01_1_n_n none (mulf (mulf (extractStridedSlice S8x2048x2816 ![0, 0, 0] CV slices_S8x2048x5632_S8x2048x2816_0_0_0) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (extractStridedSlice S8x2048x2816 ![0, 0, 0] CV slices_S8x2048x5632_S8x2048x2816_0_0_0)))))) (extractStridedSlice S8x2048x2816 ![0, 0, 2816] CV slices_S8x2048x5632_S8x2048x2816_0_0_2816)) (shapeCast _ (extractStridedSlice S1x2816x1024 ![1, 0, 0] a11 slices_S4x2816x1024_S1x2816x1024_1_0_0) shapeCasts_S1x2816x1024_S2816x1024)))

theorem rX1_apply (A : Args) (b : Fin 8) (s : Fin 2048) (n : Fin 1024) :
    rX1 A.x A.ya A.yb A.yc A.yd A.md A.wo (ix3 b s n) = X1 A b s n := by
  pointwise [rX1, X1, x1Row, sel4]

theorem rH_apply (A : Args) (X : FVec Ideal S8x2048x1024 .f32) (hX : ∀ b s n, X (ix3 b s n) = X1 A b s n)
    (b : Fin 8) (s : Fin 2048) (n : Fin 1024) : rH X A.md A.g (ix3 b s n) = HH A b s n := by
  have e : rH X A.md A.g (ix3 b s n) = hRow (fun k => X (ix3 b s k)) (fun k => A.g (ix1 k))
      (fun k => A.md (ix2 b ⟨4096 + k.val, by omega⟩)) (fun k => A.md (ix2 b ⟨3072 + k.val, by omega⟩)) n := by
    pointwise [rH, hRow, rms]
  rw [e]
  simp only [hX]
  rfl

theorem rUp_apply (A : Args) (H : FVec Ideal S8x2048x1024 .f32) (hH : ∀ b s n, H (ix3 b s n) = HH A b s n)
    (b : Fin 8) (s : Fin 2048) (n : Fin 5632) : rUp H A.wu (ix3 b s n) = UP A b s n := by
  have e : rUp H A.wu (ix3 b s n) = ∑ k : Fin 1024, H (ix3 b s k) * A.wu (ix3 1 k n) := by
    pointwise [rUp]
  rw [e]
  simp only [hH]
  rfl

theorem rPad_apply (A : Args) (U : FVec Ideal S8x2048x5632 .f32) (hU : ∀ b s n, U (ix3 b s n) = UP A b s n)
    (b : Fin 8) (s : Fin 2050) (n : Fin 5632) :
    rPad U (ix3 b s n) = if h : 2 ≤ s.val then UP A b ⟨s.val - 2, by omega⟩ n else 0 := by
  have e : rPad U (ix3 b s n) = if h : 2 ≤ s.val then U (ix3 b ⟨s.val - 2, by omega⟩ n) else 0 := by
    pointwise [rPad]
    have z : (FloatOps.sitofp (F := Ideal) FTy.f32 (0#32) : EReal) = 0 := by
      show (((0#32 : BitVec 32).toInt : ℝ) : EReal) = 0
      simp
    by_cases h : 2 ≤ s.val
    · rw [dif_pos ⟨h, by omega⟩, dif_pos h]
    · rw [dif_neg (fun hh => h hh.1), dif_neg h]
      exact z
  rw [e]
  simp only [hU]

theorem rConv_apply (A : Args) (P : FVec Ideal S8x2050x5632 .f32)
    (hP : ∀ b s n, P (ix3 b s n) = if h : 2 ≤ s.val then UP A b ⟨s.val - 2, by omega⟩ n else 0)
    (b : Fin 8) (s : Fin 2048) (n : Fin 5632) :
    rConv P A.cw A.cb (ix3 b s n)
      = convRow (fun k n => A.cw (ix2 k n)) (fun n => A.cb (ix1 n)) (UP A b s) (UPb A 1 b s) (UPb A 2 b s) n := by
  have e : rConv P A.cw A.cb (ix3 b s n) = 0 + A.cw (ix2 0 n) * P (ix3 b ⟨s.val, by omega⟩ n)
      + A.cw (ix2 1 n) * P (ix3 b ⟨1 + s.val, by omega⟩ n) + A.cw (ix2 2 n) * P (ix3 b ⟨2 + s.val, by omega⟩ n) + A.cb (ix1 n) := by
    pointwise [rConv]
  have e0 : P (ix3 b ⟨s.val, by omega⟩ n) = UPb A 2 b s n := hP _ _ _
  have e1 : P (ix3 b ⟨1 + s.val, by omega⟩ n) = UPb A 1 b s n := by
    rw [hP]
    unfold UPb
    by_cases h : 1 ≤ s.val
    · rw [dif_pos h, dif_pos (by dsimp only; omega)]
      exact congrArg (fun s => UP A b s n) (Fin.ext (by dsimp only; omega))
    · rw [dif_neg h, dif_neg (by dsimp only; omega)]
  have e2 : P (ix3 b ⟨2 + s.val, by omega⟩ n) = UP A b s n := by
    rw [hP, dif_pos (by dsimp only; omega)]
    exact congrArg (fun s => UP A b s n) (Fin.ext (by dsimp only; omega))
  rw [e, e0, e1, e2]
  unfold convRow conv
  dsimp only
  rw [zero_add]
  ac_rfl

theorem rOut_apply (A : Args) (X : FVec Ideal S8x2048x1024 .f32) (C : FVec Ideal S8x2048x5632 .f32)
    (hX : ∀ b s n, X (ix3 b s n) = X1 A b s n)
    (hC : ∀ b s n, C (ix3 b s n)
      = convRow (fun k n => A.cw (ix2 k n)) (fun n => A.cb (ix1 n)) (UP A b s) (UPb A 1 b s) (UPb A 2 b s) n)
    (b : Fin 8) (s : Fin 2048) (n : Fin 1024) : rOut X C A.md A.wd (ix3 b s n) = OUT A b s n := by
  have e : rOut X C A.md A.wd (ix3 b s n) = outRow (fun k => X (ix3 b s k)) (fun k => A.md (ix2 b ⟨5120 + k.val, by omega⟩))
      (actRow (fun k => C (ix3 b s k))) (fun k n => A.wd (ix3 1 k n)) n := by
    pointwise [rOut, outRow, actRow, act]
    simp only [sub_eq_add_neg, zero_add]
  rw [e]
  simp only [hX, hC]
  rfl

/-- The arguments as the reference is started with them. -/
def argsR (m : (ℓ : Loc nD τ sig) → Buf (Elt Ideal) ℓ) (c : Dev nD) : Args where
  x := m ((c.tc : Thread nD τ).loc main_arg0)
  ya := m ((c.tc : Thread nD τ).loc main_arg1)
  yb := m ((c.tc : Thread nD τ).loc main_arg2)
  yc := m ((c.tc : Thread nD τ).loc main_arg3)
  yd := m ((c.tc : Thread nD τ).loc main_arg4)
  md := m ((c.tc : Thread nD τ).loc main_arg5)
  g := m ((c.tc : Thread nD τ).loc main_arg6)
  wo := m ((c.tc : Thread nD τ).loc main_arg7)
  wu := m ((c.tc : Thread nD τ).loc main_arg8)
  cw := m ((c.tc : Thread nD τ).loc main_arg9)
  cb := m ((c.tc : Thread nD τ).loc main_arg10)
  wd := m ((c.tc : Thread nD τ).loc main_arg11)

/-- The reference's result in its stages. -/
def rAll (A : Args) : FVec Ideal S8x2048x1024 .f32 :=
  rOut (rX1 A.x A.ya A.yb A.yc A.yd A.md A.wo)
    (rConv (rPad (rUp (rH (rX1 A.x A.ya A.yb A.yc A.yd A.md A.wo) A.md A.g) A.wu)) A.cw A.cb) A.md A.wd

theorem rAll_apply (A : Args) (b : Fin 8) (s : Fin 2048) (n : Fin 1024) : rAll A (ix3 b s n) = OUT A b s n :=
  rOut_apply A _ _ (rX1_apply A) (rConv_apply A _ (rPad_apply A _ (rUp_apply A _ (rH_apply A _ (rX1_apply A))))) b s n

/-- The reference's result array, at every index. -/
theorem reference_apply (m : (ℓ : Loc nD τ sig) → Buf (Elt Ideal) ℓ) (c : Dev nD) (b : Fin 8) (s : Fin 2048) (n : Fin 1024) :
    Value.res_main_v71 m c (ix3 b s n) = OUT (argsR m c) b s n := by
  have e : Value.res_main_v71 m c = rAll (argsR m c) := rfl
  rw [e]
  exact rAll_apply _ b s n

end Cert.Ffn

end
-- ==== Proof.FfnClaim.lean ====
/-
  The claims about the second half of the layer: the kernel and the reference leave the same array.
-/
module

public import proofs.«01_k».proof.Defs
public import proofs.«01_k».proof.Proof.FfnKernel
public import proofs.«01_k».proof.Proof.FfnRef
public import proofs.«01_k».proof.Proof.Gen.Kernel2.Frame
public import Idealize.ShloMosaic.Lib.Quiescent

@[expose] public section

set_option maxRecDepth 16384

noncomputable section

namespace Cert.Ffn

open Idealize.ShloMosaic Idealize.ShloMosaic.TcCoe Idealize.SL.Sem

/-- Two arrays of the result's shape equal at every triple of coordinates are equal. -/
theorem ext3 {u v : FVec Ideal Cert.Kernel2Ideal.S8x2048x1024 .f32} (h : ∀ b s n, u (ix3 b s n) = v (ix3 b s n)) : u = v := by
  funext i
  have e : i = ix3 (i 0) (i 1) (i 2) := by idx_ext
  rw [e]
  exact h _ _ _

/-- Every run of the kernel terminates, keeps the arguments and leaves the counters at zero. -/
theorem frame_kernel : Cert.quiescent_Kernel2 := fun m ρ _ => Cert.Kernel2.Gen.frame m ρ

/-- The same of the kernel over the extended reals. -/
theorem frame_ideal : Cert.quiescent_Kernel2Ideal := fun m ρ _ => Cert.Kernel2Ideal.Gen.frame m ρ

/-- The same of the reference over the extended reals. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel and the reference, started on the same arguments, end with the same array. -/
theorem algebraic : Cert.algebraic_Kernel2Ideal_Reference2Ideal := by
  intro m g m' g' _ hag
  refine ⟨fun c => Cert.Kernel2Ideal.Value.G12 m c, Cert.Kernel2Ideal.Value.run m g, ?_⟩
  refine (θ_run Cert.Reference2Ideal.defs _ _).mono (fun r h c => ⟨(h c).1.trans ?_, (h c).2⟩)
    (Cert.Reference2Ideal.Value.run (F := Ideal) m' g')
  refine ext3 fun b s n => ?_
  have hA : argsR m' c = argsK m c := by
    obtain ⟨h0, h1, h2, h3, h4, h5, h6, h7, h8, h9, h10, h11⟩ := hag c
    unfold argsR argsK
    congr 1
  exact (reference_apply m' c b s n).trans ((congrArg (fun A => OUT A b s n) hA).trans (kernel_apply m c b s n).symm)

end Cert.Ffn

end
-- ==== Proof.LruMath.lean ====
/-
  The mathematics that the recurrent mixer needs: extended reals that are real numbers, the decay's two ways of being
  written, the doubling scan within eight rows, and sums against block-diagonal matrices.
-/
module

public import Idealize.ShloMosaic.PureOps.Ideal
public import Idealize.ShloMosaic.Lib.IdealHost
public import Mathlib.Analysis.SpecialFunctions.Trigonometric.DerivHyp
public import Mathlib.Tactic.Positivity
public import Mathlib.Tactic.NormNum
public import Mathlib.Tactic.Ring
public import Mathlib.Tactic.FieldSimp
public import Mathlib.Tactic.IntervalCases
public import Mathlib.Tactic.Linarith

@[expose] public section

noncomputable section

namespace Cert.Lru

open Idealize.ShloMosaic

/-- An extended real that is a real number. -/
def IsR (x : EReal) : Prop := ∃ r : ℝ, x = (r : EReal)

theorem IsR.coe (r : ℝ) : IsR (r : EReal) := ⟨r, rfl⟩
theorem IsR.zero : IsR 0 := ⟨0, by simp⟩
theorem IsR.one : IsR 1 := ⟨1, by simp⟩

theorem IsR.add {x y : EReal} : IsR x → IsR y → IsR (x + y) := by
  rintro ⟨a, rfl⟩ ⟨b, rfl⟩; exact ⟨a + b, by push_cast; rfl⟩

theorem IsR.mul {x y : EReal} : IsR x → IsR y → IsR (x * y) := by
  rintro ⟨a, rfl⟩ ⟨b, rfl⟩; exact ⟨a * b, by push_cast; rfl⟩

theorem IsR.neg {x : EReal} : IsR x → IsR (-x) := by
  rintro ⟨a, rfl⟩; exact ⟨-a, by push_cast; rfl⟩

theorem IsR.sum {ι : Type} (s : Finset ι) {f : ι → EReal} (h : ∀ i, IsR (f i)) : IsR (∑ i ∈ s, f i) := by
  classical
  induction s using Finset.induction_on with
  | empty => simpa using IsR.zero
  | insert a s ha ih => rw [Finset.sum_insert ha]; exact (h a).add ih

theorem IsR.exp {x : EReal} : IsR x → IsR (Ideal.exp x) := by
  rintro ⟨a, rfl⟩; exact ⟨Real.exp a, rfl⟩

theorem IsR.tanh {x : EReal} : IsR x → IsR (Ideal.tanh x) := by
  rintro ⟨a, rfl⟩; exact ⟨Real.tanh a, rfl⟩

/-- A real number minus itself is zero. -/
theorem IsR.sub_self {x : EReal} : IsR x → x - x = 0 := by
  rintro ⟨a, rfl⟩; rw [← EReal.coe_sub]; simp

/-- A sum of squares of real numbers, divided by a positive number and moved up by a positive one, has a real
    reciprocal root. -/
theorem IsR.rms {ι : Type} (s : Finset ι) {f : ι → EReal} (h : ∀ i, IsR (f i)) {n e : ℝ} (hn : 0 < n) (he : 0 < e) :
    IsR (Ideal.rsqrt (Ideal.div (∑ i ∈ s, f i * f i) (n : EReal) + (e : EReal))) := by
  choose g hg using h
  have hs : (∑ i ∈ s, f i * f i) = ((∑ i ∈ s, g i * g i : ℝ) : EReal) := by
    classical
    induction s using Finset.induction_on with
    | empty => simp
    | insert a s ha ih => rw [Finset.sum_insert ha, Finset.sum_insert ha, ih, hg a]; push_cast; rfl
  have hp : (0 : ℝ) < (∑ i ∈ s, g i * g i) * (1 / n) + e := by
    have : 0 ≤ ∑ i ∈ s, g i * g i := Finset.sum_nonneg fun i _ => mul_self_nonneg _
    positivity
  rw [hs, Ideal.div_coe hn.ne', ← EReal.coe_mul, ← EReal.coe_add, Ideal.rsqrt_coe, if_neg (not_lt.2 hp.le), if_neg hp.ne']
  exact ⟨_, rfl⟩

/-- Division by a number is multiplication by its reciprocal. -/
theorem div_eq_mul {n m : ℝ} (hn : n ≠ 0) (h : 1 / n = m) (x : EReal) : Ideal.div x (n : EReal) = x * (m : EReal) := by
  rw [Ideal.div_coe hn, h]

/-! ### The printed constants -/

theorem c_neg8 : Ideal.ofBits .f32 0xC1000000#32 = ((-8 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_64 : Ideal.ofBits .f32 0x42800000#32 = ((64 : ℝ) : EReal) := by
  simp [Ideal.ofBits, Ideal.ieee, -EReal.coe_mul]; norm_num
theorem c_64inv : Ideal.ofBits .f32 0x3C800000#32 = ((1 / 64 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_eps : ∃ e : ℝ, 0 < e ∧ Ideal.ofBits .f32 0x358637BD#32 = (e : EReal) := by
  refine ⟨8796093 * 2 ^ (-43 : ℤ), by positivity, ?_⟩
  simp [Ideal.ofBits, Ideal.ieee]
theorem c_gelu1 : IsR (Ideal.ofBits .f32 0x3D372713#32) := by
  refine ⟨12003091 * 2 ^ (-28 : ℤ), ?_⟩
  simp [Ideal.ofBits, Ideal.ieee]
theorem c_gelu2 : IsR (Ideal.ofBits .f32 0x3F4C422A#32) := by
  refine ⟨13386282 * 2 ^ (-24 : ℤ), ?_⟩
  simp [Ideal.ofBits, Ideal.ieee]

/-! ### The gates and the decay -/

/-- The logistic function of a real number is a nonnegative real number. -/
theorem logistic_real {x : EReal} (h : IsR x) : ∃ r : ℝ, 0 ≤ r ∧ Ideal.logistic x = (r : EReal) := by
  obtain ⟨a, rfl⟩ := h
  exact ⟨(1 + Real.exp (-a))⁻¹, by positivity, Ideal.logistic_coe a⟩

/-- `log (1 + eᶻ)` in the form that does not overflow. -/
def softplus (z : EReal) : EReal := max z 0 + Ideal.log1p (Ideal.exp (-(max z (-z))))

/-- It is a nonnegative real number at a real number. -/
theorem softplus_real {z : EReal} (h : IsR z) : ∃ r : ℝ, 0 ≤ r ∧ softplus z = (r : EReal) := by
  obtain ⟨a, rfl⟩ := h
  refine ⟨max a 0 + Real.log (1 + Real.exp (-(max a (-a)))), ?_, ?_⟩
  · have h1 : 0 ≤ Real.log (1 + Real.exp (-(max a (-a)))) := Real.log_nonneg (by linarith [Real.exp_pos (-(max a (-a)))])
    have h2 : 0 ≤ max a 0 := le_max_right _ _
    linarith
  · have hp : ¬ (1 + Real.exp (-(max a (-a))) ≤ 0) := by linarith [Real.exp_pos (-(max a (-a)))]
    have e1 : max (a : EReal) (-(a : EReal)) = ((max a (-a) : ℝ) : EReal) := by
      rw [← EReal.coe_neg]; exact (EReal.coe_strictMono.monotone.map_max (a := a) (b := -a)).symm
    have e2 : max (a : EReal) 0 = ((max a 0 : ℝ) : EReal) := by
      rw [← EReal.coe_zero]; exact (EReal.coe_strictMono.monotone.map_max (a := a) (b := 0)).symm
    have e3 : Ideal.log1p ((Real.exp (-(max a (-a))) : ℝ) : EReal) = ((Real.log (1 + Real.exp (-(max a (-a)))) : ℝ) : EReal) := by
      show Ideal.log (1 + _) = _
      rw [← EReal.coe_one, ← EReal.coe_add, Ideal.log_coe, if_neg hp]
    unfold softplus
    rw [e1, e2, ← EReal.coe_neg, Ideal.exp_coe, e3, ← EReal.coe_add]

/-- The two ways of writing `1 - e²ˡ`. -/
theorem tanh_mul (l : ℝ) : Real.tanh (-l) * (Real.exp l * Real.exp l + 1) = -(Real.exp (2 * l) - 1) := by
  have e2 : Real.exp (2 * l) = Real.exp l * Real.exp l := by rw [← Real.exp_add]; ring_nf
  have hp := Real.exp_pos l
  have hi : Real.exp (-l) * Real.exp l = 1 := by rw [← Real.exp_add]; simp
  have hm := Real.exp_pos (-l)
  rw [Real.tanh_eq_sinh_div_cosh, Real.sinh_eq, Real.cosh_eq, e2, neg_neg]
  have hd : Real.exp (-l) + Real.exp l ≠ 0 := by positivity
  field_simp
  nlinarith [hi]

/-- The input's factor `√(1 - a²)` as the kernel writes it, from the logarithm of the decay. -/
theorem mult_eq {L : EReal} (h : IsR L) :
    Ideal.sqrt (Ideal.tanh (-L) * (Ideal.exp L * Ideal.exp L + 1)) = Ideal.sqrt (-(Ideal.exp (((2 : ℝ) : EReal) * L) - 1)) := by
  obtain ⟨l, rfl⟩ := h
  have e : Ideal.exp (((2 : ℝ) : EReal) * (l : EReal)) = ((Real.exp (2 * l) : ℝ) : EReal) := by
    rw [← EReal.coe_mul, Ideal.exp_coe]
  rw [e, ← EReal.coe_neg, Ideal.tanh_coe, Ideal.exp_coe, ← EReal.coe_mul,
    ← EReal.coe_one, ← EReal.coe_add, ← EReal.coe_mul, ← EReal.coe_sub, ← EReal.coe_neg, tanh_mul]

/-- It is a real number where the logarithm of the decay is not positive. -/
theorem mult_real {l : ℝ} (h : l ≤ 0) : IsR (Ideal.sqrt (-(Ideal.exp (((2 : ℝ) : EReal) * (l : EReal)) - 1))) := by
  have hn : ¬ (-(Real.exp (2 * l) - 1) < 0) := by
    have : Real.exp (2 * l) ≤ 1 := Real.exp_le_one_iff.2 (by linarith)
    linarith
  rw [← EReal.coe_mul, Ideal.exp_coe, ← EReal.coe_one, ← EReal.coe_sub, ← EReal.coe_neg, Ideal.sqrt_coe, if_neg hn]
  exact ⟨_, rfl⟩

/-! ### The doubling scan -/

/-- One doubling of the inputs: within groups of eight rows, row `r` takes up the row `d` before it. -/
def dblU {R : Type} [Add R] [Mul R] (d : ℕ) (a u : ℕ → R) (r : ℕ) : R := if d ≤ r % 8 then a r * u (r - d) + u r else u r

/-- One doubling of the decays. -/
def dblA {R : Type} [Mul R] (d : ℕ) (a : ℕ → R) (r : ℕ) : R := if d ≤ r % 8 then a r * a (r - d) else a r

/-- The inputs after three doublings. -/
def scanU {R : Type} [Add R] [Mul R] (a u : ℕ → R) : ℕ → R := dblU 4 (dblA 2 (dblA 1 a)) (dblU 2 (dblA 1 a) (dblU 1 a u))

/-- The decays after three doublings. -/
def scanA {R : Type} [Mul R] (a : ℕ → R) : ℕ → R := dblA 4 (dblA 2 (dblA 1 a))

theorem dblU_coe (d : ℕ) (a u : ℕ → ℝ) (r : ℕ) :
    dblU d (fun r => (a r : EReal)) (fun r => (u r : EReal)) r = ((dblU d a u r : ℝ) : EReal) := by
  unfold dblU; split <;> push_cast <;> rfl

theorem dblA_coe (d : ℕ) (a : ℕ → ℝ) (r : ℕ) :
    dblA d (fun r => (a r : EReal)) r = ((dblA d a r : ℝ) : EReal) := by
  unfold dblA; split <;> push_cast <;> rfl

theorem scanU_coe (a u : ℕ → ℝ) (r : ℕ) :
    scanU (fun r => (a r : EReal)) (fun r => (u r : EReal)) r = ((scanU a u r : ℝ) : EReal) := by
  unfold scanU
  simp only [funext (dblA_coe _ _), funext (dblU_coe _ _ _)]

theorem scanA_coe (a : ℕ → ℝ) (r : ℕ) : scanA (fun r => (a r : EReal)) r = ((scanA a r : ℝ) : EReal) := by
  unfold scanA
  simp only [funext (dblA_coe _ _)]

set_option maxHeartbeats 2000000 in
/-- After three doublings each row of a group of eight gives the recurrence's state from the state before the group. -/
theorem scan_group_real (a u s : ℕ → ℝ) (n : ℕ) (hs : ∀ r, r < n → s (r + 1) = a r * s r + u r) (q j : ℕ) (hj : j < 8)
    (h : 8 * q + j < n) : scanU a u (8 * q + j) + scanA a (8 * q + j) * s (8 * q) = s (8 * q + j + 1) := by
  have h0 := hs (8 * q)
  have h1 := hs (8 * q + 1)
  have h2 := hs (8 * q + 2)
  have h3 := hs (8 * q + 3)
  have h4 := hs (8 * q + 4)
  have h5 := hs (8 * q + 5)
  have h6 := hs (8 * q + 6)
  have h7 := hs (8 * q + 7)
  have m1 : (8 * q + 1) % 8 = 1 := by omega
  have m2 : (8 * q + 2) % 8 = 2 := by omega
  have m3 : (8 * q + 3) % 8 = 3 := by omega
  have m4 : (8 * q + 4) % 8 = 4 := by omega
  have m5 : (8 * q + 5) % 8 = 5 := by omega
  have m6 : (8 * q + 6) % 8 = 6 := by omega
  have m7 : (8 * q + 7) % 8 = 7 := by omega
  have m0 : (8 * q) % 8 = 0 := by omega
  interval_cases j
  all_goals simp only [scanU, scanA, dblU, dblA, m0, m1, m2, m3, m4, m5, m6, m7, Nat.add_zero, Nat.reduceLeDiff,
    Nat.not_ofNat_le_one, Nat.le_refl, Nat.reduceSubDiff, Nat.add_one_sub_one, if_true, if_false, nonpos_iff_eq_zero, OfNat.ofNat_ne_zero,
    Nat.one_le_ofNat, one_ne_zero]
  · rw [h0 (by omega)]
    generalize a (8 * q) = a0, u (8 * q) = u0, s (8 * q) = s0
    ring
  · rw [h1 (by omega), h0 (by omega)]
    generalize a (8 * q + 1) = a1, u (8 * q + 1) = u1
    generalize a (8 * q) = a0, u (8 * q) = u0, s (8 * q) = s0
    ring
  · rw [h2 (by omega), h1 (by omega), h0 (by omega)]
    generalize a (8 * q + 1) = a1, u (8 * q + 1) = u1
    generalize a (8 * q + 2) = a2, u (8 * q + 2) = u2
    generalize a (8 * q) = a0, u (8 * q) = u0, s (8 * q) = s0
    ring
  · rw [h3 (by omega), h2 (by omega), h1 (by omega), h0 (by omega)]
    generalize a (8 * q + 1) = a1, u (8 * q + 1) = u1
    generalize a (8 * q + 2) = a2, u (8 * q + 2) = u2
    generalize a (8 * q + 3) = a3, u (8 * q + 3) = u3
    generalize a (8 * q) = a0, u (8 * q) = u0, s (8 * q) = s0
    ring
  · rw [h4 (by omega), h3 (by omega), h2 (by omega), h1 (by omega), h0 (by omega)]
    generalize a (8 * q + 1) = a1, u (8 * q + 1) = u1
    generalize a (8 * q + 2) = a2, u (8 * q + 2) = u2
    generalize a (8 * q + 3) = a3, u (8 * q + 3) = u3
    generalize a (8 * q + 4) = a4, u (8 * q + 4) = u4
    generalize a (8 * q) = a0, u (8 * q) = u0, s (8 * q) = s0
    ring
  · rw [h5 (by omega), h4 (by omega), h3 (by omega), h2 (by omega), h1 (by omega), h0 (by omega)]
    generalize a (8 * q + 1) = a1, u (8 * q + 1) = u1
    generalize a (8 * q + 2) = a2, u (8 * q + 2) = u2
    generalize a (8 * q + 3) = a3, u (8 * q + 3) = u3
    generalize a (8 * q + 4) = a4, u (8 * q + 4) = u4
    generalize a (8 * q + 5) = a5, u (8 * q + 5) = u5
    generalize a (8 * q) = a0, u (8 * q) = u0, s (8 * q) = s0
    ring
  · rw [h6 (by omega), h5 (by omega), h4 (by omega), h3 (by omega), h2 (by omega), h1 (by omega), h0 (by omega)]
    generalize a (8 * q + 1) = a1, u (8 * q + 1) = u1
    generalize a (8 * q + 2) = a2, u (8 * q + 2) = u2
    generalize a (8 * q + 3) = a3, u (8 * q + 3) = u3
    generalize a (8 * q + 4) = a4, u (8 * q + 4) = u4
    generalize a (8 * q + 5) = a5, u (8 * q + 5) = u5
    generalize a (8 * q + 6) = a6, u (8 * q + 6) = u6
    generalize a (8 * q) = a0, u (8 * q) = u0, s (8 * q) = s0
    ring
  · rw [h7 (by omega), h6 (by omega), h5 (by omega), h4 (by omega), h3 (by omega), h2 (by omega), h1 (by omega), h0 (by omega)]
    generalize a (8 * q + 1) = a1, u (8 * q + 1) = u1
    generalize a (8 * q + 2) = a2, u (8 * q + 2) = u2
    generalize a (8 * q + 3) = a3, u (8 * q + 3) = u3
    generalize a (8 * q + 4) = a4, u (8 * q + 4) = u4
    generalize a (8 * q + 5) = a5, u (8 * q + 5) = u5
    generalize a (8 * q + 6) = a6, u (8 * q + 6) = u6
    generalize a (8 * q + 7) = a7, u (8 * q + 7) = u7
    generalize a (8 * q) = a0, u (8 * q) = u0, s (8 * q) = s0
    ring

/-- The same over extended reals that are real numbers. -/
theorem scan_group (a u s : ℕ → EReal) (n : ℕ) (ha : ∀ r, IsR (a r)) (hu : ∀ r, IsR (u r)) (hS : ∀ r, IsR (s r))
    (hs : ∀ r, r < n → s (r + 1) = a r * s r + u r) (q j : ℕ) (hj : j < 8) (h : 8 * q + j < n) :
    scanU a u (8 * q + j) + scanA a (8 * q + j) * s (8 * q) = s (8 * q + j + 1) := by
  choose a' ha using ha
  choose u' hu using hu
  choose s' hS using hS
  obtain rfl : a = fun r => (a' r : EReal) := funext ha
  obtain rfl : u = fun r => (u' r : EReal) := funext hu
  obtain rfl : s = fun r => (s' r : EReal) := funext hS
  rw [scanU_coe, scanA_coe, ← EReal.coe_mul, ← EReal.coe_add,
    scan_group_real a' u' s' n (fun r hr => by have := hs r hr; simp only [] at this; exact_mod_cast this) q j hj h]

/-! ### Block-diagonal matrices -/

/-- A sum over `m * n` places, block by block. -/
theorem sum_blocks (m n : ℕ) (F : Fin (m * n) → EReal) (hb : ∀ (p : Fin m) (d : Fin n), n * p.val + d.val < m * n) :
    ∑ k, F k = ∑ p : Fin m, ∑ d : Fin n, F ⟨n * p.val + d.val, hb p d⟩ := by
  rw [← (finProdFinEquiv (m := m) (n := n)).sum_comp, Fintype.sum_prod_type]
  refine Finset.sum_congr rfl fun p _ => Finset.sum_congr rfl fun d _ => congrArg F (Fin.ext ?_)
  rw [finProdFinEquiv_apply_val]
  exact Nat.add_comm _ _

/-- A sum over 256 columns against a column of a block-diagonal matrix of four blocks is a sum over one block. -/
theorem sum_block (f : Fin 256 → EReal) (g : Fin 256 → EReal) (c : Fin 256) :
    ∑ k : Fin 256, f k * (if k.val / 64 = c.val / 64 then g k else 0)
      = ∑ d : Fin 64, f ⟨64 * (c.val / 64) + d.val, by omega⟩ * g ⟨64 * (c.val / 64) + d.val, by omega⟩ := by
  refine (sum_blocks 4 64 (fun k : Fin 256 => f k * (if k.val / 64 = c.val / 64 then g k else 0))
    (fun p d => by omega)).trans ?_
  have hc : c.val / 64 < 4 := by omega
  rw [Finset.sum_eq_single (⟨c.val / 64, hc⟩ : Fin 4)]
  · refine Finset.sum_congr rfl fun d _ => ?_
    have h1 : (64 * (c.val / 64) + d.val) / 64 = c.val / 64 := by omega
    simp only [h1, if_true]
  · intro n _ hn
    refine Finset.sum_eq_zero fun d _ => ?_
    have h1 : ¬ (64 * n.val + d.val) / 64 = c.val / 64 := by
      intro h; exact hn (Fin.ext (by show n.val = c.val / 64; omega))
    simp only [if_neg h1, mul_zero]
  · intro h; exact absurd (Finset.mem_univ _) h

end Cert.Lru

end
-- ==== Proof.LruSpec.lean ====
/-
  The recurrent mixer with the projection in front of it as mathematics: every value as a function of the sequence, the
  place in it and the column, over the extended reals, from the argument arrays.
-/
module

public import proofs.«01_k».proof.Proof.FfnSpec
public import proofs.«01_k».proof.Proof.LruMath
public import proofs.«01_k».proof.KernelIdeal
public import Idealize.ShloMosaic.Lib.Pointwise

@[expose] public section

set_option maxRecDepth 16384

noncomputable section

namespace Cert.Lru

open Idealize.ShloMosaic
open Cert.KernelIdeal

/-- The argument arrays. -/
structure Args where
  x : FVec Ideal S8x2048x1024 .f32
  md : FVec Ideal S8x6144 .f32
  g : FVec Ideal S1024 .f32
  w : FVec Ideal S4x1024x2944 .f32
  cw : FVec Ideal S4x256 .f32
  cb : FVec Ideal S256 .f32
  gaw : FVec Ideal S4x64x64 .f32
  gab : FVec Ideal S256 .f32
  gxw : FVec Ideal S4x64x64 .f32
  gxb : FVec Ideal S256 .f32
  lam : FVec Ideal S256 .f32
  og : FVec Ideal S256 .f32

variable (A : Args)

/-- The input row at a place of the sequence, zero past its end. -/
def xAt (b : Fin 8) (s : ℕ) (k : Fin 1024) : EReal := if h : s < 2048 then A.x (ix3 b ⟨s, h⟩ k) else 0

/-- The row normalised and modulated. -/
def HR (b : Fin 8) (s : ℕ) : Fin 1024 → EReal :=
  Cert.Ffn.hRow (xAt A b s) (fun k => A.g (ix1 k)) (fun k => A.md (ix2 b ⟨1024 + k.val, by omega⟩))
    (fun k => A.md (ix2 b ⟨k.val, by omega⟩))

/-- The row projected. -/
def PR (b : Fin 8) (s : ℕ) (n : Fin 2944) : EReal := ∑ k, HR A b s k * A.w (ix3 1 k n)

/-- The recurrence's input columns of the projection. -/
def XRAW (b : Fin 8) (s : ℕ) (c : Fin 256) : EReal := PR A b s ⟨1536 + c.val, by omega⟩

/-- The output gate's columns of the projection. -/
def XG (b : Fin 8) (s : ℕ) (c : Fin 256) : EReal := PR A b s ⟨1792 + c.val, by omega⟩

/-- The input columns `j` places earlier, zero before the sequence begins. -/
def PREV (j : ℕ) (b : Fin 8) (s : ℕ) (c : Fin 256) : EReal := if j ≤ s then XRAW A b (s - j) c else 0

/-- The causal convolution of width four. -/
def XR (b : Fin 8) (s : ℕ) (c : Fin 256) : EReal :=
  A.cw (ix2 3 c) * XRAW A b s c + A.cb (ix1 c) + A.cw (ix2 2 c) * PREV A 1 b s c + A.cw (ix2 1 c) * PREV A 2 b s c
    + A.cw (ix2 0 c) * PREV A 3 b s c

/-- A gate: the logistic function of a block-diagonal map of a row, with a bias. -/
def gate (w : FVec Ideal S4x64x64 .f32) (bias : FVec Ideal S256 .f32) (x : Fin 256 → EReal) (c : Fin 256) : EReal :=
  Ideal.logistic (∑ d : Fin 64, x ⟨64 * (c.val / 64) + d.val, by omega⟩
    * w (ix3 ⟨c.val / 64, by omega⟩ d ⟨c.val % 64, by omega⟩) + bias (ix1 c))

/-- The recurrence gate. -/
def RG (b : Fin 8) (s : ℕ) (c : Fin 256) : EReal := gate A.gaw A.gab (XR A b s) c

/-- The input gate. -/
def IG (b : Fin 8) (s : ℕ) (c : Fin 256) : EReal := gate A.gxw A.gxb (XR A b s) c

/-- The logarithm of the decay. -/
def LL (b : Fin 8) (s : ℕ) (c : Fin 256) : EReal :=
  Ideal.ofBits .f32 0xC1000000#32 * RG A b s c * softplus (-(A.lam (ix1 c)))

/-- The decay. -/
def AA (b : Fin 8) (s : ℕ) (c : Fin 256) : EReal := Ideal.exp (LL A b s c)

/-- The input's factor: one at the start of the sequence, elsewhere the root of one minus the squared decay. -/
def MU (b : Fin 8) (s : ℕ) (c : Fin 256) : EReal :=
  if s = 0 then 1 else Ideal.sqrt (-(Ideal.exp (Ideal.ofBits .f32 0x40000000#32 * LL A b s c) - 1))

/-- The recurrence's scaled input. -/
def UU (b : Fin 8) (s : ℕ) (c : Fin 256) : EReal := MU A b s c * IG A b s c * XR A b s c

/-- The recurrence's state before place `s`. -/
def ST (b : Fin 8) (c : Fin 256) : ℕ → EReal
  | 0 => 0
  | s + 1 => AA A b s c * ST b c s + UU A b s c

/-- The smooth gate of the output, in the form with the hyperbolic tangent. -/
def gelu (x : EReal) : EReal :=
  Ideal.ofBits .f32 0x3F000000#32 * x
    * (1 + Ideal.tanh (Ideal.ofBits .f32 0x3F4C422A#32 * (x + Ideal.ofBits .f32 0x3D372713#32 * (x * x * x))))

/-- The gated state. -/
def YY (b : Fin 8) (s : ℕ) (c : Fin 256) : EReal := ST A b c (s + 1) * gelu (XG A b s c)

/-- The mean square of a group of 64 columns. -/
def MS (y : Fin 256 → EReal) (c : Fin 256) : EReal :=
  Ideal.div (∑ d : Fin 64, y ⟨64 * (c.val / 64) + d.val, by omega⟩ * y ⟨64 * (c.val / 64) + d.val, by omega⟩)
    (Ideal.ofBits .f32 0x42800000#32)

/-- The mixer's output. -/
def YC (b : Fin 8) (s : ℕ) (c : Fin 256) : EReal :=
  YY A b s c * Ideal.rsqrt (MS (YY A b s) c + Ideal.ofBits .f32 0x358637BD#32) * A.og (ix1 c)

/-! ### Real numbers in, real numbers out -/

/-- Every entry of every argument is a real number. -/
structure Fin' : Prop where
  x : ∀ i, IsR (A.x i)
  md : ∀ i, IsR (A.md i)
  g : ∀ i, IsR (A.g i)
  w : ∀ i, IsR (A.w i)
  cw : ∀ i, IsR (A.cw i)
  cb : ∀ i, IsR (A.cb i)
  gaw : ∀ i, IsR (A.gaw i)
  gab : ∀ i, IsR (A.gab i)
  gxw : ∀ i, IsR (A.gxw i)
  gxb : ∀ i, IsR (A.gxb i)
  lam : ∀ i, IsR (A.lam i)
  og : ∀ i, IsR (A.og i)

variable {A} (h : Fin' A)
include h

theorem xAt_real (b : Fin 8) (s : ℕ) (k : Fin 1024) : IsR (xAt A b s k) := by
  unfold xAt; split
  · exact h.x _
  · exact IsR.zero

theorem HR_real (b : Fin 8) (s : ℕ) (k : Fin 1024) : IsR (HR A b s k) := by
  obtain ⟨e, he, h3⟩ := c_eps
  unfold HR Cert.Ffn.hRow Cert.Ffn.rms
  rw [c_1024, h3]
  exact ((((xAt_real h b s k).mul (IsR.rms _ (xAt_real h b s) (by norm_num) he)).mul (h.g _)).mul (IsR.one.add (h.md _))).add (h.md _)

theorem PR_real (b : Fin 8) (s : ℕ) (n : Fin 2944) : IsR (PR A b s n) :=
  IsR.sum _ fun k => (HR_real h b s k).mul (h.w _)

theorem PREV_real (j : ℕ) (b : Fin 8) (s : ℕ) (c : Fin 256) : IsR (PREV A j b s c) := by
  unfold PREV; split
  · exact PR_real h _ _ _
  · exact IsR.zero

theorem XR_real (b : Fin 8) (s : ℕ) (c : Fin 256) : IsR (XR A b s c) :=
  (((((h.cw _).mul (PR_real h _ _ _)).add (h.cb _)).add ((h.cw _).mul (PREV_real h 1 b s c))).add
    ((h.cw _).mul (PREV_real h 2 b s c))).add ((h.cw _).mul (PREV_real h 3 b s c))

theorem RG_real (b : Fin 8) (s : ℕ) (c : Fin 256) : ∃ r : ℝ, 0 ≤ r ∧ RG A b s c = (r : EReal) :=
  logistic_real ((IsR.sum _ fun d => (XR_real h b s _).mul (h.gaw _)).add (h.gab _))

theorem IG_real (b : Fin 8) (s : ℕ) (c : Fin 256) : IsR (IG A b s c) :=
  let ⟨r, _, e⟩ := logistic_real ((IsR.sum _ fun d => (XR_real h b s _).mul (h.gxw _)).add (h.gxb _))
  ⟨r, e⟩

/-- The decay's logarithm is a real number, not above zero. -/
theorem LL_real (b : Fin 8) (s : ℕ) (c : Fin 256) : ∃ l : ℝ, l ≤ 0 ∧ LL A b s c = (l : EReal) := by
  obtain ⟨r, hr, e⟩ := RG_real h b s c
  obtain ⟨p, hp, e'⟩ := softplus_real (h.lam (ix1 c)).neg
  refine ⟨-8 * r * p, ?_, ?_⟩
  · have := mul_nonneg hr hp
    linarith
  · unfold LL
    rw [e, e', c_neg8]
    push_cast
    rfl

theorem LL_isR (b : Fin 8) (s : ℕ) (c : Fin 256) : IsR (LL A b s c) :=
  let ⟨l, _, e⟩ := LL_real h b s c
  ⟨l, e⟩

theorem AA_real (b : Fin 8) (s : ℕ) (c : Fin 256) : IsR (AA A b s c) := (LL_isR h b s c).exp

theorem UU_real (b : Fin 8) (s : ℕ) (c : Fin 256) : IsR (UU A b s c) := by
  refine IsR.mul (IsR.mul ?_ (IG_real h b s c)) (XR_real h b s c)
  unfold MU; split
  · exact IsR.one
  · obtain ⟨l, hl, e⟩ := LL_real h b s c
    rw [e, c_two]
    exact mult_real hl

theorem ST_real (b : Fin 8) (c : Fin 256) : ∀ s, IsR (ST A b c s)
  | 0 => IsR.zero
  | s + 1 => ((AA_real h b s c).mul (ST_real b c s)).add (UU_real h b s c)

theorem YY_real (b : Fin 8) (s : ℕ) (c : Fin 256) : IsR (YY A b s c) := by
  refine (ST_real h b c (s + 1)).mul ?_
  have hx := PR_real h b s ⟨1792 + c.val, by omega⟩
  have hh : IsR (Ideal.ofBits .f32 0x3F000000#32) := ⟨_, c_half⟩
  exact (hh.mul hx).mul (IsR.one.add (IsR.tanh (c_gelu2.mul (hx.add (c_gelu1.mul ((hx.mul hx).mul hx))))))

end Cert.Lru

end
-- ==== Proof.LruPay.lean ====
/-
  The values the recurrent mixer's kernel computes at one grid point, read at a row and a column of its tile.
-/
module

public import proofs.«01_k».proof.Proof.LruSpec
public import proofs.«01_k».proof.Proof.Gen.KernelIdeal.Skeleton
public import Idealize.ShloMosaic.Lib.Pointwise

@[expose] public section

set_option maxRecDepth 16384

noncomputable section

namespace Cert.Lru

open Idealize.ShloMosaic Idealize.ShloMosaic.TcCoe Idealize.SL.Sem
open Cert.KernelIdeal Cert.KernelIdeal.Gen

theorem h_apply (md : Vec Ideal S1x1x6144 .f32) (x : Vec Ideal S1x512x1024 .f32) (g : Vec Ideal S1x1024 .f32)
    (r : Fin 512) (k : Fin 1024) :
    k0_pay2 (F := Ideal) md x g (ix2 r k) = Cert.Ffn.hRow (fun k => x (ix3 0 r k)) (fun k => g (ix2 0 k))
      (fun k => md (ix3 0 0 ⟨1024 + k.val, by omega⟩)) (fun k => md (ix3 0 0 ⟨k.val, by omega⟩)) k := by
  pointwise [k0_pay2, Cert.Ffn.hRow, Cert.Ffn.rms]

theorem pc_apply (md : Vec Ideal S1x1x6144 .f32) (x : Vec Ideal S1x512x1024 .f32) (g : Vec Ideal S1x1024 .f32)
    (w : Vec Ideal S1x1024x512 .bf16) (r n : Fin 512) :
    k0_pay3 (F := Ideal) md x g w (ix2 r n) = ∑ k : Fin 1024, k0_pay2 (F := Ideal) md x g (ix2 r k) * w (ix3 0 k n) := by
  pointwise [k0_pay3]

/-- A tile projected onto 256 columns. -/
theorem proj_apply (h : FVec Ideal S512x1024 .bf16) (w : Vec Ideal S1x1024x256 .bf16) (r : Fin 512) (c : Fin 256) :
    k0_pay6 (F := Ideal) h w (ix3 0 r c) = ∑ k : Fin 1024, h (ix2 r k) * w (ix3 0 k c) := by
  pointwise [k0_pay6]

/-- A tile projected onto the last 128 columns. -/
theorem proj_last_apply (h : FVec Ideal S512x1024 .bf16) (w : Vec Ideal S1x1024x128 .bf16) (r : Fin 512) (c : Fin 128) :
    k0_pay117 (F := Ideal) h w (ix3 0 r c) = ∑ k : Fin 1024, h (ix2 r k) * w (ix3 0 k c) := by
  pointwise [k0_pay117]

theorem xraw_apply (p : FVec Ideal S512x512 .f32) (r : Fin 512) (c : Fin 256) :
    k0_pay9 (F := Ideal) p (ix2 r c) = p (ix2 r ⟨c.val, by omega⟩) := by
  pointwise [k0_pay9]

theorem xg_apply (p : FVec Ideal S512x512 .f32) (r : Fin 512) (c : Fin 256) :
    k0_pay10 (F := Ideal) p (ix2 r c) = p (ix2 r ⟨256 + c.val, by omega⟩) := by
  pointwise [k0_pay10]

/-- The row `d` places before row `r` of a tile: in the tile, or among the eight rows before it. -/
def back (d : ℕ) (u : FVec Ideal S512x256 .f32) (hist : Vec Ideal S8x256 .f32) (r : Fin 512) (c : Fin 256) : EReal :=
  if h : d ≤ r.val then u (ix2 ⟨r.val - d, by omega⟩ c) else if h' : d ≤ 8 then hist (ix2 ⟨8 + r.val - d, by omega⟩ c) else 0

/-- The convolved tile. -/
def xrK (p : FVec Ideal S512x512 .f32) (hist : Vec Ideal S8x256 .f32) (cw : Vec Ideal S4x256 .f32) (cb : Vec Ideal S1x256 .f32) :
    FVec Ideal S512x256 .f32 :=
  k0_pay14 (F := Ideal) (k0_pay11 p hist cw cb) (k0_pay12 cw) (k0_pay13 p hist)

theorem xr_apply (p : FVec Ideal S512x512 .f32) (hist : Vec Ideal S8x256 .f32) (cw : Vec Ideal S4x256 .f32)
    (cb : Vec Ideal S1x256 .f32) (r : Fin 512) (c : Fin 256) :
    xrK p hist cw cb (ix2 r c) = cw (ix2 3 c) * k0_pay9 (F := Ideal) p (ix2 r c) + cb (ix2 0 c)
      + cw (ix2 2 c) * back 1 (k0_pay9 p) hist r c + cw (ix2 1 c) * back 2 (k0_pay9 p) hist r c
      + cw (ix2 0 c) * back 3 (k0_pay9 p) hist r c := by
  have hr := r.isLt
  have key : ∀ (u : FVec Ideal S512x256 .f32) (d : ℕ) (hd : d ≤ 8) (h1 : 8 + r.val - d < 520),
      (if h : 8 + r.val - d < 8 then hist (ix2 ⟨8 + r.val - d, h⟩ c) else u (ix2 ⟨8 + r.val - d - 8, by omega⟩ c))
        = back d u hist r c := by
    intro u d hd h1
    unfold back
    by_cases h : d ≤ r.val
    · rw [dif_neg (by omega), dif_pos h]
      exact congrArg u (by idx_ext <;> omega)
    · rw [dif_pos (by omega), dif_neg h, dif_pos hd]
  rw [← key _ 1 (by decide) (by omega), ← key _ 2 (by decide) (by omega), ← key _ 3 (by decide) (by omega)]
  generalize hu : k0_pay9 (F := Ideal) p = u
  pointwise [xrK, k0_pay14, k0_pay11, k0_pay12, k0_pay13, hu]
  have e1 : (8 + r.val + 520 - 1) % 520 = 8 + r.val - 1 := by omega
  have e2 : (8 + r.val + 520 - 2) % 520 = 8 + r.val - 2 := by omega
  have e3 : (8 + r.val + 520 - 3) % 520 = 8 + r.val - 3 := by omega
  simp only [e1, e2, e3]

theorem tail_apply (u : FVec Ideal S512x256 .f32) (r : Fin 8) (c : Fin 256) :
    k0_pay15 (F := Ideal) u (ix2 r c) = u (ix2 ⟨504 + r.val, by omega⟩ c) := by
  pointwise [k0_pay15]

theorem rg_apply (a : FVec Ideal S512x256 .f32) (b : FVec Ideal S1x256 .f32) (d : FVec Ideal S512x256 .f32)
    (w : Vec Ideal S256x256 .bf16) (bias : Vec Ideal S1x256 .f32) (r : Fin 512) (c : Fin 256) :
    k0_pay17 (F := Ideal) a b d w bias (ix2 r c)
      = Ideal.logistic (∑ k : Fin 256, k0_pay14 (F := Ideal) a b d (ix2 r k) * w (ix2 k c) + bias (ix2 0 c)) := by
  generalize hu : k0_pay14 (F := Ideal) a b d = u
  pointwise [k0_pay17, hu, Ideal.logistic]
  simp only [sub_eq_add_neg, zero_add]

theorem ig_apply (a : FVec Ideal S512x256 .f32) (b : FVec Ideal S1x256 .f32) (d : FVec Ideal S512x256 .f32)
    (w : Vec Ideal S256x256 .bf16) (bias : Vec Ideal S1x256 .f32) (r : Fin 512) (c : Fin 256) :
    k0_pay19 (F := Ideal) (k0_pay18 a b d w bias) (ix2 r c)
      = Ideal.logistic (∑ k : Fin 256, k0_pay14 (F := Ideal) a b d (ix2 r k) * w (ix2 k c) + bias (ix2 0 c)) := by
  generalize hu : k0_pay14 (F := Ideal) a b d = u
  pointwise [k0_pay19, k0_pay18, hu, Ideal.logistic]
  simp only [sub_eq_add_neg, zero_add]

theorem ll_apply (rg : FVec Ideal S512x256 .f32) (lam : Vec Ideal S1x256 .f32) (r : Fin 512) (c : Fin 256) :
    k0_pay22 (F := Ideal) rg lam (ix2 r c)
      = Ideal.ofBits .f32 0xC1000000#32 * rg (ix2 r c) * softplus (-(lam (ix2 0 c))) := by
  pointwise [k0_pay22, softplus]
  simp only [sub_eq_add_neg, zero_add]
  rfl

theorem aa_apply (l : FVec Ideal S512x256 .f32) (r : Fin 512) (c : Fin 256) :
    k0_pay23 (F := Ideal) l (ix2 r c) = Ideal.exp (l (ix2 r c)) := by
  pointwise [k0_pay23]

/-- The scaled input before the doublings. -/
def u0K (ti : BitVec 32) (x i l : FVec Ideal S512x256 .f32) : FVec Ideal S512x256 .f32 :=
  mulf (mulf (select (broadcastTo S512x256 (shapeCast S512x1 (andi (cmpi .eq (iota .tc S512x1 32 [0] iota_S512x1_d0_w32) (broadcast S512x1 0#32))
        (broadcast S512x1 (Scalar.cmpi .eq ti 0#32))) shapeCasts_S512x1_S512x1) broadcasts_S512x1_S512x256)
      (broadcast S512x256 (Scalar.ofBits .f32 0x3F800000#32))
      (sqrt (mulf (tanh (subf (broadcast S512x256 (Scalar.ofBits .f32 0x00000000#32)) l))
        (addf (mulf (k0_pay23 l) (k0_pay23 l)) (broadcast S512x256 (Scalar.ofBits .f32 0x3F800000#32)))))) i) x

/-- One doubling of the inputs under a mask. -/
def dU (d : BitVec 32) (m : IVec S512x1 1) (a u : FVec Ideal S512x256 .f32) : FVec Ideal S512x256 .f32 :=
  select (broadcastTo S512x256 (shapeCast S512x1 m shapeCasts_S512x1_S512x1) broadcasts_S512x1_S512x256)
    (addf (mulf a (dynamicRotate 0 d none u rotates_S512x256_d0)) u) u

/-- One doubling of the decays under a mask. -/
def dA (d : BitVec 32) (m : IVec S512x1 1) (a : FVec Ideal S512x256 .f32) : FVec Ideal S512x256 .f32 :=
  select (broadcastTo S512x256 (shapeCast S512x1 m shapeCasts_S512x1_S512x1) broadcasts_S512x1_S512x256)
    (mulf a (dynamicRotate 0 d none a rotates_S512x256_d0)) a

/-- The number of a row of the tile. -/
abbrev rowN : IVec S512x1 32 := iota .tc S512x1 32 [0] iota_S512x1_d0_w32

/-- A column of a tile as a function of the row, zero past its end. -/
def col (u : FVec Ideal S512x256 .f32) (c : Fin 256) (n : ℕ) : EReal := if h : n < 512 then u (ix2 ⟨n, h⟩ c) else 0

theorem col_of (u : FVec Ideal S512x256 .f32) (c : Fin 256) (n : ℕ) (h : n < 512) : col u c n = u (ix2 ⟨n, h⟩ c) := dif_pos h

theorem mask1 : ∀ r : Fin 512, (k0_pay25 : IVec S512x1 1) (ix2 r 0) = if 1 ≤ r.val % 8 then 1#1 else 0#1 := by decide +kernel
theorem mask2 : ∀ r : Fin 512, k0_pay28 rowN (ix2 r 0) = if 2 ≤ r.val % 8 then 1#1 else 0#1 := by decide +kernel
theorem mask4 : ∀ r : Fin 512, k0_pay30 rowN (ix2 r 0) = if 4 ≤ r.val % 8 then 1#1 else 0#1 := by decide +kernel

theorem sel_one {α : Type} (x y : α) : Scalar.select 1#1 x y = x := rfl
theorem sel_zero {α : Type} (x y : α) : Scalar.select 0#1 x y = y := rfl

theorem dU_apply (d : BitVec 32) (e : ℕ) (he : d.toNat = e) (h8 : e ≤ 8) (m : IVec S512x1 1)
    (hm : ∀ r : Fin 512, m (ix2 r 0) = if e ≤ r.val % 8 then 1#1 else 0#1) (a u : FVec Ideal S512x256 .f32)
    (r : Fin 512) (c : Fin 256) :
    dU d m a u (ix2 r c) = dblU e (col a c) (col u c) r.val := by
  have hr := r.isLt
  pointwise [dU]
  rw [hm r]
  unfold dblU
  by_cases h : e ≤ r.val % 8
  · have : r.val % 8 ≤ r.val := Nat.mod_le _ _
    rw [if_pos h, sel_one, if_pos h, col_of _ _ _ hr, col_of _ _ _ hr, col_of _ _ _ (show r.val - e < 512 by omega)]
    refine congrArg (fun z => a (ix2 r c) * u z + u (ix2 r c)) ?_
    idx_ext
  · rw [if_neg h, sel_zero, if_neg h, col_of _ _ _ hr]

theorem dA_apply (d : BitVec 32) (e : ℕ) (he : d.toNat = e) (h8 : e ≤ 8) (m : IVec S512x1 1)
    (hm : ∀ r : Fin 512, m (ix2 r 0) = if e ≤ r.val % 8 then 1#1 else 0#1) (a : FVec Ideal S512x256 .f32)
    (r : Fin 512) (c : Fin 256) :
    dA d m a (ix2 r c) = dblA e (col a c) r.val := by
  have hr := r.isLt
  pointwise [dA]
  rw [hm r]
  unfold dblA
  by_cases h : e ≤ r.val % 8
  · have : r.val % 8 ≤ r.val := Nat.mod_le _ _
    rw [if_pos h, sel_one, if_pos h, col_of _ _ _ hr, col_of _ _ _ (show r.val - e < 512 by omega)]
    refine congrArg (fun z => a (ix2 r c) * a z) ?_
    idx_ext
  · rw [if_neg h, sel_zero, if_neg h, col_of _ _ _ hr]

/-- A column after a doubling is the doubling of the column. -/
theorem col_dU (d : BitVec 32) (e : ℕ) (he : d.toNat = e) (h8 : e ≤ 8) (m : IVec S512x1 1)
    (hm : ∀ r : Fin 512, m (ix2 r 0) = if e ≤ r.val % 8 then 1#1 else 0#1) (a u : FVec Ideal S512x256 .f32) (c : Fin 256) :
    col (dU d m a u) c = dblU e (col a c) (col u c) := by
  funext n
  by_cases h : n < 512
  · rw [col_of _ _ _ h]; exact dU_apply d e he h8 m hm a u ⟨n, h⟩ c
  · have hz : ∀ v : FVec Ideal S512x256 .f32, col v c n = 0 := fun v => dif_neg h
    unfold dblU
    rw [hz, hz, hz, zero_mul, zero_add, ite_self]

theorem col_dA (d : BitVec 32) (e : ℕ) (he : d.toNat = e) (h8 : e ≤ 8) (m : IVec S512x1 1)
    (hm : ∀ r : Fin 512, m (ix2 r 0) = if e ≤ r.val % 8 then 1#1 else 0#1) (a : FVec Ideal S512x256 .f32) (c : Fin 256) :
    col (dA d m a) c = dblA e (col a c) := by
  funext n
  by_cases h : n < 512
  · rw [col_of _ _ _ h]; exact dA_apply d e he h8 m hm a ⟨n, h⟩ c
  · have hz : ∀ v : FVec Ideal S512x256 .f32, col v c n = 0 := fun v => dif_neg h
    unfold dblA
    rw [hz, hz, zero_mul, ite_self]

/-- The inputs after the three doublings. -/
def uK (ti : BitVec 32) (x i l : FVec Ideal S512x256 .f32) : FVec Ideal S512x256 .f32 :=
  k0_pay31 (F := Ideal) rowN (k0_pay26 ti x i l) (k0_pay27 l) 2#32

/-- The decays after the three doublings. -/
def aK (l : FVec Ideal S512x256 .f32) : FVec Ideal S512x256 .f32 := k0_pay32 (F := Ideal) rowN (k0_pay27 l) 2#32

theorem uK_eq (ti : BitVec 32) (x i l : FVec Ideal S512x256 .f32) :
    uK ti x i l = dU 4#32 (k0_pay30 rowN) (dA 2#32 (k0_pay28 rowN) (dA 1#32 k0_pay25 (k0_pay23 l)))
      (dU 2#32 (k0_pay28 rowN) (dA 1#32 k0_pay25 (k0_pay23 l)) (dU 1#32 k0_pay25 (k0_pay23 l) (u0K ti x i l))) := rfl

theorem aK_eq (l : FVec Ideal S512x256 .f32) :
    aK l = dA 4#32 (k0_pay30 rowN) (dA 2#32 (k0_pay28 rowN) (dA 1#32 k0_pay25 (k0_pay23 l))) := rfl

theorem col_uK (ti : BitVec 32) (x i l : FVec Ideal S512x256 .f32) (c : Fin 256) :
    col (uK ti x i l) c = scanU (col (k0_pay23 (F := Ideal) l) c) (col (u0K ti x i l) c) := by
  rw [uK_eq, col_dU 4#32 4 rfl (by decide) _ mask4, col_dA 2#32 2 rfl (by decide) _ mask2, col_dA 1#32 1 rfl (by decide) _ mask1,
    col_dU 2#32 2 rfl (by decide) _ mask2, col_dA 1#32 1 rfl (by decide) _ mask1, col_dU 1#32 1 rfl (by decide) _ mask1]
  rfl

theorem col_aK (l : FVec Ideal S512x256 .f32) (c : Fin 256) : col (aK l) c = scanA (col (k0_pay23 (F := Ideal) l) c) := by
  rw [aK_eq, col_dA 4#32 4 rfl (by decide) _ mask4, col_dA 2#32 2 rfl (by decide) _ mask2, col_dA 1#32 1 rfl (by decide) _ mask1]
  rfl

theorem u0_apply (ti : BitVec 32) (x i l : FVec Ideal S512x256 .f32) (r : Fin 512) (c : Fin 256) :
    u0K ti x i l (ix2 r c) = (if ti = 0#32 ∧ r.val = 0 then 1 else
      Ideal.sqrt (Ideal.tanh (-(l (ix2 r c))) * (Ideal.exp (l (ix2 r c)) * Ideal.exp (l (ix2 r c)) + 1)))
        * i (ix2 r c) * x (ix2 r c) := by
  pointwise [u0K, k0_pay23]
  simp only [sub_eq_add_neg, zero_add]
  have hr := r.isLt
  have e0 : (BitVec.ofNat 32 r.val = 0#32) ↔ r.val = 0 := by
    constructor
    · intro h
      have := congrArg BitVec.toNat h
      simp only [BitVec.toNat_ofNat] at this
      omega
    · intro h; rw [h]
  have e (x y : BitVec 32) : IntOp.cmpi CmpIPredicate.eq x y = if x = y then 1#1 else 0#1 := by
    by_cases h : x = y
    · rw [if_pos h, h]; simp [IntOp.cmpi]
    · rw [if_neg h]
      have hb : (x == y) = false := beq_eq_false_iff_ne.2 h
      simp [IntOp.cmpi, hb]
  have e2 : Scalar.cmpi CmpIPredicate.eq ti 0#32 = if ti = 0#32 then 1#1 else 0#1 := e _ _
  rw [e, e2]
  by_cases h1 : r.val = 0
  · by_cases h2 : ti = 0#32
    · rw [if_pos (e0.2 h1), if_pos h2, if_pos ⟨h2, h1⟩]; rfl
    · rw [if_pos (e0.2 h1), if_neg h2, if_neg (fun h : ti = 0#32 ∧ r.val = 0 => h2 h.1)]; rfl
  · rw [if_neg (fun h => h1 (e0.1 h)), if_neg (fun h : ti = 0#32 ∧ r.val = 0 => h1 h.2)]
    by_cases h2 : ti = 0#32
    · rw [if_pos h2]; rfl
    · rw [if_neg h2]; rfl

/-- Eight rows of the recurrence from the state before them. -/
def chunk (u a : FVec Ideal S512x256 .f32) (k : ℕ) (h : S512x256.Slices ![8 * k, 0] S8x256) (s : FVec Ideal S1x256 .f32) :
    FVec Ideal S8x256 .f32 :=
  addf (extractStridedSlice S8x256 ![8 * k, 0] u h) (mulf (extractStridedSlice S8x256 ![8 * k, 0] a h)
    (broadcastTo S8x256 s broadcasts_S1x256_S8x256))

/-- The last of eight rows. -/
def last (p : FVec Ideal S8x256 .f32) : FVec Ideal S1x256 .f32 := extractStridedSlice S1x256 ![7, 0] p slices_S8x256_o7_0_S1x256

theorem slices8 (k : ℕ) (h : k < 64) : S512x256.Slices ![8 * k, 0] S8x256 :=
  ⟨rfl, by intro a; fin_cases a <;> simp <;> omega⟩

/-- The rows of the recurrence in groups of eight, each from the last row of the group before. -/
def piece (u a : FVec Ideal S512x256 .f32) (s : FVec Ideal S1x256 .f32) : (k : ℕ) → k < 64 → FVec Ideal S8x256 .f32
  | 0, h => chunk u a 0 (slices8 0 h) s
  | k + 1, h => chunk u a (k + 1) (slices8 (k + 1) h) (last (piece u a s k (Nat.lt_of_succ_lt h)))

theorem chunk_apply (u a : FVec Ideal S512x256 .f32) (k : ℕ) (hk : k < 64) (s : FVec Ideal S1x256 .f32)
    (j : Fin 8) (c : Fin 256) :
    chunk u a k (slices8 k hk) s (ix2 j c) = col u c (8 * k + j.val) + col a c (8 * k + j.val) * s (ix2 0 c) := by
  rw [col_of _ _ _ (by omega), col_of _ _ _ (by omega)]
  pointwise [chunk]

theorem last_apply (p : FVec Ideal S8x256 .f32) (c : Fin 256) : last p (ix2 0 c) = p (ix2 7 c) := by
  pointwise [last]

end Cert.Lru

end
-- ==== Proof.LruScan.lean ====
/-
  The recurrence over a tile, in groups of eight rows each started from the last row of the group before, and the gated and
  normalised rows it is turned into.
-/
module

public import proofs.«01_k».proof.Proof.LruPay
public import Idealize.ShloMosaic.Lib.Pipeline.Value

@[expose] public section

set_option maxRecDepth 65536

noncomputable section

namespace Cert.Lru

open Idealize.ShloMosaic Idealize.ShloMosaic.TcCoe Idealize.SL.Sem
open Cert.KernelIdeal Cert.KernelIdeal.Gen

/-- The tile of states, as the kernel builds it: eight rows after eight rows. -/
def hhRaw (u a : FVec Ideal S512x256 .f32) (s : Vec Ideal S1x256 .f32) : FVec Ideal S512x256 .f32 :=
  let v234 : FVec Ideal S8x256 .f32 := k0_pay36 u a s
  let v240 : FVec Ideal S8x256 .f32 := k0_pay37 u a s
  let v246 : FVec Ideal S8x256 .f32 := k0_pay38 u a s
  let v252 : FVec Ideal S8x256 .f32 := k0_pay39 u a s
  let v258 : FVec Ideal S8x256 .f32 := k0_pay40 u a s
  let v264 : FVec Ideal S8x256 .f32 := k0_pay41 u a s
  let v270 : FVec Ideal S8x256 .f32 := k0_pay42 u a s
  let v276 : FVec Ideal S8x256 .f32 := k0_pay43 u a s
  let v278 : FVec Ideal S8x256 .f32 := k0_pay44 u
  let v281 : FVec Ideal S8x256 .f32 := k0_pay45 u a s
  let v282 : FVec Ideal S8x256 .f32 := k0_pay46 v278 v281
  let v288 : FVec Ideal S8x256 .f32 := k0_pay47 u a v278 v281
  let v294 : FVec Ideal S8x256 .f32 := k0_pay48 u a v278 v281
  let v300 : FVec Ideal S8x256 .f32 := k0_pay49 u a v278 v281
  let v306 : FVec Ideal S8x256 .f32 := k0_pay50 u a v278 v281
  let v312 : FVec Ideal S8x256 .f32 := k0_pay51 u a v278 v281
  let v318 : FVec Ideal S8x256 .f32 := k0_pay52 u a v278 v281
  let v324 : FVec Ideal S8x256 .f32 := k0_pay53 u a v278 v281
  let v330 : FVec Ideal S8x256 .f32 := k0_pay54 u a v278 v281
  let v336 : FVec Ideal S8x256 .f32 := k0_pay55 u a v278 v281
  let v338 : FVec Ideal S8x256 .f32 := k0_pay56 u
  let v341 : FVec Ideal S8x256 .f32 := k0_pay57 u a v278 v281
  let v342 : FVec Ideal S8x256 .f32 := k0_pay58 v338 v341
  let v348 : FVec Ideal S8x256 .f32 := k0_pay59 u a v338 v341
  let v354 : FVec Ideal S8x256 .f32 := k0_pay60 u a v338 v341
  let v360 : FVec Ideal S8x256 .f32 := k0_pay61 u a v338 v341
  let v366 : FVec Ideal S8x256 .f32 := k0_pay62 u a v338 v341
  let v372 : FVec Ideal S8x256 .f32 := k0_pay63 u a v338 v341
  let v378 : FVec Ideal S8x256 .f32 := k0_pay64 u a v338 v341
  let v384 : FVec Ideal S8x256 .f32 := k0_pay65 u a v338 v341
  let v390 : FVec Ideal S8x256 .f32 := k0_pay66 u a v338 v341
  let v396 : FVec Ideal S8x256 .f32 := k0_pay67 u a v338 v341
  let v398 : FVec Ideal S8x256 .f32 := k0_pay68 u
  let v401 : FVec Ideal S8x256 .f32 := k0_pay69 u a v338 v341
  let v402 : FVec Ideal S8x256 .f32 := k0_pay70 v398 v401
  let v408 : FVec Ideal S8x256 .f32 := k0_pay71 u a v398 v401
  let v414 : FVec Ideal S8x256 .f32 := k0_pay72 u a v398 v401
  let v420 : FVec Ideal S8x256 .f32 := k0_pay73 u a v398 v401
  let v426 : FVec Ideal S8x256 .f32 := k0_pay74 u a v398 v401
  let v432 : FVec Ideal S8x256 .f32 := k0_pay75 u a v398 v401
  let v438 : FVec Ideal S8x256 .f32 := k0_pay76 u a v398 v401
  let v444 : FVec Ideal S8x256 .f32 := k0_pay77 u a v398 v401
  let v450 : FVec Ideal S8x256 .f32 := k0_pay78 u a v398 v401
  let v456 : FVec Ideal S8x256 .f32 := k0_pay79 u a v398 v401
  let v458 : FVec Ideal S8x256 .f32 := k0_pay80 u
  let v461 : FVec Ideal S8x256 .f32 := k0_pay81 u a v398 v401
  let v462 : FVec Ideal S8x256 .f32 := k0_pay82 v458 v461
  let v468 : FVec Ideal S8x256 .f32 := k0_pay83 u a v458 v461
  let v474 : FVec Ideal S8x256 .f32 := k0_pay84 u a v458 v461
  let v480 : FVec Ideal S8x256 .f32 := k0_pay85 u a v458 v461
  let v486 : FVec Ideal S8x256 .f32 := k0_pay86 u a v458 v461
  let v492 : FVec Ideal S8x256 .f32 := k0_pay87 u a v458 v461
  let v498 : FVec Ideal S8x256 .f32 := k0_pay88 u a v458 v461
  let v504 : FVec Ideal S8x256 .f32 := k0_pay89 u a v458 v461
  let v510 : FVec Ideal S8x256 .f32 := k0_pay90 u a v458 v461
  let v516 : FVec Ideal S8x256 .f32 := k0_pay91 u a v458 v461
  let v518 : FVec Ideal S8x256 .f32 := k0_pay92 u
  let v521 : FVec Ideal S8x256 .f32 := k0_pay93 u a v458 v461
  let v522 : FVec Ideal S8x256 .f32 := k0_pay94 v518 v521
  let v528 : FVec Ideal S8x256 .f32 := k0_pay95 u a v518 v521
  let v534 : FVec Ideal S8x256 .f32 := k0_pay96 u a v518 v521
  let v540 : FVec Ideal S8x256 .f32 := k0_pay97 u a v518 v521
  let v546 : FVec Ideal S8x256 .f32 := k0_pay98 u a v518 v521
  let v552 : FVec Ideal S8x256 .f32 := k0_pay99 u a v518 v521
  let v558 : FVec Ideal S8x256 .f32 := k0_pay100 u a v518 v521
  let v564 : FVec Ideal S8x256 .f32 := k0_pay101 u a v518 v521
  let v570 : FVec Ideal S8x256 .f32 := k0_pay102 u a v518 v521
  let v576 : FVec Ideal S8x256 .f32 := k0_pay103 u a v518 v521
  let v578 : FVec Ideal S8x256 .f32 := k0_pay104 u
  let v581 : FVec Ideal S8x256 .f32 := k0_pay105 u a v518 v521
  k0_pay112 u a v234 v240 v246 v252 v258 v264 v270 v276 v282 v288 v294 v300 v306 v312 v318 v324 v330 v336 v342 v348 v354 v360 v366 v372 v378 v384 v390 v396 v402 v408 v414 v420 v426 v432 v438 v444 v450 v456 v462 v468 v474 v480 v486 v492 v498 v504 v510 v516 v522 v528 v534 v540 v546 v552 v558 v564 v570 v576 v578 v581

/-- The state carried on, as the kernel builds it. -/
def stRaw (u a : FVec Ideal S512x256 .f32) (s : Vec Ideal S1x256 .f32) : FVec Ideal S8x256 .f32 :=
  let v278 : FVec Ideal S8x256 .f32 := k0_pay44 u
  let v281 : FVec Ideal S8x256 .f32 := k0_pay45 u a s
  let v338 : FVec Ideal S8x256 .f32 := k0_pay56 u
  let v341 : FVec Ideal S8x256 .f32 := k0_pay57 u a v278 v281
  let v398 : FVec Ideal S8x256 .f32 := k0_pay68 u
  let v401 : FVec Ideal S8x256 .f32 := k0_pay69 u a v338 v341
  let v458 : FVec Ideal S8x256 .f32 := k0_pay80 u
  let v461 : FVec Ideal S8x256 .f32 := k0_pay81 u a v398 v401
  let v518 : FVec Ideal S8x256 .f32 := k0_pay92 u
  let v521 : FVec Ideal S8x256 .f32 := k0_pay93 u a v458 v461
  let v578 : FVec Ideal S8x256 .f32 := k0_pay104 u
  let v581 : FVec Ideal S8x256 .f32 := k0_pay105 u a v518 v521
  k0_pay113 u a v578 v581

set_option maxHeartbeats 4000000 in
theorem hhRaw_eq (u a : FVec Ideal S512x256 .f32) (s : Vec Ideal S1x256 .f32) :
    hhRaw u a s = concatenate S512x256 0
      (List.ofFn fun n : Fin 64 => (⟨S8x256, piece u a s n.val n.isLt⟩ : (s : Shape) × (s.Idx → Ideal .f32)))
      concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S512x256_d0 := rfl

set_option maxHeartbeats 4000000 in
theorem stRaw_eq (u a : FVec Ideal S512x256 .f32) (s : Vec Ideal S1x256 .f32) :
    stRaw u a s = shapeCast S8x256 (broadcastTo S8x256 (shapeCast S1x256 (last (piece u a s 63 (by decide)))
      shapeCasts_S1x256_S1x256) broadcasts_S1x256_S8x256) shapeCasts_S8x256_S8x256 := rfl

/-- A group of eight rows holds the states after each of its places. -/
theorem piece_apply (u a : FVec Ideal S512x256 .f32) (s : Vec Ideal S1x256 .f32) (c : Fin 256) (S : ℕ → EReal)
    (h0 : s (ix2 0 c) = S 0)
    (hS : ∀ q j : ℕ, q < 64 → j < 8 → col u c (8 * q + j) + col a c (8 * q + j) * S (8 * q) = S (8 * q + j + 1)) :
    ∀ (k : ℕ) (hk : k < 64) (j : Fin 8), piece u a s k hk (ix2 j c) = S (8 * k + j.val + 1)
  | 0, hk, j => by
    refine (chunk_apply u a 0 hk s j c).trans ?_
    rw [h0]
    exact hS 0 j.val hk j.isLt
  | k + 1, hk, j => by
    refine (chunk_apply u a (k + 1) hk _ j c).trans ?_
    rw [last_apply, piece_apply u a s c S h0 hS k (Nat.lt_of_succ_lt hk) 7]
    exact hS (k + 1) j.val hk j.isLt

theorem hh_apply (u a : FVec Ideal S512x256 .f32) (s : Vec Ideal S1x256 .f32) (c : Fin 256) (S : ℕ → EReal)
    (h0 : s (ix2 0 c) = S 0)
    (hS : ∀ q j : ℕ, q < 64 → j < 8 → col u c (8 * q + j) + col a c (8 * q + j) * S (8 * q) = S (8 * q + j + 1))
    (r : Fin 512) : hhRaw u a s (ix2 r c) = S (r.val + 1) := by
  have hr := r.isLt
  rw [hhRaw_eq]
  refine (concatenate_ofFn_apply (s₁ := S8x256) (0 : Fin S512x256.rank) (fun n : Fin 64 => piece u a s n.val n.isLt) _ rfl 8 rfl
    (ix2 r c) ⟨r.val / 8, by omega⟩ rfl (ix2 ⟨r.val % 8, by omega⟩ c) rfl ?_).trans ?_
  · intro b hb
    match b with
    | ⟨0, _⟩ => exact absurd rfl hb
    | ⟨1, _⟩ => rfl
  · refine (piece_apply u a s c S h0 hS _ _ _).trans ?_
    exact congrArg S (by dsimp only; omega)

theorem st_apply (u a : FVec Ideal S512x256 .f32) (s : Vec Ideal S1x256 .f32) (c : Fin 256) (S : ℕ → EReal)
    (h0 : s (ix2 0 c) = S 0)
    (hS : ∀ q j : ℕ, q < 64 → j < 8 → col u c (8 * q + j) + col a c (8 * q + j) * S (8 * q) = S (8 * q + j + 1))
    (j : Fin 8) : stRaw u a s (ix2 j c) = S 512 := by
  rw [stRaw_eq]
  refine Eq.trans ?_ ((last_apply _ c).trans (piece_apply u a s c S h0 hS 63 (by decide) 7))
  generalize last (piece u a s 63 _) = p
  pointwise []

/-- A product of real numbers with a column of ones in one block, both parts of a split number together. -/
theorem split_sum (y : Fin 256 → EReal) (hy : ∀ k, IsR (y k)) (c : Fin 256) :
    ∑ k : Fin 256, y k * y k * (if k.val / 64 = c.val / 64 then 1 else 0)
      + ∑ k : Fin 256, (y k * y k - y k * y k) * (if k.val / 64 = c.val / 64 then 1 else 0)
      = ∑ d : Fin 64, y ⟨64 * (c.val / 64) + d.val, by omega⟩ * y ⟨64 * (c.val / 64) + d.val, by omega⟩ := by
  have e : ∀ k : Fin 256, y k * y k - y k * y k = 0 := fun k => ((hy k).mul (hy k)).sub_self
  simp only [e, zero_mul, Finset.sum_const_zero, add_zero]
  refine (sum_block (fun k => y k * y k) (fun _ => 1) c).trans ?_
  simp only [mul_one]

theorem y_apply (xg hh : FVec Ideal S512x256 .f32) (bd : Vec Ideal S256x256 .bf16) (og : Vec Ideal S1x256 .f32) (r : Fin 512)
    (hbd : ∀ k c : Fin 256, bd (ix2 k c) = if k.val / 64 = c.val / 64 then 1 else 0) (y : Fin 256 → EReal)
    (hy : ∀ c : Fin 256, hh (ix2 r c) * gelu (xg (ix2 r c)) = y c) (hR : ∀ c, IsR (y c)) (c : Fin 256) :
    k0_pay1 (F := Ideal) (k0_pay118 xg hh (k0_pay115 xg) (k0_pay116 xg) bd og) (ix3 0 r c)
      = y c * Ideal.rsqrt (MS y c + Ideal.ofBits .f32 0x358637BD#32) * og (ix2 0 c) := by
  unfold MS
  rw [← split_sum y hR c, c_64, div_eq_mul (m := 1 / 64) (by norm_num) (by norm_num), ← c_64inv]
  simp only [← hy, ← hbd, gelu]
  pointwise [k0_pay1, k0_pay118, k0_pay115, k0_pay116]

end Cert.Lru

end
-- ==== Proof.LruStep.lean ====
/-
  The recurrent mixer's kernel at one grid point: what it stores and what it carries on, as functions of the blocks it reads
  and of the state carried into the point.
-/
module

public import proofs.«01_k».proof.Proof.LruScan
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Lru

open Idealize.ShloMosaic Idealize.ShloMosaic.TcCoe Idealize.SL.Sem
open Cert.KernelIdeal Cert.KernelIdeal.Gen

/-- The weights' columns of the recurrent mixer. -/
def wC (w : Vec Ideal S1x1024x2944 .bf16) : Vec Ideal S1x1024x512 .bf16 :=
  View.ld (Val := Elt Ideal) (e' := .bf16) w (Rect.unit (s := S1x1024x2944) ![0, 0, 1536] ![1, 1024, 512]
    (by intro a; fin_cases a <;> simp))

/-- 256 columns of the weights from column `o`. -/
def wS (w : Vec Ideal S1x1024x2944 .bf16) (o : ℕ) (h : o + 256 ≤ 2944) : Vec Ideal S1x1024x256 .bf16 :=
  View.ld (Val := Elt Ideal) (e' := .bf16) w (Rect.unit (s := S1x1024x2944) ![0, 0, o] ![1, 1024, 256]
    (by intro a; fin_cases a <;> simp <;> omega))

/-- The last 128 columns of the weights. -/
def wL (w : Vec Ideal S1x1024x2944 .bf16) : Vec Ideal S1x1024x128 .bf16 :=
  View.ld (Val := Elt Ideal) (e' := .bf16) w (Rect.unit (s := S1x1024x2944) ![0, 0, 2816] ![1, 1024, 128]
    (by intro a; fin_cases a <;> simp))

/-- The first of the eight equal rows the state is carried in. -/
def row0 (s : Vec Ideal S8x256 .f32) : Vec Ideal S1x256 .f32 :=
  View.ld (Val := Elt Ideal) (e' := .f32) s (Rect.unit (s := S8x256) ![0, 0] ![1, 256]
    (by intro a; fin_cases a <;> simp))

theorem wC_apply (w : Vec Ideal S1x1024x2944 .bf16) (k : Fin 1024) (c : Fin 512) :
    wC w (ix3 0 k c) = w (ix3 0 k ⟨1536 + c.val, by omega⟩) :=
  View.ld_unit_apply_of _ _ _ _ _ _ (by intro a; fin_cases a <;> simp [ix3])

theorem wS_apply (w : Vec Ideal S1x1024x2944 .bf16) (o : ℕ) (h : o + 256 ≤ 2944) (k : Fin 1024) (c : Fin 256) :
    wS w o h (ix3 0 k c) = w (ix3 0 k ⟨o + c.val, by omega⟩) :=
  View.ld_unit_apply_of _ _ _ _ _ _ (by intro a; fin_cases a <;> simp [ix3])

theorem wL_apply (w : Vec Ideal S1x1024x2944 .bf16) (k : Fin 1024) (c : Fin 128) :
    wL w (ix3 0 k c) = w (ix3 0 k ⟨2816 + c.val, by omega⟩) :=
  View.ld_unit_apply_of _ _ _ _ _ _ (by intro a; fin_cases a <;> simp [ix3])

theorem row0_apply (s : Vec Ideal S8x256 .f32) (c : Fin 256) : row0 s (ix2 0 c) = s (ix2 0 c) :=
  View.ld_unit_apply_of _ _ _ _ _ _ (by intro a; fin_cases a <;> simp [ix2])

/-- The recurrence gate's tile. -/
def rT (p : FVec Ideal S512x512 .f32) (H : Vec Ideal S8x256 .f32) (cw : Vec Ideal S4x256 .f32) (cb : Vec Ideal S1x256 .f32)
    (ga : Vec Ideal S256x256 .bf16) (gab : Vec Ideal S1x256 .f32) : FVec Ideal S512x256 .f32 :=
  k0_pay17 (k0_pay11 p H cw cb) (k0_pay12 cw) (k0_pay13 p H) ga gab

/-- The input gate's tile. -/
def iT (p : FVec Ideal S512x512 .f32) (H : Vec Ideal S8x256 .f32) (cw : Vec Ideal S4x256 .f32) (cb : Vec Ideal S1x256 .f32)
    (gx : Vec Ideal S256x256 .bf16) (gxb : Vec Ideal S1x256 .f32) : FVec Ideal S512x256 .f32 :=
  k0_pay19 (k0_pay18 (k0_pay11 p H cw cb) (k0_pay12 cw) (k0_pay13 p H) gx gxb)

/-- The scaled input's tile after the doublings. -/
def uT (ti : BitVec 32) (p : FVec Ideal S512x512 .f32) (H : Vec Ideal S8x256 .f32) (cw : Vec Ideal S4x256 .f32)
    (cb : Vec Ideal S1x256 .f32) (ga : Vec Ideal S256x256 .bf16) (gab : Vec Ideal S1x256 .f32) (gx : Vec Ideal S256x256 .bf16)
    (gxb lam : Vec Ideal S1x256 .f32) : FVec Ideal S512x256 .f32 :=
  uK ti (xrK p H cw cb) (iT p H cw cb gx gxb) (k0_pay22 (rT p H cw cb ga gab) lam)

/-- The decay's tile after the doublings. -/
def aT (p : FVec Ideal S512x512 .f32) (H : Vec Ideal S8x256 .f32) (cw : Vec Ideal S4x256 .f32)
    (cb : Vec Ideal S1x256 .f32) (ga : Vec Ideal S256x256 .bf16) (gab lam : Vec Ideal S1x256 .f32) : FVec Ideal S512x256 .f32 :=
  aK (k0_pay22 (rT p H cw cb ga gab) lam)

/-- The tile of outputs from the tile of states. -/
def ycT (p : FVec Ideal S512x512 .f32) (hh : FVec Ideal S512x256 .f32) (bd : Vec Ideal S256x256 .bf16) (og : Vec Ideal S1x256 .f32) :
    FVec Ideal S1x512x256 .bf16 :=
  k0_pay1 (k0_pay118 (k0_pay10 p) hh (k0_pay115 (k0_pay10 p)) (k0_pay116 (k0_pay10 p)) bd og)

variable (m : (ℓ : Loc nD τ sig) → Buf (Elt Ideal) ℓ)

/-- The projection onto the recurrent mixer's columns at grid point `t`. -/
def pAt (c : Dev nD) (t : Fin cfg0.N) : FVec Ideal S512x512 .f32 :=
  k0_pay3 (F := Ideal) (iblk m c 1 t) (iblk m c 0 t) (iblk m c 2 t) (wC (iblk m c 3 t))

/-- The normalised tile at grid point `t`. -/
def hAt (c : Dev nD) (t : Fin cfg0.N) : FVec Ideal S512x1024 .bf16 :=
  k0_pay2 (F := Ideal) (iblk m c 1 t) (iblk m c 0 t) (iblk m c 2 t)

/-- The scaled input's tile after the doublings at grid point `t`, from the rows `H`. -/
def uAt (c : Dev nD) (t : Fin cfg0.N) (H : Vec Ideal S8x256 .f32) : FVec Ideal S512x256 .f32 :=
  uT (BitVec.ofNat 32 ((grid0.coords t) 1).val) (pAt m c t) H (iblk m c 4 t) (iblk m c 5 t) (iblk m c 6 t) (iblk m c 7 t)
    (iblk m c 8 t) (iblk m c 9 t) (iblk m c 10 t)

/-- The decay's tile after the doublings at grid point `t`, from the rows `H`. -/
def aAt (c : Dev nD) (t : Fin cfg0.N) (H : Vec Ideal S8x256 .f32) : FVec Ideal S512x256 .f32 :=
  aT (pAt m c t) H (iblk m c 4 t) (iblk m c 5 t) (iblk m c 6 t) (iblk m c 7 t) (iblk m c 10 t)

/-- The output tile at grid point `t`, from the rows `H` and the state `S`. -/
def ycAt (c : Dev nD) (t : Fin cfg0.N) (H S : Vec Ideal S8x256 .f32) : FVec Ideal S1x512x256 .bf16 :=
  ycT (pAt m c t) (hhRaw (uAt m c t H) (aAt m c t H) (row0 S)) (iblk m c 12 t) (iblk m c 11 t)

/-- The state after grid point `t`, from the rows `H` and the state `S`. -/
def stAt (c : Dev nD) (t : Fin cfg0.N) (H S : Vec Ideal S8x256 .f32) : FVec Ideal S8x256 .f32 :=
  stRaw (uAt m c t H) (aAt m c t H) (row0 S)

/-- The rows carried after grid point `t`. -/
def htAt (c : Dev nD) (t : Fin cfg0.N) : FVec Ideal S8x256 .f32 := k0_pay15 (k0_pay9 (pAt m c t))

/-- The rows carried out of a grid point. -/
abbrev histOut (c : Dev nD) (t : Fin cfg0.N) : Vec Ideal S8x256 .f32 := (outsAt0 m c t.val t.isLt).2.2.2.2.1

/-- The state carried out of a grid point. -/
abbrev stOut (c : Dev nD) (t : Fin cfg0.N) : Vec Ideal S8x256 .f32 := (outsAt0 m c t.val t.isLt).2.2.2.2.2

/-- The grid point before. -/
abbrev before (t : Fin cfg0.N) : Fin cfg0.N := ⟨t.val - 1, by have := t.isLt; omega⟩

set_option maxHeartbeats 4000000 in
theorem hist_A (c : Dev nD) (t : Fin cfg0.N) (h : t.val % 4 = 0) : histOut m c t = htAt m c t := by
  funext j
  rw [histOut, outsAt0_A m c t h]
  frame_out
  rfl

set_option maxHeartbeats 4000000 in
theorem hist_B (c : Dev nD) (t : Fin cfg0.N) (h : ¬ t.val % 4 = 0) : histOut m c t = htAt m c t := by
  funext j
  rw [histOut, outsAt0_B m c t h]
  frame_out
  rfl

set_option maxHeartbeats 4000000 in
theorem st_A (c : Dev nD) (t : Fin cfg0.N) (h : t.val % 4 = 0) :
    stOut m c t = stAt m c t (k0_pay7 (F := Ideal)) (k0_pay8 (F := Ideal)) := by
  funext j
  rw [stOut, outsAt0_A m c t h]
  frame_out
  simp (disch := decide) only [↓ View.readCov_skip, ↓ View.readCov_cons_toLoadRect, ↓ View.readCov_fill]
  rfl

set_option maxHeartbeats 4000000 in
theorem st_B (c : Dev nD) (t : Fin cfg0.N) (h : ¬ t.val % 4 = 0) :
    stOut m c t = stAt m c t (histOut m c (before t)) (stOut m c (before t)) := by
  funext j
  rw [stOut, outsAt0_B m c t h]
  frame_out
  simp only [read_unread_whole]
  rfl

set_option maxHeartbeats 4000000 in
theorem yc_A (c : Dev nD) (t : Fin cfg0.N) (h : t.val % 4 = 0) :
    (outsAt0 m c t.val t.isLt).2.2.1 = ycAt m c t (k0_pay7 (F := Ideal)) (k0_pay8 (F := Ideal)) := by
  funext j
  rw [outsAt0_A m c t h]
  frame_out
  simp (disch := decide) only [↓ View.readCov_skip, ↓ View.readCov_cons_toLoadRect, ↓ View.readCov_fill]
  rfl

set_option maxHeartbeats 4000000 in
theorem yc_B (c : Dev nD) (t : Fin cfg0.N) (h : ¬ t.val % 4 = 0) :
    (outsAt0 m c t.val t.isLt).2.2.1 = ycAt m c t (histOut m c (before t)) (stOut m c (before t)) := by
  funext j
  rw [outsAt0_B m c t h]
  frame_out
  simp only [read_unread_whole]
  rfl

/-! ### The projections stored -/

/-- A row of a tile against a column of the weights. -/
def prT (h : FVec Ideal S512x1024 .bf16) (w : Vec Ideal S1x1024x2944 .bf16) (r : Fin 512) (n : Fin 2944) : EReal :=
  ∑ k : Fin 1024, h (ix2 r k) * w (ix3 0 k n)

/-- The last store of a list read at an index: its payload if it holds the index, the earlier stores otherwise. -/
theorem canon_step {W o n : ℕ} (inb) (w : (⟨3, ![1, 512, n]⟩ : Shape).Idx → Ideal .f32)
    (L : List (View.Piece (Elt Ideal) (⟨3, ![1, 512, W]⟩ : Shape) .f32)) (i : (⟨3, ![1, 512, W]⟩ : Shape).Idx)
    (v : EReal) (h1 : ∀ x : (⟨3, ![1, 512, n]⟩ : Shape).Idx, (i 1 : ℕ) = 0 + x 1 → (i 2 : ℕ) = o + x 2 → w x = v)
    (h2 : ¬ (o ≤ (i 2).val ∧ (i 2).val < o + n) → View.canon L i = v) :
    View.canon (Val := Elt Ideal) (⟨Rect.unit (s := (⟨3, ![1, 512, W]⟩ : Shape)) ![0, 0, o] ![1, 512, n] inb, w⟩ :: L) i = v := by
  by_cases hm : i ∈ (Rect.unit (s := (⟨3, ![1, 512, W]⟩ : Shape)) ![0, 0, o] ![1, 512, n] inb).set
  · obtain ⟨x, rfl⟩ := (Rect.unit (s := (⟨3, ![1, 512, W]⟩ : Shape)) ![0, 0, o] ![1, 512, n] inb).exists_idx_of_mem hm
    refine (View.canon_cons_emb (Val := Elt Ideal) (e := .f32)
      (Rect.unit (s := (⟨3, ![1, 512, W]⟩ : Shape)) ![0, 0, o] ![1, 512, n] inb) w L x).trans (h1 x ?_ ?_)
    · exact Rect.idx_unit_val _ _ inb x 1
    · exact Rect.idx_unit_val _ _ inb x 2
  · refine (View.canon_cons_of_not_mem (Val := Elt Ideal) (e := .f32)
      ⟨Rect.unit (s := (⟨3, ![1, 512, W]⟩ : Shape)) ![0, 0, o] ![1, 512, n] inb, w⟩ L hm).trans ?_
    refine h2 fun hh => hm ((Rect.mem_set_unit (s := (⟨3, ![1, 512, W]⟩ : Shape)) (off := ![0, 0, o]) (size := ![1, 512, n])
      (inb := inb) (i := i)).mpr fun a => ?_)
    have e0 : (i 0).val < 1 := (i 0).isLt
    have e1 : (i 1).val < 512 := (i 1).isLt
    match a with
    | ⟨0, _⟩ => exact ⟨Nat.zero_le _, by show (i 0).val < 0 + 1; omega⟩
    | ⟨1, _⟩ => exact ⟨Nat.zero_le _, by show (i 1).val < 0 + 512; omega⟩
    | ⟨2, _⟩ => exact hh

/-- One piece of 256 projected columns. -/
theorem proj_tile (h : FVec Ideal S512x1024 .bf16) (w : Vec Ideal S1x1024x2944 .bf16) (o : ℕ) (ho : o + 256 ≤ 2944)
    (x : S1x512x256.Idx) (r : Fin 512) (n : Fin 2944) (h1 : r.val = 0 + x 1) (h2 : n.val = o + x 2) :
    k0_pay6 (F := Ideal) h (wS w o ho) x = prT h w r n := by
  have key : ∀ (c : Fin 256), n.val = o + c.val → k0_pay6 (F := Ideal) h (wS w o ho) (ix3 0 r c) = prT h w r n := by
    intro c hc
    have en : (⟨o + c.val, by omega⟩ : Fin 2944) = n := Fin.ext hc.symm
    rw [proj_apply]
    simp only [wS_apply, en]
    rfl
  have e : x = ix3 0 r (x 2) := by
    have h0 : (x 0).val < 1 := (x 0).isLt
    funext a
    match a with
    | ⟨0, _⟩ => exact Fin.ext (by show (x 0).val = 0; omega)
    | ⟨1, _⟩ => exact Fin.ext (by show (x 1).val = r.val; omega)
    | ⟨2, _⟩ => rfl
  exact (congrArg _ e).trans (key (x 2) h2)

/-- The last 128 projected columns. -/
theorem proj_tile_last (h : FVec Ideal S512x1024 .bf16) (w : Vec Ideal S1x1024x2944 .bf16)
    (x : S1x512x128.Idx) (r : Fin 512) (n : Fin 2944) (h1 : r.val = 0 + x 1) (h2 : n.val = 2816 + x 2) :
    k0_pay117 (F := Ideal) h (wL w) x = prT h w r n := by
  have key : ∀ (c : Fin 128), n.val = 2816 + c.val → k0_pay117 (F := Ideal) h (wL w) (ix3 0 r c) = prT h w r n := by
    intro c hc
    have en : (⟨2816 + c.val, by omega⟩ : Fin 2944) = n := Fin.ext hc.symm
    rw [proj_last_apply]
    simp only [wL_apply, en]
    rfl
  have e : x = ix3 0 r (x 2) := by
    have h0 : (x 0).val < 1 := (x 0).isLt
    funext a
    match a with
    | ⟨0, _⟩ => exact Fin.ext (by show (x 0).val = 0; omega)
    | ⟨1, _⟩ => exact Fin.ext (by show (x 1).val = r.val; omega)
    | ⟨2, _⟩ => rfl
  exact (congrArg _ e).trans (key (x 2) h2)

set_option maxHeartbeats 4000000 in
theorem pa_at (c : Dev nD) (t : Fin cfg0.N) (r : Fin 512) (n : Fin 768) :
    (outsAt0 m c t.val t.isLt).1 (ix3 0 r n) = prT (hAt m c t) (iblk m c 3 t) r ⟨n.val, by omega⟩ := by
  have hn := n.isLt
  have hi : ((ix3 0 r n : S1x512x768.Idx) 2).val < 768 := n.isLt
  by_cases h : t.val % 4 = 0
  · rw [outsAt0_A m c t h]
    frame_out
    iterate 3
      refine canon_step _ _ _ _ _ (fun x h1 h2 => proj_tile (hAt m c t) (iblk m c 3 t) _ (by decide) x _ _ h1 h2) (fun _ => ?_)
    omega
  · rw [outsAt0_B m c t h]
    frame_out
    iterate 3
      refine canon_step _ _ _ _ _ (fun x h1 h2 => proj_tile (hAt m c t) (iblk m c 3 t) _ (by decide) x _ _ h1 h2) (fun _ => ?_)
    omega

set_option maxHeartbeats 4000000 in
theorem pb_at (c : Dev nD) (t : Fin cfg0.N) (r : Fin 512) (n : Fin 768) :
    (outsAt0 m c t.val t.isLt).2.1 (ix3 0 r n) = prT (hAt m c t) (iblk m c 3 t) r ⟨768 + n.val, by omega⟩ := by
  have hn := n.isLt
  have hi : ((ix3 0 r n : S1x512x768.Idx) 2).val < 768 := n.isLt
  by_cases h : t.val % 4 = 0
  · rw [outsAt0_A m c t h]
    frame_out
    refine canon_step _ _ _ _ _ (fun x h1 h2 => proj_tile (hAt m c t) (iblk m c 3 t) 1280 (by decide) x _ _ h1
      (by have : n.val = _ := h2; dsimp only; omega)) (fun _ => ?_)
    refine canon_step _ _ _ _ _ (fun x h1 h2 => proj_tile (hAt m c t) (iblk m c 3 t) 1024 (by decide) x _ _ h1
      (by have : n.val = _ := h2; dsimp only; omega)) (fun _ => ?_)
    refine canon_step _ _ _ _ _ (fun x h1 h2 => proj_tile (hAt m c t) (iblk m c 3 t) 768 (by decide) x _ _ h1
      (by have : n.val = _ := h2; dsimp only; omega)) (fun _ => ?_)
    omega
  · rw [outsAt0_B m c t h]
    frame_out
    refine canon_step _ _ _ _ _ (fun x h1 h2 => proj_tile (hAt m c t) (iblk m c 3 t) 1280 (by decide) x _ _ h1
      (by have : n.val = _ := h2; dsimp only; omega)) (fun _ => ?_)
    refine canon_step _ _ _ _ _ (fun x h1 h2 => proj_tile (hAt m c t) (iblk m c 3 t) 1024 (by decide) x _ _ h1
      (by have : n.val = _ := h2; dsimp only; omega)) (fun _ => ?_)
    refine canon_step _ _ _ _ _ (fun x h1 h2 => proj_tile (hAt m c t) (iblk m c 3 t) 768 (by decide) x _ _ h1
      (by have : n.val = _ := h2; dsimp only; omega)) (fun _ => ?_)
    omega

set_option maxHeartbeats 4000000 in
theorem pd_at (c : Dev nD) (t : Fin cfg0.N) (r : Fin 512) (n : Fin 896) :
    (outsAt0 m c t.val t.isLt).2.2.2.1 (ix3 0 r n) = prT (hAt m c t) (iblk m c 3 t) r ⟨2048 + n.val, by omega⟩ := by
  have hn := n.isLt
  have hi : ((ix3 0 r n : S1x512x896.Idx) 2).val < 896 := n.isLt
  by_cases h : t.val % 4 = 0
  · rw [outsAt0_A m c t h]
    frame_out
    refine canon_step _ _ _ _ _ (fun x h1 h2 => proj_tile_last (hAt m c t) (iblk m c 3 t) x _ _ h1
      (by have : n.val = _ := h2; dsimp only; omega)) (fun _ => ?_)
    refine canon_step _ _ _ _ _ (fun x h1 h2 => proj_tile (hAt m c t) (iblk m c 3 t) 2560 (by decide) x _ _ h1
      (by have : n.val = _ := h2; dsimp only; omega)) (fun _ => ?_)
    refine canon_step _ _ _ _ _ (fun x h1 h2 => proj_tile (hAt m c t) (iblk m c 3 t) 2304 (by decide) x _ _ h1
      (by have : n.val = _ := h2; dsimp only; omega)) (fun _ => ?_)
    refine canon_step _ _ _ _ _ (fun x h1 h2 => proj_tile (hAt m c t) (iblk m c 3 t) 2048 (by decide) x _ _ h1
      (by have : n.val = _ := h2; dsimp only; omega)) (fun _ => ?_)
    omega
  · rw [outsAt0_B m c t h]
    frame_out
    refine canon_step _ _ _ _ _ (fun x h1 h2 => proj_tile_last (hAt m c t) (iblk m c 3 t) x _ _ h1
      (by have : n.val = _ := h2; dsimp only; omega)) (fun _ => ?_)
    refine canon_step _ _ _ _ _ (fun x h1 h2 => proj_tile (hAt m c t) (iblk m c 3 t) 2560 (by decide) x _ _ h1
      (by have : n.val = _ := h2; dsimp only; omega)) (fun _ => ?_)
    refine canon_step _ _ _ _ _ (fun x h1 h2 => proj_tile (hAt m c t) (iblk m c 3 t) 2304 (by decide) x _ _ h1
      (by have : n.val = _ := h2; dsimp only; omega)) (fun _ => ?_)
    refine canon_step _ _ _ _ _ (fun x h1 h2 => proj_tile (hAt m c t) (iblk m c 3 t) 2048 (by decide) x _ _ h1
      (by have : n.val = _ := h2; dsimp only; omega)) (fun _ => ?_)
    omega

end Cert.Lru

end
-- ==== Proof.LruBlocks.lean ====
/-
  The blocks the recurrent mixer's kernel reads at a grid point, at coordinates of the argument arrays.
-/
module

public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 16384

noncomputable section

namespace Cert.Lru

open Idealize.ShloMosaic Idealize.ShloMosaic.TcCoe Idealize.SL.Sem
open Cert.KernelIdeal Cert.KernelIdeal.Gen

variable (m : (ℓ : Loc nD τ sig) → Buf (Elt Ideal) ℓ)

/-- A number's whole quotient by 64, as the host computes it for the numbers below 256. -/
def quot64 : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

/-- Four blocks of ones on the diagonal. -/
def onesT : FVec Ideal S256x256 .bf16 :=
  truncf .bf16 (uitofp .f32 (cmpi .eq
    (broadcastInDim S256x256 ![0, 1] bcast_S256x1_S256x256_0_1 (broadcastInDim S256x1 ![0] bcast_S256_S256x1_0 quot64))
    (broadcastInDim S256x256 ![0, 1] bcast_S1x256_S256x256_0_1 (broadcastInDim S1x256 ![1] bcast_S256_S1x256_1 quot64))) : FVec Ideal S256x256 .f32)
    bitsLt_bf16_f32

/-- Four blocks of weights on the diagonal. -/
def diagT (w : FVec Ideal S4x64x64 .f32) : FVec Ideal S256x256 .bf16 :=
  truncf .bf16 (shapeCast S256x256 (mulf
    (broadcastInDim S4x64x4x64 ![0, 1, 2, 3] bcast_S4x1x4x1_S4x64x4x64_0_1_2_3
      (broadcastInDim S4x1x4x1 ![0, 2] bcast_S4x4_S4x1x4x1_0_2 (uitofp .f32 (cmpi .eq
        (addi (iotaInDim S4x4 32 0) (broadcastInDim S4x4 ![] bcast_S_S4x4 (constantI S_ 32 0#32))) (iotaInDim S4x4 32 1)))))
    (broadcastInDim S4x64x4x64 ![0, 1, 2, 3] bcast_S4x64x1x64_S4x64x4x64_0_1_2_3
      (broadcastInDim S4x64x1x64 ![0, 1, 3] bcast_S4x64x64_S4x64x1x64_0_1_3 w))) shapeCasts_S4x64x4x64_S256x256) bitsLt_bf16_f32

theorem quot64_apply : ∀ n : Fin 256, quot64 (ix1 n) = BitVec.ofNat 32 (n.val / 64) := by decide +kernel

theorem cmpi_eq (x y : BitVec 32) : IntOp.cmpi CmpIPredicate.eq x y = if x = y then 1#1 else 0#1 := by
  by_cases h : x = y
  · rw [if_pos h, h]; simp [IntOp.cmpi]
  · rw [if_neg h]
    have hb : (x == y) = false := beq_eq_false_iff_ne.2 h
    simp [IntOp.cmpi, hb]

theorem ofNat_inj {a b : ℕ} (ha : a < 4) (hb : b < 4) : BitVec.ofNat 32 a = BitVec.ofNat 32 b ↔ a = b := by
  constructor
  · intro h
    have := congrArg BitVec.toNat h
    simp only [BitVec.toNat_ofNat] at this
    omega
  · intro h; rw [h]

theorem onesT_apply (k n : Fin 256) : onesT (ix2 k n) = if k.val / 64 = n.val / 64 then 1 else 0 := by
  pointwise [onesT]
  rw [quot64_apply, quot64_apply, cmpi_eq]
  by_cases h : k.val / 64 = n.val / 64
  · rw [if_pos h, if_pos (by rw [h])]; simp [FloatOps.uitofp]
  · rw [if_neg h, if_neg (fun e => h ((ofNat_inj (by omega) (by omega)).1 e))]; simp [FloatOps.uitofp]

theorem diagT_apply (w : FVec Ideal S4x64x64 .f32) (k n : Fin 256) :
    diagT w (ix2 k n) = if k.val / 64 = n.val / 64 then w (ix3 ⟨n.val / 64, by omega⟩ ⟨k.val % 64, by omega⟩ ⟨n.val % 64, by omega⟩) else 0 := by
  pointwise [diagT]
  have e0 : IntOp.addi (BitVec.ofNat 32 (k.val / 64)) 0#32 = BitVec.ofNat 32 (k.val / 64) := BitVec.add_zero _
  rw [e0, cmpi_eq]
  by_cases h : k.val / 64 = n.val / 64
  · rw [if_pos h, if_pos (by rw [h])]; simp [FloatOps.uitofp, h]
  · rw [if_neg h, if_neg (fun e => h ((ofNat_inj (by omega) (by omega)).1 e))]; simp [FloatOps.uitofp]

theorem V_v0 (c : Dev nD) : V m c main_v0 = (truncf .bf16 (m ((c : Thread nD τ).loc main_arg3) : FVec Ideal S4x1024x2944 .f32) bitsLt_bf16_f32 : FVec Ideal S4x1024x2944 .bf16) := by
  unfold V
  simp only [hostOps0, hostOps0_1, hostOps0_2, List.flatten_cons, List.flatten_nil, List.append_nil, List.cons_append, List.nil_append]
  after_results

theorem V_v1 (c : Dev nD) : V m c main_v1 = shapeCast S8x1x6144 (m ((c : Thread nD τ).loc main_arg1)) shapeCasts_S8x6144_S8x1x6144 := by
  unfold V
  simp only [hostOps0, hostOps0_1, hostOps0_2, List.flatten_cons, List.flatten_nil, List.append_nil, List.cons_append, List.nil_append]
  after_results
  rfl

theorem V_v2 (c : Dev nD) : V m c main_v2 = shapeCast S1x1024 (m ((c : Thread nD τ).loc main_arg2)) shapeCasts_S1024_S1x1024 := by
  unfold V
  simp only [hostOps0, hostOps0_1, hostOps0_2, List.flatten_cons, List.flatten_nil, List.append_nil, List.cons_append, List.nil_append]
  after_results
  rfl

theorem V_v3 (c : Dev nD) : V m c main_v3 = shapeCast S1x256 (m ((c : Thread nD τ).loc main_arg5)) shapeCasts_S256_S1x256 := by
  unfold V
  simp only [hostOps0, hostOps0_1, hostOps0_2, List.flatten_cons, List.flatten_nil, List.append_nil, List.cons_append, List.nil_append]
  after_results
  rfl

theorem V_v17 (c : Dev nD) : V m c main_v17 = shapeCast S1x256 (m ((c : Thread nD τ).loc main_arg7)) shapeCasts_S256_S1x256 := by
  unfold V
  simp only [hostOps0, hostOps0_1, hostOps0_2, List.flatten_cons, List.flatten_nil, List.append_nil, List.cons_append, List.nil_append]
  after_results
  rfl

theorem V_v31 (c : Dev nD) : V m c main_v31 = shapeCast S1x256 (m ((c : Thread nD τ).loc main_arg9)) shapeCasts_S256_S1x256 := by
  unfold V
  simp only [hostOps0, hostOps0_1, hostOps0_2, List.flatten_cons, List.flatten_nil, List.append_nil, List.cons_append, List.nil_append]
  after_results
  rfl

theorem V_v32 (c : Dev nD) : V m c main_v32 = shapeCast S1x256 (m ((c : Thread nD τ).loc main_arg10)) shapeCasts_S256_S1x256 := by
  unfold V
  simp only [hostOps0, hostOps0_1, hostOps0_2, List.flatten_cons, List.flatten_nil, List.append_nil, List.cons_append, List.nil_append]
  after_results
  rfl

theorem V_v33 (c : Dev nD) : V m c main_v33 = shapeCast S1x256 (m ((c : Thread nD τ).loc main_arg11)) shapeCasts_S256_S1x256 := by
  unfold V
  simp only [hostOps0, hostOps0_1, hostOps0_2, List.flatten_cons, List.flatten_nil, List.append_nil, List.cons_append, List.nil_append]
  after_results
  rfl

theorem V_v16 (c : Dev nD) : V m c main_v16 = diagT (m ((c : Thread nD τ).loc main_arg6)) := by
  unfold V
  simp only [hostOps0, hostOps0_1, hostOps0_2, List.flatten_cons, List.flatten_nil, List.append_nil, List.cons_append, List.nil_append]
  after_results
  rfl

theorem V_v30 (c : Dev nD) : V m c main_v30 = diagT (m ((c : Thread nD τ).loc main_arg8)) := by
  unfold V
  simp only [hostOps0, hostOps0_1, hostOps0_2, List.flatten_cons, List.flatten_nil, List.append_nil, List.cons_append, List.nil_append]
  after_results
  rfl

theorem V_v42 (c : Dev nD) : V m c main_v42 = onesT := by
  unfold V
  simp only [hostOps0, hostOps0_1, hostOps0_2, List.flatten_cons, List.flatten_nil, List.append_nil, List.cons_append, List.nil_append]
  after_results
  rfl

theorem lt_32 (t : Fin cfg0.N) : t.val < 32 := lt_of_lt_of_eq t.isLt N_0

/-- The sequence of the batch that grid point `t` works on. -/
def bt (t : Fin cfg0.N) : Fin 8 := ⟨t.val / 4, by have := lt_32 t; omega⟩

/-- The row of the sequence at row `r` of the tile of grid point `t`. -/
def rw' (t : Fin cfg0.N) (r : Fin 512) : Fin 2048 := ⟨512 * (t.val % 4) + r.val, by omega⟩

/-- The tile of the sequence that grid point `t` works on, as the kernel's body is given it. -/
theorem tile_of : ∀ t : Fin cfg0.N, ((grid0.coords t) 1).val = t.val % 4 := (by decide +kernel : ∀ t : Fin grid0.N, _)

theorem idx0 : ∀ t : Fin cfg0.N, win0_0.index t = ![t.val / 4, t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![1, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)

theorem blk0 (c : Dev nD) (t : Fin cfg0.N) (r : Fin 512) (k : Fin 1024) :
    (iblk m c 0 t : Vec Ideal S1x512x1024 .f32) (ix3 0 r k) = m ((c : Thread nD τ).loc main_arg0) (ix3 (bt t) (rw' t r) k) := by
  blk_ext [iblk, V_main_arg0, idx0 t, bt, rw']

theorem cast8_apply (v : FVec Ideal S8x6144 .f32) (b : Fin 8) (k : Fin 6144) :
    shapeCast S8x1x6144 v shapeCasts_S8x6144_S8x1x6144 (ix3 b 0 k) = v (ix2 b k) := by
  pointwise []

theorem blk1 (c : Dev nD) (t : Fin cfg0.N) (k : Fin 6144) :
    (iblk m c 1 t : Vec Ideal S1x1x6144 .f32) (ix3 0 0 k) = m ((c : Thread nD τ).loc main_arg1) (ix2 (bt t) k) := by
  refine Eq.trans ?_ (cast8_apply _ (bt t) k)
  blk_simp [iblk]
  rw [V_v1]
  blk_ext [idx1 t, bt]

theorem blk2 (c : Dev nD) (t : Fin cfg0.N) (k : Fin 1024) :
    (iblk m c 2 t : Vec Ideal S1x1024 .f32) (ix2 0 k) = m ((c : Thread nD τ).loc main_arg2) (ix1 k) := by
  blk_simp [iblk]
  rw [V_v2]
  pointwise []
  blk_ext [idx2 t]

theorem blk3 (c : Dev nD) (t : Fin cfg0.N) (k : Fin 1024) (n : Fin 2944) :
    (iblk m c 3 t : Vec Ideal S1x1024x2944 .bf16) (ix3 0 k n) = m ((c : Thread nD τ).loc main_arg3) (ix3 1 k n) := by
  blk_simp [iblk]
  rw [V_v0]
  pointwise []
  blk_ext [idx3 t]

theorem blk4 (c : Dev nD) (t : Fin cfg0.N) (k : Fin 4) (n : Fin 256) :
    (iblk m c 4 t : Vec Ideal S4x256 .f32) (ix2 k n) = m ((c : Thread nD τ).loc main_arg4) (ix2 k n) := by
  blk_ext [iblk, V_main_arg4, idx4 t]

theorem blk5 (c : Dev nD) (t : Fin cfg0.N) (n : Fin 256) :
    (iblk m c 5 t : Vec Ideal S1x256 .f32) (ix2 0 n) = m ((c : Thread nD τ).loc main_arg5) (ix1 n) := by
  blk_simp [iblk]
  rw [V_v3]
  pointwise []
  blk_ext [idx5 t]

theorem blk7 (c : Dev nD) (t : Fin cfg0.N) (n : Fin 256) :
    (iblk m c 7 t : Vec Ideal S1x256 .f32) (ix2 0 n) = m ((c : Thread nD τ).loc main_arg7) (ix1 n) := by
  blk_simp [iblk]
  rw [V_v17]
  pointwise []
  blk_ext [idx7 t]

theorem blk9 (c : Dev nD) (t : Fin cfg0.N) (n : Fin 256) :
    (iblk m c 9 t : Vec Ideal S1x256 .f32) (ix2 0 n) = m ((c : Thread nD τ).loc main_arg9) (ix1 n) := by
  blk_simp [iblk]
  rw [V_v31]
  pointwise []
  blk_ext [idx9 t]

theorem blk10 (c : Dev nD) (t : Fin cfg0.N) (n : Fin 256) :
    (iblk m c 10 t : Vec Ideal S1x256 .f32) (ix2 0 n) = m ((c : Thread nD τ).loc main_arg10) (ix1 n) := by
  blk_simp [iblk]
  rw [V_v32]
  pointwise []
  blk_ext [idx10 t]

theorem blk11 (c : Dev nD) (t : Fin cfg0.N) (n : Fin 256) :
    (iblk m c 11 t : Vec Ideal S1x256 .f32) (ix2 0 n) = m ((c : Thread nD τ).loc main_arg11) (ix1 n) := by
  blk_simp [iblk]
  rw [V_v33]
  pointwise []
  blk_ext [idx11 t]

theorem blk12 (c : Dev nD) (t : Fin cfg0.N) (k n : Fin 256) :
    (iblk m c 12 t : Vec Ideal S256x256 .bf16) (ix2 k n) = onesT (ix2 k n) := by
  blk_simp [iblk]
  rw [V_v42]
  blk_ext [idx12 t]

theorem blk6 (c : Dev nD) (t : Fin cfg0.N) (k n : Fin 256) :
    (iblk m c 6 t : Vec Ideal S256x256 .bf16) (ix2 k n) = diagT (m ((c : Thread nD τ).loc main_arg6)) (ix2 k n) := by
  blk_simp [iblk]
  rw [V_v16]
  blk_ext [idx6 t]

theorem blk8 (c : Dev nD) (t : Fin cfg0.N) (k n : Fin 256) :
    (iblk m c 8 t : Vec Ideal S256x256 .bf16) (ix2 k n) = diagT (m ((c : Thread nD τ).loc main_arg8)) (ix2 k n) := by
  blk_simp [iblk]
  rw [V_v30]
  blk_ext [idx8 t]

end Cert.Lru

end
-- ==== Proof.LruKernel.lean ====
/-
  The arrays the recurrent mixer's kernel leaves, at every index: the projected rows and the mixer's output row of the
  argument arrays, provided every argument entry is a real number.
-/
module

public import proofs.«01_k».proof.Proof.LruStep
public import proofs.«01_k».proof.Proof.LruBlocks

@[expose] public section

set_option maxRecDepth 16384

noncomputable section

namespace Cert.Lru

open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

/-- The arguments as the program is started with them. -/
def argsK (c : Dev nD) : Args where
  x := m ((c : Thread nD τ).loc main_arg0)
  md := m ((c : Thread nD τ).loc main_arg1)
  g := m ((c : Thread nD τ).loc main_arg2)
  w := m ((c : Thread nD τ).loc main_arg3)
  cw := m ((c : Thread nD τ).loc main_arg4)
  cb := m ((c : Thread nD τ).loc main_arg5)
  gaw := m ((c : Thread nD τ).loc main_arg6)
  gab := m ((c : Thread nD τ).loc main_arg7)
  gxw := m ((c : Thread nD τ).loc main_arg8)
  gxb := m ((c : Thread nD τ).loc main_arg9)
  lam := m ((c : Thread nD τ).loc main_arg10)
  og := m ((c : Thread nD τ).loc main_arg11)

theorem xAt_of (A : Args) (b : Fin 8) (s : Fin 2048) : xAt A b s.val = fun k => A.x (ix3 b s k) :=
  funext fun k => dif_pos s.isLt

theorem h_at (c : Dev nD) (t : Fin cfg0.N) (r : Fin 512) (k : Fin 1024) :
    hAt m c t (ix2 r k) = HR (argsK m c) (bt t) (rw' t r).val k := by
  refine (h_apply (iblk m c 1 t) (iblk m c 0 t) (iblk m c 2 t) r k).trans ?_
  simp only [blk0, blk1, blk2]
  unfold HR
  rw [xAt_of]
  rfl

theorem pr_at (c : Dev nD) (t : Fin cfg0.N) (r : Fin 512) (n : Fin 2944) :
    prT (hAt m c t) (iblk m c 3 t) r n = PR (argsK m c) (bt t) (rw' t r).val n := by
  unfold prT
  simp only [h_at, blk3]
  rfl

theorem p_at (c : Dev nD) (t : Fin cfg0.N) (r n : Fin 512) :
    pAt m c t (ix2 r n) = PR (argsK m c) (bt t) (rw' t r).val ⟨1536 + n.val, by omega⟩ := by
  refine (pc_apply (iblk m c 1 t) (iblk m c 0 t) (iblk m c 2 t) (wC (iblk m c 3 t)) r n).trans (Eq.trans ?_ (pr_at m c t r _))
  simp only [wC_apply]
  rfl

theorem xraw_at (c : Dev nD) (t : Fin cfg0.N) (r : Fin 512) (n : Fin 256) :
    k0_pay9 (F := Ideal) (pAt m c t) (ix2 r n) = XRAW (argsK m c) (bt t) (rw' t r).val n :=
  (xraw_apply _ r n).trans (p_at m c t r _)

theorem xg_at (c : Dev nD) (t : Fin cfg0.N) (r : Fin 512) (n : Fin 256) :
    k0_pay10 (F := Ideal) (pAt m c t) (ix2 r n) = XG (argsK m c) (bt t) (rw' t r).val n :=
  (xg_apply _ r n).trans ((p_at m c t r _).trans (congrArg (PR _ _ _) (Fin.ext (by show 1536 + (256 + n.val) = 1792 + n.val; omega))))

/-- The rows carried out of a grid point are the last eight rows of its tile. -/
theorem hist_at (c : Dev nD) (t : Fin cfg0.N) (r : Fin 8) (n : Fin 256) :
    histOut m c t (ix2 r n) = XRAW (argsK m c) (bt t) (512 * (t.val % 4) + 504 + r.val) n := by
  have e : htAt m c t (ix2 r n) = XRAW (argsK m c) (bt t) (512 * (t.val % 4) + 504 + r.val) n := by
    refine (tail_apply _ r n).trans ((xraw_at m c t ⟨504 + r.val, by omega⟩ n).trans ?_)
    exact congrArg (fun s => XRAW (argsK m c) (bt t) s n) (by show 512 * (t.val % 4) + (504 + r.val) = _; omega)
  by_cases h : t.val % 4 = 0
  · rw [hist_A m c t h, e]
  · rw [hist_B m c t h, e]

/-- What a grid point finds carried into it: the rows before its tile and the state before its tile. -/
structure Carried (c : Dev nD) (t : Fin cfg0.N) (H S : Vec Ideal S8x256 .f32) : Prop where
  rows : ∀ d : ℕ, 1 ≤ d → d ≤ 8 → ∀ (r : Fin 512) (n : Fin 256),
    back d (k0_pay9 (F := Ideal) (pAt m c t)) H r n = PREV (argsK m c) d (bt t) (rw' t r).val n
  state : ∀ n : Fin 256, S (ix2 0 n) = ST (argsK m c) (bt t) n (512 * (t.val % 4))

theorem pay7_apply (r : Fin 8) (n : Fin 256) : k0_pay7 (F := Ideal) (ix2 r n) = 0 := by
  pointwise [k0_pay7]

theorem pay8_apply (r : Fin 8) (n : Fin 256) : k0_pay8 (F := Ideal) (ix2 r n) = 0 := by
  pointwise [k0_pay8]

theorem carried_A (c : Dev nD) (t : Fin cfg0.N) (h : t.val % 4 = 0) : Carried m c t (k0_pay7 (F := Ideal)) (k0_pay8 (F := Ideal)) where
  rows d h1 h8 r n := by
    unfold back PREV
    by_cases e : d ≤ r.val
    · rw [dif_pos e, if_pos (show d ≤ (rw' t r).val by simp only [rw']; omega), xraw_at]
      exact congrArg (fun s => XRAW (argsK m c) (bt t) s n) (by simp only [rw']; omega)
    · rw [dif_neg e, dif_pos h8, if_neg (show ¬ d ≤ (rw' t r).val by simp only [rw']; omega), pay7_apply]
  state n := by rw [pay8_apply, h]; rfl

theorem carried_B (c : Dev nD) (t : Fin cfg0.N) (h : ¬ t.val % 4 = 0) (S : Vec Ideal S8x256 .f32)
    (hS : ∀ n : Fin 256, S (ix2 0 n) = ST (argsK m c) (bt (before t)) n (512 * ((before t).val % 4) + 512)) :
    Carried m c t (histOut m c (before t)) S where
  rows d h1 h8 r n := by
    have ht := lt_32 t
    unfold back PREV
    rw [if_pos (show d ≤ (rw' t r).val by simp only [rw']; omega)]
    by_cases e : d ≤ r.val
    · rw [dif_pos e, xraw_at]
      exact congrArg (fun s => XRAW (argsK m c) (bt t) s n) (by simp only [rw']; omega)
    · rw [dif_neg e, dif_pos h8, hist_at]
      exact congrArg₂ (fun b s => XRAW (argsK m c) b s n) (Fin.ext (by simp only [bt]; omega)) (by simp only [rw']; omega)
  state n := by
    have ht := lt_32 t
    rw [hS]
    exact congrArg₂ (fun b s => ST (argsK m c) b n s) (Fin.ext (by simp only [bt]; omega)) (by simp only []; omega)

/-- A gate over the whole block-diagonal matrix is the gate over the column's own block. -/
theorem gate_sum (w : FVec Ideal S4x64x64 .f32) (bias : FVec Ideal S256 .f32) (x y : Fin 256 → EReal) (c : Fin 256)
    (hy : ∀ k, y k = diagT w (ix2 k c)) :
    Ideal.logistic (∑ k : Fin 256, x k * y k + bias (ix1 c)) = gate w bias x c := by
  unfold gate
  refine congrArg (fun s : EReal => Ideal.logistic (s + bias (ix1 c))) ?_
  simp only [hy, diagT_apply]
  refine (sum_block x (fun k => w (ix3 ⟨c.val / 64, by omega⟩ ⟨k.val % 64, by omega⟩ ⟨c.val % 64, by omega⟩)) c).trans ?_
  refine Finset.sum_congr rfl fun d _ => ?_
  refine congrArg (fun q : Fin 64 => x _ * w (ix3 _ q _)) (Fin.ext ?_)
  show (64 * (c.val / 64) + d.val) % 64 = d.val
  omega

variable {m} {c : Dev nD} {t : Fin cfg0.N} {H S : Vec Ideal S8x256 .f32} (hc : Carried m c t H S) (hR : Fin' (argsK m c))

section
include hc

theorem xr_at (r : Fin 512) (n : Fin 256) :
    xrK (pAt m c t) H (iblk m c 4 t) (iblk m c 5 t) (ix2 r n) = XR (argsK m c) (bt t) (rw' t r).val n := by
  refine (xr_apply (pAt m c t) H (iblk m c 4 t) (iblk m c 5 t) r n).trans ?_
  rw [hc.rows 1 (by decide) (by decide), hc.rows 2 (by decide) (by decide), hc.rows 3 (by decide) (by decide), xraw_at]
  simp only [blk4, blk5]
  rfl

theorem rg_at (r : Fin 512) (n : Fin 256) :
    rT (pAt m c t) H (iblk m c 4 t) (iblk m c 5 t) (iblk m c 6 t) (iblk m c 7 t) (ix2 r n)
      = RG (argsK m c) (bt t) (rw' t r).val n := by
  refine (rg_apply _ _ _ (iblk m c 6 t) (iblk m c 7 t) r n).trans ?_
  rw [blk7]
  refine (congrArg (fun s : EReal => Ideal.logistic (s + _)) (Finset.sum_congr rfl fun k _ =>
    congrArg (fun v : EReal => v * _) (xr_at hc r k))).trans ?_
  exact gate_sum _ _ _ _ n (fun k => blk6 m c t k n)

theorem ig_at (r : Fin 512) (n : Fin 256) :
    iT (pAt m c t) H (iblk m c 4 t) (iblk m c 5 t) (iblk m c 8 t) (iblk m c 9 t) (ix2 r n)
      = IG (argsK m c) (bt t) (rw' t r).val n := by
  refine (ig_apply _ _ _ (iblk m c 8 t) (iblk m c 9 t) r n).trans ?_
  rw [blk9]
  refine (congrArg (fun s : EReal => Ideal.logistic (s + _)) (Finset.sum_congr rfl fun k _ =>
    congrArg (fun v : EReal => v * _) (xr_at hc r k))).trans ?_
  exact gate_sum _ _ _ _ n (fun k => blk8 m c t k n)

theorem ll_at (r : Fin 512) (n : Fin 256) :
    k0_pay22 (F := Ideal) (rT (pAt m c t) H (iblk m c 4 t) (iblk m c 5 t) (iblk m c 6 t) (iblk m c 7 t)) (iblk m c 10 t) (ix2 r n)
      = LL (argsK m c) (bt t) (rw' t r).val n := by
  refine (ll_apply _ (iblk m c 10 t) r n).trans ?_
  rw [rg_at hc, blk10]
  rfl

/-- The decays of the tile. -/
theorem a0_at (r : Fin 512) (n : Fin 256) :
    k0_pay23 (F := Ideal) (k0_pay22 (rT (pAt m c t) H (iblk m c 4 t) (iblk m c 5 t) (iblk m c 6 t) (iblk m c 7 t)) (iblk m c 10 t)) (ix2 r n)
      = AA (argsK m c) (bt t) (rw' t r).val n := by
  rw [aa_apply, ll_at hc]
  rfl

include hR

/-- The scaled inputs of the tile. -/
theorem u0_at (r : Fin 512) (n : Fin 256) :
    u0K (BitVec.ofNat 32 ((grid0.coords t) 1).val) (xrK (pAt m c t) H (iblk m c 4 t) (iblk m c 5 t))
      (iT (pAt m c t) H (iblk m c 4 t) (iblk m c 5 t) (iblk m c 8 t) (iblk m c 9 t))
      (k0_pay22 (rT (pAt m c t) H (iblk m c 4 t) (iblk m c 5 t) (iblk m c 6 t) (iblk m c 7 t)) (iblk m c 10 t)) (ix2 r n)
      = UU (argsK m c) (bt t) (rw' t r).val n := by
  rw [u0_apply, ll_at hc, xr_at hc, ig_at hc, mult_eq (LL_isR hR _ _ _), ← c_two, tile_of]
  unfold UU MU
  have e : (BitVec.ofNat 32 (t.val % 4) = 0#32 ∧ r.val = 0) ↔ (rw' t r).val = 0 := by
    have h4 : BitVec.ofNat 32 (t.val % 4) = 0#32 ↔ t.val % 4 = 0 := ofNat_inj (by omega) (by omega)
    rw [h4]
    simp only [rw']
    omega
  simp only [e]

/-- The doubled tiles step the recurrence through the tile. -/
theorem step_at (n : Fin 256) (q j : ℕ) (hq : q < 64) (hj : j < 8) :
    col (uAt m c t H) n (8 * q + j) + col (aAt m c t H) n (8 * q + j) * ST (argsK m c) (bt t) n (512 * (t.val % 4) + 8 * q)
      = ST (argsK m c) (bt t) n (512 * (t.val % 4) + (8 * q + j + 1)) := by
  unfold uAt aAt uT aT
  rw [col_uK, col_aK]
  have ea : ∀ r (hr : r < 512), col (k0_pay23 (F := Ideal) (k0_pay22 (rT (pAt m c t) H (iblk m c 4 t) (iblk m c 5 t) (iblk m c 6 t) (iblk m c 7 t))
      (iblk m c 10 t))) n r = AA (argsK m c) (bt t) (512 * (t.val % 4) + r) n :=
    fun r hr => (col_of _ _ _ hr).trans (a0_at hc ⟨r, hr⟩ n)
  have eu : ∀ r (hr : r < 512), col (u0K (BitVec.ofNat 32 ((grid0.coords t) 1).val) (xrK (pAt m c t) H (iblk m c 4 t) (iblk m c 5 t))
      (iT (pAt m c t) H (iblk m c 4 t) (iblk m c 5 t) (iblk m c 8 t) (iblk m c 9 t))
      (k0_pay22 (rT (pAt m c t) H (iblk m c 4 t) (iblk m c 5 t) (iblk m c 6 t) (iblk m c 7 t)) (iblk m c 10 t))) n r
        = UU (argsK m c) (bt t) (512 * (t.val % 4) + r) n :=
    fun r hr => (col_of _ _ _ hr).trans (u0_at hc hR ⟨r, hr⟩ n)
  refine scan_group _ _ (fun r => ST (argsK m c) (bt t) n (512 * (t.val % 4) + r)) 512 (fun r => ?_) (fun r => ?_)
    (fun r => ST_real hR _ _ _) (fun r hr => ?_) q j hj (by omega)
  · by_cases hr : r < 512
    · rw [ea r hr]; exact AA_real hR _ _ _
    · rw [col, dif_neg hr]; exact IsR.zero
  · by_cases hr : r < 512
    · rw [eu r hr]; exact UU_real hR _ _ _
    · rw [col, dif_neg hr]; exact IsR.zero
  · rw [ea r hr, eu r hr]
    rfl

theorem row0_at (n : Fin 256) : row0 S (ix2 0 n) = ST (argsK m c) (bt t) n (512 * (t.val % 4) + 0) :=
  (row0_apply S n).trans (hc.state n)

theorem hh_at (r : Fin 512) (n : Fin 256) :
    hhRaw (uAt m c t H) (aAt m c t H) (row0 S) (ix2 r n) = ST (argsK m c) (bt t) n ((rw' t r).val + 1) :=
  hh_apply _ _ _ n (fun r => ST (argsK m c) (bt t) n (512 * (t.val % 4) + r)) (row0_at hc hR n)
    (fun q j hq hj => step_at hc hR n q j hq hj) r

theorem st_at (j : Fin 8) (n : Fin 256) :
    stAt m c t H S (ix2 j n) = ST (argsK m c) (bt t) n (512 * (t.val % 4) + 512) :=
  st_apply _ _ _ n (fun r => ST (argsK m c) (bt t) n (512 * (t.val % 4) + r)) (row0_at hc hR n)
    (fun q j hq hj => step_at hc hR n q j hq hj) j

theorem yc_at (r : Fin 512) (n : Fin 256) :
    ycAt m c t H S (ix3 0 r n) = YC (argsK m c) (bt t) (rw' t r).val n := by
  refine (y_apply (k0_pay10 (pAt m c t)) (hhRaw (uAt m c t H) (aAt m c t H) (row0 S)) (iblk m c 12 t) (iblk m c 11 t) r
    (fun k n => (blk12 m c t k n).trans (onesT_apply k n)) (YY (argsK m c) (bt t) (rw' t r).val) (fun n => ?_)
    (fun n => YY_real hR _ _ _) n).trans ?_
  · rw [hh_at hc hR, xg_at]
    rfl
  · rw [blk11]
    rfl

end

/-- Every grid point finds the rows and the state of the sequence before its tile. -/
theorem state_at (hR : Fin' (argsK m c)) : ∀ (k : ℕ) (t : Fin cfg0.N), t.val = k → ∀ (j : Fin 8) (n : Fin 256),
    stOut m c t (ix2 j n) = ST (argsK m c) (bt t) n (512 * (t.val % 4) + 512) := by
  intro k
  induction k with
  | zero =>
    intro t ht j n
    have h : t.val % 4 = 0 := by omega
    rw [st_A m c t h]
    exact st_at (carried_A m c t h) hR j n
  | succ k ih =>
    intro t ht j n
    by_cases h : t.val % 4 = 0
    · rw [st_A m c t h]
      exact st_at (carried_A m c t h) hR j n
    · rw [st_B m c t h]
      exact st_at (carried_B m c t h _ (fun n => ih (before t) (by show t.val - 1 = k; omega) 0 n)) hR j n

theorem ycOut_at (hR : Fin' (argsK m c)) (t : Fin cfg0.N) (r : Fin 512) (n : Fin 256) :
    (outsAt0 m c t.val t.isLt).2.2.1 (ix3 0 r n) = YC (argsK m c) (bt t) (rw' t r).val n := by
  by_cases h : t.val % 4 = 0
  · rw [yc_A m c t h]
    exact yc_at (carried_A m c t h) hR r n
  · rw [yc_B m c t h]
    exact yc_at (carried_B m c t h _ (fun n => state_at hR _ (before t) rfl 0 n)) hR r n

/-! ### The arrays -/

theorem point_lt (b : Fin 8) (s : Fin 2048) : 4 * b.val + s.val / 512 < cfg0.N := by
  refine lt_of_lt_of_eq ?_ N_0.symm
  show _ < 32
  omega

/-- The grid point whose tile holds a row. -/
abbrev pointOf (b : Fin 8) (s : Fin 2048) : Fin cfg0.N := ⟨4 * b.val + s.val / 512, point_lt b s⟩

theorem bt_point (b : Fin 8) (s : Fin 2048) : bt (pointOf b s) = b := Fin.ext (by simp only [bt]; omega)

theorem rw_point (b : Fin 8) (s : Fin 2048) : (rw' (pointOf b s) ⟨s.val % 512, by omega⟩).val = s.val := by
  simp only [rw']; omega

theorem pa_apply (c : Dev nD) (b : Fin 8) (s : Fin 2048) (n : Fin 768) :
    G13 m c (ix3 b s n) = PR (argsK m c) b s.val ⟨n.val, by omega⟩ := by
  have hv : pt13Of (ix3 b s n) = 4 * b.val + s.val / 512 := by
    show 4 * (b.val / 1 - 0) + 1 * (s.val / 512 - 0) + 1 * (n.val / 768 - 0) = _
    omega
  have hl : loc13Of (ix3 b s n) = ix3 0 ⟨s.val % 512, by omega⟩ n := by
    funext a
    match a with
    | ⟨0, _⟩ => exact Fin.ext (by show b.val % 1 = 0; omega)
    | ⟨1, _⟩ => rfl
    | ⟨2, _⟩ => exact Fin.ext (by show n.val % 768 = n.val; omega)
  have key : ∀ (p : ℕ) (hp : p = 4 * b.val + s.val / 512) (h : p < cfg0.N), (outsAt0 m c p h).1 (ix3 0 ⟨s.val % 512, by omega⟩ n)
      = PR (argsK m c) b s.val ⟨n.val, by omega⟩ := by
    rintro p rfl h
    refine (pa_at m c (pointOf b s) ⟨s.val % 512, by omega⟩ n).trans ((pr_at m c _ _ _).trans ?_)
    rw [bt_point, rw_point]
  unfold G13
  rw [dif_pos (hv ▸ point_lt b s), ← outsAt0_sweep m c _ (hv ▸ point_lt b s), hl]
  exact key _ hv _

theorem pb_apply (c : Dev nD) (b : Fin 8) (s : Fin 2048) (n : Fin 768) :
    G14 m c (ix3 b s n) = PR (argsK m c) b s.val ⟨768 + n.val, by omega⟩ := by
  have hv : pt14Of (ix3 b s n) = 4 * b.val + s.val / 512 := by
    show 4 * (b.val / 1 - 0) + 1 * (s.val / 512 - 0) + 1 * (n.val / 768 - 0) = _
    omega
  have hl : loc14Of (ix3 b s n) = ix3 0 ⟨s.val % 512, by omega⟩ n := by
    funext a
    match a with
    | ⟨0, _⟩ => exact Fin.ext (by show b.val % 1 = 0; omega)
    | ⟨1, _⟩ => rfl
    | ⟨2, _⟩ => exact Fin.ext (by show n.val % 768 = n.val; omega)
  have key : ∀ (p : ℕ) (hp : p = 4 * b.val + s.val / 512) (h : p < cfg0.N), (outsAt0 m c p h).2.1 (ix3 0 ⟨s.val % 512, by omega⟩ n)
      = PR (argsK m c) b s.val ⟨768 + n.val, by omega⟩ := by
    rintro p rfl h
    refine (pb_at m c (pointOf b s) ⟨s.val % 512, by omega⟩ n).trans ((pr_at m c _ _ _).trans ?_)
    rw [bt_point, rw_point]
  unfold G14
  rw [dif_pos (hv ▸ point_lt b s), ← outsAt0_sweep m c _ (hv ▸ point_lt b s), hl]
  exact key _ hv _

theorem yc_apply (hR : Fin' (argsK m c)) (b : Fin 8) (s : Fin 2048) (n : Fin 256) :
    G15 m c (ix3 b s n) = YC (argsK m c) b s.val n := by
  have hv : pt15Of (ix3 b s n) = 4 * b.val + s.val / 512 := by
    show 4 * (b.val / 1 - 0) + 1 * (s.val / 512 - 0) + 1 * (n.val / 256 - 0) = _
    omega
  have hl : loc15Of (ix3 b s n) = ix3 0 ⟨s.val % 512, by omega⟩ n := by
    funext a
    match a with
    | ⟨0, _⟩ => exact Fin.ext (by show b.val % 1 = 0; omega)
    | ⟨1, _⟩ => rfl
    | ⟨2, _⟩ => exact Fin.ext (by show n.val % 256 = n.val; omega)
  have key : ∀ (p : ℕ) (hp : p = 4 * b.val + s.val / 512) (h : p < cfg0.N), (outsAt0 m c p h).2.2.1 (ix3 0 ⟨s.val % 512, by omega⟩ n)
      = YC (argsK m c) b s.val n := by
    rintro p rfl h
    refine (ycOut_at hR (pointOf b s) ⟨s.val % 512, by omega⟩ n).trans ?_
    rw [bt_point, rw_point]
  unfold G15
  rw [dif_pos (hv ▸ point_lt b s), ← outsAt0_sweep m c _ (hv ▸ point_lt b s), hl]
  exact key _ hv _

theorem pd_apply (c : Dev nD) (b : Fin 8) (s : Fin 2048) (n : Fin 896) :
    G16 m c (ix3 b s n) = PR (argsK m c) b s.val ⟨2048 + n.val, by omega⟩ := by
  have hv : pt16Of (ix3 b s n) = 4 * b.val + s.val / 512 := by
    show 4 * (b.val / 1 - 0) + 1 * (s.val / 512 - 0) + 1 * (n.val / 896 - 0) = _
    omega
  have hl : loc16Of (ix3 b s n) = ix3 0 ⟨s.val % 512, by omega⟩ n := by
    funext a
    match a with
    | ⟨0, _⟩ => exact Fin.ext (by show b.val % 1 = 0; omega)
    | ⟨1, _⟩ => rfl
    | ⟨2, _⟩ => exact Fin.ext (by show n.val % 896 = n.val; omega)
  have key : ∀ (p : ℕ) (hp : p = 4 * b.val + s.val / 512) (h : p < cfg0.N), (outsAt0 m c p h).2.2.2.1 (ix3 0 ⟨s.val % 512, by omega⟩ n)
      = PR (argsK m c) b s.val ⟨2048 + n.val, by omega⟩ := by
    rintro p rfl h
    refine (pd_at m c (pointOf b s) ⟨s.val % 512, by omega⟩ n).trans ((pr_at m c _ _ _).trans ?_)
    rw [bt_point, rw_point]
  unfold G16
  rw [dif_pos (hv ▸ point_lt b s), ← outsAt0_sweep m c _ (hv ▸ point_lt b s), hl]
  exact key _ hv _

end Cert.Lru

end
-- ==== Proof.LruLoop.lean ====
/-
  The reference's loop over the sequence: the state and the rows written after any number of trips.
-/
module

public import proofs.«01_k».proof.Proof.Gen.ReferenceIdeal.Run
public import Idealize.ShloMosaic.Lib.Pointwise
public import Idealize.ShloMosaic.Lib.DynamicIndex
public import Idealize.ShloMosaic.Lib.WordCmp

@[expose] public section

set_option maxRecDepth 16384

noncomputable section

namespace Cert.Lru

open Idealize.ShloMosaic Idealize.ShloMosaic.TcCoe Idealize.SL.Sem Idealize.ShloMosaic.StableHlo
open Cert.ReferenceIdeal Cert.ReferenceIdeal.Gen Cert.ReferenceIdeal.Value

/-- The place in a stack of rows that a counter names. -/
abbrev startOf (i : IVec S_ 32) : Fin 3 → Int :=
  fun k => (((![i, constantI S_ 32 0#32, constantI S_ 32 0#32] : Fin 3 → IVec S_ 32)) k (Shape.Idx.first h_S_)).toInt

theorem startOf_at (i : IVec S_ 32) (k : ℕ) (hk : k < 2048) (hi : i (Shape.Idx.first h_S_) = BitVec.ofNat 32 k) :
    ∀ a, startOf i a = ((![k, 0, 0] : Fin 3 → ℕ) a : Int) := by
  intro a
  match a with
  | ⟨0, _⟩ =>
    show (i (Shape.Idx.first h_S_)).toInt = (k : Int)
    rw [hi, BitVec.toInt_eq_toNat_of_lt (by rw [BitVec.toNat_ofNat]; omega), BitVec.toNat_ofNat]
    omega
  | ⟨1, _⟩ => rfl
  | ⟨2, _⟩ => rfl

theorem slices_row (k : ℕ) (hk : k < 2048) : S2048x8x256.Slices (![k, 0, 0] : Fin 3 → ℕ) S1x8x256 :=
  ⟨rfl, by intro a; fin_cases a <;> simp; omega⟩

/-- The row of a stack that a counter names. -/
def rowAt (x : FVec Ideal S2048x8x256 .f32) (i : IVec S_ 32) : FVec Ideal S8x256 .f32 :=
  shapeCast S8x256 (Host.dynamicSlice S1x8x256 x (startOf i) sliceFits_S2048x8x256_S1x8x256) shapeCasts_S1x8x256_S8x256

theorem rowAt_apply (x : FVec Ideal S2048x8x256 .f32) (i : IVec S_ 32) (k : Fin 2048)
    (hi : i (Shape.Idx.first h_S_) = BitVec.ofNat 32 k.val) (b : Fin 8) (n : Fin 256) :
    rowAt x i (ix2 b n) = x (ix3 k b n) := by
  unfold rowAt
  rw [Host.dynamicSlice_eq_extractStridedSlice _ _ _ (![k.val, 0, 0] : Fin 3 → ℕ) _ (slices_row k.val k.isLt) (startOf_at i k.val k.isLt hi)]
  have hk := k.isLt
  pointwise []

/-- A stack with the row that a counter names replaced. -/
def putAt (x : FVec Ideal S2048x8x256 .f32) (y : FVec Ideal S8x256 .f32) (i : IVec S_ 32) : FVec Ideal S2048x8x256 .f32 :=
  Host.dynamicUpdateSlice x (broadcastInDim S1x8x256 ![1, 2] bcast_S8x256_S1x8x256_1_2 y) (startOf i) updateFits_S2048x8x256_S1x8x256

theorem putAt_apply (x : FVec Ideal S2048x8x256 .f32) (y : FVec Ideal S8x256 .f32) (i : IVec S_ 32) (k : Fin 2048)
    (hi : i (Shape.Idx.first h_S_) = BitVec.ofNat 32 k.val) (s : Fin 2048) (b : Fin 8) (n : Fin 256) :
    putAt x y i (ix3 s b n) = if s = k then y (ix2 b n) else x (ix3 s b n) := by
  unfold putAt
  rw [WordCmp.dynamicUpdateSlice_eq_update _ _ _ _ (![k.val, 0, 0] : Fin 3 → ℕ) (slices_row k.val k.isLt) (startOf_at i k.val k.isLt hi)]
  have hk := k.isLt
  pointwise []
  by_cases e : s = k
  · rw [if_pos e, dif_pos (by rw [e]; omega)]
  · rw [if_neg e, dif_neg (fun h => e (Fin.ext (by omega)))]

/-- One step of the recurrence from the rows a counter names. -/
def stepRow (a u : FVec Ideal S2048x8x256 .f32) (h : FVec Ideal S8x256 .f32) (i : IVec S_ 32) : FVec Ideal S8x256 .f32 :=
  addf (mulf (rowAt a i) h) (rowAt u i)

theorem stepRow_apply (a u : FVec Ideal S2048x8x256 .f32) (h : FVec Ideal S8x256 .f32) (i : IVec S_ 32) (k : Fin 2048)
    (hi : i (Shape.Idx.first h_S_) = BitVec.ofNat 32 k.val) (b : Fin 8) (n : Fin 256) :
    stepRow a u h i (ix2 b n) = a (ix3 k b n) * h (ix2 b n) + u (ix3 k b n) := by
  show rowAt a i (ix2 b n) * h (ix2 b n) + rowAt u i (ix2 b n) = _
  rw [rowAt_apply a i k hi, rowAt_apply u i k hi]

/-- The contents before the loop's trip number `k`. -/
structure Inv (al up ga : Fin 8 → Fin 2048 → Fin 256 → EReal) (S : Fin 8 → Fin 256 → ℕ → EReal) (k : ℕ)
    (V : Valuation τ sig (Elt Ideal)) : Prop where
  a : ∀ s b n, (V (Proc.devRef .tc main_v131_0) : FVec Ideal S2048x8x256 .f32) (ix3 s b n) = al b s n
  u : ∀ s b n, (V (Proc.devRef .tc main_v131_1) : FVec Ideal S2048x8x256 .f32) (ix3 s b n) = up b s n
  g : ∀ s b n, (V (Proc.devRef .tc main_v131_2) : FVec Ideal S2048x8x256 .f32) (ix3 s b n) = ga b s n
  ctr : (V (Proc.devRef .tc main_v131_3) : IVec S_ 32) (Shape.Idx.first h_S_) = BitVec.ofNat 32 k
  h : ∀ b n, (V (Proc.devRef .tc main_v131_4) : FVec Ideal S8x256 .f32) (ix2 b n) = S b n k
  y : ∀ (s : Fin 2048) b n, s.val < k →
    (V (Proc.devRef .tc main_v131_5) : FVec Ideal S2048x8x256 .f32) (ix3 s b n) = S b n (s.val + 1) * ga b s n

/-- The state a trip leaves. -/
theorem state_eq (V : Valuation τ sig (Elt Ideal)) :
    (step_main_v131_4 V : FVec Ideal S8x256 .f32) = stepRow (V (Proc.devRef .tc main_v131_0)) (V (Proc.devRef .tc main_v131_1))
      (V (Proc.devRef .tc main_v131_4)) (V (Proc.devRef .tc main_v131_3)) := rfl

/-- The rows a trip leaves. -/
theorem rows_eq (V : Valuation τ sig (Elt Ideal)) :
    (step_main_v131_5 V : FVec Ideal S2048x8x256 .f32) = putAt (V (Proc.devRef .tc main_v131_5))
      (mulf (step_main_v131_4 V) (rowAt (V (Proc.devRef .tc main_v131_2)) (V (Proc.devRef .tc main_v131_3))))
      (V (Proc.devRef .tc main_v131_3)) := rfl

theorem inv_step {al up ga : Fin 8 → Fin 2048 → Fin 256 → EReal} {S : Fin 8 → Fin 256 → ℕ → EReal}
    (hS : ∀ b n (s : Fin 2048), S b n (s.val + 1) = al b s n * S b n s.val + up b s n) {k : ℕ} (hk : k < 2048)
    {V : Valuation τ sig (Elt Ideal)} (hV : Inv al up ga S k V) : Inv al up ga S (k + 1) (STEP V) := by
  have hst : ∀ b n, (step_main_v131_4 V : FVec Ideal S8x256 .f32) (ix2 b n) = S b n (k + 1) := by
    intro b n
    rw [state_eq, hS b n ⟨k, hk⟩]
    rw [stepRow_apply _ _ _ _ ⟨k, hk⟩ hV.ctr, hV.a, hV.u, hV.h]
  refine ⟨?_, ?_, ?_, ?_, ?_, ?_⟩
  · intro s b n; rw [STEP_main_v131_0]; exact hV.a s b n
  · intro s b n; rw [STEP_main_v131_1]; exact hV.u s b n
  · intro s b n; rw [STEP_main_v131_2]; exact hV.g s b n
  · rw [STEP_main_v131_3]
    show IntOp.addi ((V (Proc.devRef .tc main_v131_3) : IVec S_ 32) (Shape.Idx.first h_S_)) 1#32 = _
    rw [hV.ctr]
    exact (BitVec.ofNat_add k 1).symm
  · intro b n; rw [STEP_main_v131_4]; exact hst b n
  · intro s b n hs
    rw [STEP_main_v131_5, rows_eq, putAt_apply _ _ _ ⟨k, hk⟩ hV.ctr]
    by_cases e : s = ⟨k, hk⟩
    · rw [if_pos e]
      refine (mulf_apply _ _ _).trans ?_
      rw [hst, rowAt_apply _ _ ⟨k, hk⟩ hV.ctr, hV.g, e]
      rfl
    · rw [if_neg e]
      exact hV.y s b n (by have : s.val ≠ k := fun h => e (Fin.ext h); omega)

theorem inv_iter {al up ga : Fin 8 → Fin 2048 → Fin 256 → EReal} {S : Fin 8 → Fin 256 → ℕ → EReal}
    (hS : ∀ b n (s : Fin 2048), S b n (s.val + 1) = al b s n * S b n s.val + up b s n)
    {V : Valuation τ sig (Elt Ideal)} (hV : Inv al up ga S 0 V) : ∀ k, k ≤ 2048 → Inv al up ga S k (STEP^[k] V)
  | 0, _ => hV
  | k + 1, h => by
    rw [Function.iterate_succ_apply']
    exact inv_step hS h (inv_iter hS hV k (Nat.le_of_succ_le h))

end Cert.Lru

end
-- ==== Proof.LruRef.lean ====
/-
  The reference of the recurrent mixer and the projection in front of it in its stages, each read at every index.
-/
module

public import proofs.«01_k».proof.Proof.LruSpec
public import proofs.«01_k».proof.Proof.Gen.ReferenceIdeal.Run
public import proofs.«01_k».proof.Proof.LruLoop
public import Idealize.ShloMosaic.Lib.Pointwise

@[expose] public section

set_option maxRecDepth 16384

noncomputable section

namespace Cert.Lru

open Idealize.ShloMosaic Idealize.ShloMosaic.TcCoe Idealize.SL.Sem
open Idealize.ShloMosaic.StableHlo Cert.ReferenceIdeal Cert.ReferenceIdeal.Gen

/-- The normalised and modulated array. -/
def rH (a0 : FVec Ideal S8x2048x1024 .f32) (a1 : FVec Ideal S8x6144 .f32) (a2 : FVec Ideal S1024 .f32) : FVec Ideal S8x2048x1024 .f32 :=
  addf (mulf (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a2))) (broadcastInDim S8x2048x1024 ![0, 1, 2] bcast_S8x1x1024_S8x2048x1024_0_1_2 (addf (broadcastInDim S8x1x1024 ![] bcast_S_S8x1x1024 (constant S_ .f32 0x3F800000#32)) (extractStridedSlice S8x1x1024 ![0, 0, 1024] (broadcastInDim S8x1x6144 ![0, 2] bcast_S8x6144_S8x1x6144_0_2 a1) slices_S8x1x6144_S8x1x1024_0_0_1024)))) (broadcastInDim S8x2048x1024 ![0, 1, 2] bcast_S8x1x1024_S8x2048x1024_0_1_2 (extractStridedSlice S8x1x1024 ![0, 0, 0] (broadcastInDim S8x1x6144 ![0, 2] bcast_S8x6144_S8x1x6144_0_2 a1) slices_S8x1x6144_S8x1x1024_0_0_0))

/-- The projection. -/
def rP (H : FVec Ideal S8x2048x1024 .f32) (a3 : FVec Ideal S4x1024x2944 .f32) : FVec Ideal S8x2048x2944 .f32 :=
  Host.dotGeneral dot_S8x2048x1024_S1024x2944_S8x2048x2944_2_0_01_1_n_n none H (shapeCast _ (extractStridedSlice S1x1024x2944 ![1, 0, 0] a3 slices_S4x1024x2944_S1x1024x2944_1_0_0) shapeCasts_S1x1024x2944_S1024x2944)

/-- The recurrence's input columns. -/
def rRaw (P : FVec Ideal S8x2048x2944 .f32) : FVec Ideal S8x2048x256 .f32 :=
  extractStridedSlice S8x2048x256 ![0, 0, 0] (extractStridedSlice S8x2048x512 ![0, 0, 1536] P slices_S8x2048x2944_S8x2048x512_0_0_1536) slices_S8x2048x512_S8x2048x256_0_0_0

/-- The output gate's columns. -/
def rXg (P : FVec Ideal S8x2048x2944 .f32) : FVec Ideal S8x2048x256 .f32 :=
  extractStridedSlice S8x2048x256 ![0, 0, 256] (extractStridedSlice S8x2048x512 ![0, 0, 1536] P slices_S8x2048x2944_S8x2048x512_0_0_1536) slices_S8x2048x512_S8x2048x256_0_0_256

/-- Three rows of zeros in front. -/
def rPad (X : FVec Ideal S8x2048x256 .f32) : FVec Ideal S8x2051x256 .f32 :=
  pad S8x2051x256 ![0, 3, 0] ![0, 0, 0] ![0, 0, 0] X (sitofp .f32 (constantI S_ 32 0#32)) pads_S8x2048x256_S8x2051x256_000_300_000 h_S_

/-- The convolution. -/
def rConv (D : FVec Ideal S8x2051x256 .f32) (a4 : FVec Ideal S4x256 .f32) (a5 : FVec Ideal S256 .f32) : FVec Ideal S8x2048x256 .f32 :=
  addf (addf (addf (addf (addf (broadcastInDim S8x2048x256 ![] bcast_S_S8x2048x256 (constant S_ .f32 0x00000000#32)) (mulf (broadcastInDim S8x2048x256 ![0, 1, 2] bcast_S1x1x256_S8x2048x256_0_1_2 (broadcastInDim S1x1x256 ![2] bcast_S256_S1x1x256_2 (shapeCast _ (extractStridedSlice S1x256 ![0, 0] a4 slices_S4x256_S1x256_0_0) shapeCasts_S1x256_S256))) (extractStridedSlice S8x2048x256 ![0, 0, 0] D slices_S8x2051x256_S8x2048x256_0_0_0))) (mulf (broadcastInDim S8x2048x256 ![0, 1, 2] bcast_S1x1x256_S8x2048x256_0_1_2 (broadcastInDim S1x1x256 ![2] bcast_S256_S1x1x256_2 (shapeCast _ (extractStridedSlice S1x256 ![1, 0] a4 slices_S4x256_S1x256_1_0) shapeCasts_S1x256_S256))) (extractStridedSlice S8x2048x256 ![0, 1, 0] D slices_S8x2051x256_S8x2048x256_0_1_0))) (mulf (broadcastInDim S8x2048x256 ![0, 1, 2] bcast_S1x1x256_S8x2048x256_0_1_2 (broadcastInDim S1x1x256 ![2] bcast_S256_S1x1x256_2 (shapeCast _ (extractStridedSlice S1x256 ![2, 0] a4 slices_S4x256_S1x256_2_0) shapeCasts_S1x256_S256))) (extractStridedSlice S8x2048x256 ![0, 2, 0] D slices_S8x2051x256_S8x2048x256_0_2_0))) (mulf (broadcastInDim S8x2048x256 ![0, 1, 2] bcast_S1x1x256_S8x2048x256_0_1_2 (broadcastInDim S1x1x256 ![2] bcast_S256_S1x1x256_2 (shapeCast _ (extractStridedSlice S1x256 ![3, 0] a4 slices_S4x256_S1x256_3_0) shapeCasts_S1x256_S256))) (extractStridedSlice S8x2048x256 ![0, 3, 0] D slices_S8x2051x256_S8x2048x256_0_3_0))) (broadcastInDim S8x2048x256 ![0, 1, 2] bcast_S1x1x256_S8x2048x256_0_1_2 (broadcastInDim S1x1x256 ![2] bcast_S256_S1x1x256_2 a5))

/-- A gate. -/
def rGate (X : FVec Ideal S8x2048x256 .f32) (a6 : FVec Ideal S4x64x64 .f32) (a7 : FVec Ideal S256 .f32) : FVec Ideal S8x2048x256 .f32 :=
  Host.divf (broadcastInDim S8x2048x256 ![] bcast_S_S8x2048x256 (constant S_ .f32 0x3F800000#32)) (addf (broadcastInDim S8x2048x256 ![] bcast_S_S8x2048x256 (constant S_ .f32 0x3F800000#32)) (Host.exp (Host.negf (addf (shapeCast _ (transpose S8x2048x4x64 [2, 3, 0, 1] (Host.dotGeneral dot_S4x64x64_S8x2048x4x64_S4x64x8x2048_1_3_2_01_0_2 none a6 (shapeCast _ X shapeCasts_S8x2048x256_S8x2048x4x64)) transposes_S4x64x8x2048_S8x2048x4x64_2_3_0_1) shapeCasts_S8x2048x4x64_S8x2048x256) (broadcastInDim S8x2048x256 ![0, 1, 2] bcast_S1x1x256_S8x2048x256_0_1_2 (broadcastInDim S1x1x256 ![2] bcast_S256_S1x1x256_2 a7))))))

/-- The recurrence gate scaled. -/
def rScale (R : FVec Ideal S8x2048x256 .f32) : FVec Ideal S8x2048x256 .f32 :=
  mulf (broadcastInDim S8x2048x256 ![] bcast_S_S8x2048x256 (constant S_ .f32 0xC1000000#32)) R

/-- The softplus function. -/
def rSoft (z : FVec Ideal S256 .f32) : FVec Ideal S256 .f32 :=
  select (cmpf .une (subf z (broadcastInDim S256 ![] bcast_S_S256 (constant S_ .f32 0x00000000#32))) (subf z (broadcastInDim S256 ![] bcast_S_S256 (constant S_ .f32 0x00000000#32)))) (addf z (broadcastInDim S256 ![] bcast_S_S256 (constant S_ .f32 0x00000000#32))) (addf (maximumf z (broadcastInDim S256 ![] bcast_S_S256 (constant S_ .f32 0x00000000#32))) (Host.log1p (Host.exp (Host.negf (Host.absf (subf z (broadcastInDim S256 ![] bcast_S_S256 (constant S_ .f32 0x00000000#32))))))))

/-- The logarithm of the decay. -/
def rLL (R : FVec Ideal S8x2048x256 .f32) (z : FVec Ideal S256 .f32) : FVec Ideal S8x2048x256 .f32 :=
  mulf R (broadcastInDim S8x2048x256 ![0, 1, 2] bcast_S1x1x256_S8x2048x256_0_1_2 (broadcastInDim S1x1x256 ![2] bcast_S256_S1x1x256_2 z))

/-- The input's factor past the start. -/
def rMu (L : FVec Ideal S8x2048x256 .f32) : FVec Ideal S8x2048x256 .f32 :=
  Host.sqrt (Host.negf (Host.expm1 (mulf (broadcastInDim S8x2048x256 ![] bcast_S_S8x2048x256 (constant S_ .f32 0x40000000#32)) L)))

/-- Where the sequence starts. -/
def rMask  : IVec S1x2048x1 1 :=
  broadcastInDim S1x2048x1 ![1] bcast_S2048_S1x2048x1_1 (cmpi .eq (iotaInDim S2048 32 0) (broadcastInDim S2048 ![] bcast_S_S2048 (constantI S_ 32 0#32)))

/-- The input's factor. -/
def rSel (K : IVec S1x2048x1 1) (M : FVec Ideal S8x2048x256 .f32) : FVec Ideal S8x2048x256 .f32 :=
  select (broadcastInDim S8x2048x256 ![0, 1, 2] bcast_S1x2048x1_S8x2048x256_0_1_2 K) (broadcastInDim S8x2048x256 ![] bcast_S_S8x2048x256 (constant S_ .f32 0x3F800000#32)) M

/-- The scaled input. -/
def rU (M I X : FVec Ideal S8x2048x256 .f32) : FVec Ideal S8x2048x256 .f32 :=
  mulf (mulf M I) X

/-- The smooth gate. -/
def rGelu (G : FVec Ideal S8x2048x256 .f32) : FVec Ideal S8x2048x256 .f32 :=
  mulf G (mulf (broadcastInDim S8x2048x256 ![] bcast_S_S8x2048x256 (constant S_ .f32 0x3F000000#32)) (addf (broadcastInDim S8x2048x256 ![] bcast_S_S8x2048x256 (constant S_ .f32 0x3F800000#32)) (Host.tanh (mulf (broadcastInDim S8x2048x256 ![] bcast_S_S8x2048x256 (constant S_ .f32 0x3F4C422A#32)) (addf G (mulf (broadcastInDim S8x2048x256 ![] bcast_S_S8x2048x256 (constant S_ .f32 0x3D372713#32)) (mulf (mulf G G) G)))))))

/-- The sequence put first. -/
def rTr (A : FVec Ideal S8x2048x256 .f32) : FVec Ideal S2048x8x256 .f32 :=
  transpose S2048x8x256 [1, 0, 2] A transposes_S8x2048x256_S2048x8x256_1_0_2

/-- The batch put first again and the columns split into four groups. -/
def rZ (Y : FVec Ideal S2048x8x256 .f32) : FVec Ideal S8x2048x4x64 .f32 :=
  shapeCast _ (transpose S8x2048x256 [1, 0, 2] Y transposes_S2048x8x256_S8x2048x256_1_0_2) shapeCasts_S8x2048x256_S8x2048x4x64

/-- The rows normalised in their groups. -/
def rYc (Z : FVec Ideal S8x2048x4x64 .f32) (a11 : FVec Ideal S256 .f32) : FVec Ideal S8x2048x256 .bf16 :=
  truncf .bf16 (shapeCast _ (mulf (mulf Z (broadcastInDim S8x2048x4x64 ![0, 1, 2, 3] bcast_S8x2048x4x1_S8x2048x4x64_0_1_2_3 (Host.rsqrt (addf (Host.divf (broadcastInDim S8x2048x4x1 ![0, 1, 2] bcast_S8x2048x4_S8x2048x4x1_0_1_2 (Host.reduceAdd (mulf Z Z) (constant S_ .f32 0x00000000#32) reducesTo_S8x2048x4x64_S8x2048x4_d3 h_S_)) (broadcastInDim S8x2048x4x1 ![] bcast_S_S8x2048x4x1 (constant S_ .f32 0x42800000#32))) (broadcastInDim S8x2048x4x1 ![] bcast_S_S8x2048x4x1 (constant S_ .f32 0x358637BD#32)))))) (broadcastInDim S8x2048x4x64 ![0, 1, 2, 3] bcast_S1x1x4x64_S8x2048x4x64_0_1_2_3 (broadcastInDim S1x1x4x64 ![2, 3] bcast_S4x64_S1x1x4x64_2_3 (shapeCast _ a11 shapeCasts_S256_S4x64)))) shapeCasts_S8x2048x4x64_S8x2048x256) bitsLt_bf16_f32

variable (A : Args)

theorem xAt_eq (b : Fin 8) (s : Fin 2048) : xAt A b s.val = fun k => A.x (ix3 b s k) := funext fun k => dif_pos s.isLt

theorem rH_apply (b : Fin 8) (s : Fin 2048) (n : Fin 1024) : rH A.x A.md A.g (ix3 b s n) = HR A b s.val n := by
  unfold HR
  rw [xAt_eq]
  pointwise [rH, Cert.Ffn.hRow, Cert.Ffn.rms]

theorem rP_apply (b : Fin 8) (s : Fin 2048) (n : Fin 2944) : rP (rH A.x A.md A.g) A.w (ix3 b s n) = PR A b s.val n := by
  have e : ∀ H, rP H A.w (ix3 b s n) = ∑ k : Fin 1024, H (ix3 b s k) * A.w (ix3 1 k n) := by
    intro H
    pointwise [rP]
  rw [e]
  simp only [rH_apply]
  rfl

theorem rRaw_apply (P : FVec Ideal S8x2048x2944 .f32) (hP : ∀ b s n, P (ix3 b s n) = PR A b s.val n)
    (b : Fin 8) (s : Fin 2048) (n : Fin 256) : rRaw P (ix3 b s n) = XRAW A b s.val n := by
  have e : rRaw P (ix3 b s n) = P (ix3 b s ⟨1536 + n.val, by omega⟩) := by pointwise [rRaw]
  rw [e, hP]
  rfl

theorem rXg_apply (P : FVec Ideal S8x2048x2944 .f32) (hP : ∀ b s n, P (ix3 b s n) = PR A b s.val n)
    (b : Fin 8) (s : Fin 2048) (n : Fin 256) : rXg P (ix3 b s n) = XG A b s.val n := by
  have e : rXg P (ix3 b s n) = P (ix3 b s ⟨1792 + n.val, by omega⟩) := by
    pointwise [rXg]
    refine congrArg (fun q => P (ix3 b s q)) (Fin.ext ?_)
    show 1536 + (256 + n.val) = 1792 + n.val
    omega
  rw [e, hP]
  rfl

theorem rPad_apply (X : FVec Ideal S8x2048x256 .f32) (hX : ∀ b s n, X (ix3 b s n) = XRAW A b s.val n)
    (b : Fin 8) (s : Fin 2051) (n : Fin 256) : rPad X (ix3 b s n) = if 3 ≤ s.val then XRAW A b (s.val - 3) n else 0 := by
  have e : rPad X (ix3 b s n) = if h : 3 ≤ s.val then X (ix3 b ⟨s.val - 3, by omega⟩ n) else 0 := by
    pointwise [rPad]
    have z : (FloatOps.sitofp (F := Ideal) FTy.f32 (0#32) : EReal) = 0 := by
      show (((0#32 : BitVec 32).toInt : ℝ) : EReal) = 0
      simp
    by_cases h : 3 ≤ s.val
    · rw [dif_pos ⟨h, by omega⟩, dif_pos h]
    · rw [dif_neg (fun hh => h hh.1), dif_neg h]
      exact z
  rw [e]
  simp only [hX]
  split <;> rfl

theorem rConv_apply (D : FVec Ideal S8x2051x256 .f32)
    (hD : ∀ b s n, D (ix3 b s n) = if 3 ≤ s.val then XRAW A b (s.val - 3) n else 0)
    (b : Fin 8) (s : Fin 2048) (n : Fin 256) : rConv D A.cw A.cb (ix3 b s n) = XR A b s.val n := by
  have e : rConv D A.cw A.cb (ix3 b s n) = 0 + A.cw (ix2 0 n) * D (ix3 b ⟨s.val, by omega⟩ n)
      + A.cw (ix2 1 n) * D (ix3 b ⟨1 + s.val, by omega⟩ n) + A.cw (ix2 2 n) * D (ix3 b ⟨2 + s.val, by omega⟩ n)
      + A.cw (ix2 3 n) * D (ix3 b ⟨3 + s.val, by omega⟩ n) + A.cb (ix1 n) := by
    pointwise [rConv]
  have key : ∀ (j d : ℕ) (hj : j + d = 3) (h : j + s.val < 2051), D (ix3 b ⟨j + s.val, h⟩ n) = PREV A d b s.val n := by
    intro j d hj h
    rw [hD]
    unfold PREV
    dsimp only
    by_cases hd : d ≤ s.val
    · rw [if_pos (by omega), if_pos hd, show j + s.val - 3 = s.val - d by omega]
    · rw [if_neg (by omega), if_neg hd]
  have e0 : D (ix3 b ⟨s.val, by omega⟩ n) = PREV A 3 b s.val n :=
    (congrArg (fun q => D (ix3 b q n)) (Fin.ext (Nat.zero_add s.val).symm)).trans (key 0 3 rfl (by omega))
  have e3 : PREV A 0 b s.val n = XRAW A b s.val n := if_pos (Nat.zero_le _)
  rw [e, e0, key 1 2 rfl, key 2 1 rfl, key 3 0 rfl, e3, zero_add]
  unfold XR
  ac_rfl

theorem rGate_apply (X : FVec Ideal S8x2048x256 .f32) (w : FVec Ideal S4x64x64 .f32) (bias : FVec Ideal S256 .f32)
    (b : Fin 8) (s : Fin 2048) (n : Fin 256) : rGate X w bias (ix3 b s n) = gate w bias (fun k => X (ix3 b s k)) n := by
  have e : rGate X w bias (ix3 b s n) = Ideal.logistic (∑ d : Fin 64, w (ix3 ⟨n.val / 64, by omega⟩ d ⟨n.val % 64, by omega⟩)
      * X (ix3 b s ⟨64 * (n.val / 64) + d.val, by omega⟩) + bias (ix1 n)) := by
    pointwise [rGate, Ideal.logistic]
    simp only [Nat.mul_comm 64]
  rw [e]
  unfold gate
  exact congrArg (fun q => Ideal.logistic (q + bias (ix1 n))) (Finset.sum_congr rfl (fun d _ => mul_comm _ _))

theorem rScale_apply (R : FVec Ideal S8x2048x256 .f32) (b : Fin 8) (s : Fin 2048) (n : Fin 256) :
    rScale R (ix3 b s n) = Ideal.ofBits .f32 0xC1000000#32 * R (ix3 b s n) := by
  pointwise [rScale]

theorem rSoft_apply (z : FVec Ideal S256 .f32) (n : Fin 256) : rSoft z (ix1 n) = softplus (z (ix1 n)) := by
  pointwise [rSoft, softplus]
  rw [if_neg (fun h => h rfl)]
  rfl

theorem rLL_apply (R : FVec Ideal S8x2048x256 .f32) (z : FVec Ideal S256 .f32) (b : Fin 8) (s : Fin 2048) (n : Fin 256) :
    rLL R z (ix3 b s n) = R (ix3 b s n) * z (ix1 n) := by
  pointwise [rLL]

theorem rMu_apply (L : FVec Ideal S8x2048x256 .f32) (b : Fin 8) (s : Fin 2048) (n : Fin 256) :
    rMu L (ix3 b s n) = Ideal.sqrt (-(Ideal.exp (Ideal.ofBits .f32 0x40000000#32 * L (ix3 b s n)) - 1)) := by
  pointwise [rMu]

theorem rSel_apply (M : FVec Ideal S8x2048x256 .f32) (b : Fin 8) (s : Fin 2048) (n : Fin 256) :
    rSel rMask M (ix3 b s n) = if s.val = 0 then 1 else M (ix3 b s n) := by
  pointwise [rSel, rMask]
  by_cases h : s.val = 0
  · rw [h, if_pos rfl]
    rfl
  · have hb : IntOp.cmpi CmpIPredicate.eq (BitVec.ofNat 32 s.val) 0#32 = 0#1 := by
      have hne : BitVec.ofNat 32 s.val ≠ 0#32 := by
        intro e
        have e' := congrArg BitVec.toNat e
        simp only [BitVec.toNat_ofNat] at e'
        omega
      simp [IntOp.cmpi, beq_eq_false_iff_ne.2 hne]
    rw [if_neg h, hb]
    rfl

theorem rU_apply (M I X : FVec Ideal S8x2048x256 .f32) (b : Fin 8) (s : Fin 2048) (n : Fin 256) :
    rU M I X (ix3 b s n) = M (ix3 b s n) * I (ix3 b s n) * X (ix3 b s n) := by
  pointwise [rU]

theorem rGelu_apply (G : FVec Ideal S8x2048x256 .f32) (b : Fin 8) (s : Fin 2048) (n : Fin 256) :
    rGelu G (ix3 b s n) = gelu (G (ix3 b s n)) := by
  have e : rGelu G (ix3 b s n) = G (ix3 b s n) * (Ideal.ofBits .f32 0x3F000000#32 * (1 + Ideal.tanh (Ideal.ofBits .f32 0x3F4C422A#32
      * (G (ix3 b s n) + Ideal.ofBits .f32 0x3D372713#32 * (G (ix3 b s n) * G (ix3 b s n) * G (ix3 b s n)))))) := by
    pointwise [rGelu]
  rw [e]
  unfold gelu
  ac_rfl

theorem rTr_apply (X : FVec Ideal S8x2048x256 .f32) (b : Fin 8) (s : Fin 2048) (n : Fin 256) :
    rTr X (ix3 s b n) = X (ix3 b s n) := by
  pointwise [rTr]

theorem rYc_apply (Y : FVec Ideal S2048x8x256 .f32) (og : FVec Ideal S256 .f32) (b : Fin 8) (s : Fin 2048) (n : Fin 256) :
    rYc (rZ Y) og (ix3 b s n) = Y (ix3 s b n) * Ideal.rsqrt (MS (fun k => Y (ix3 s b k)) n + Ideal.ofBits .f32 0x358637BD#32)
      * og (ix1 n) := by
  pointwise [rYc, rZ, MS]
  simp only [Nat.mul_comm 64]

theorem rYc_YC (Y : FVec Ideal S2048x8x256 .f32) (og : FVec Ideal S256 .f32) (hY : ∀ b s n, Y (ix3 s b n) = YY A b s.val n) (ho : og = A.og)
    (b : Fin 8) (s : Fin 2048) (n : Fin 256) : rYc (rZ Y) og (ix3 b s n) = YC A b s.val n := by
  rw [rYc_apply, ho]
  simp only [hY]
  rfl

end Cert.Lru

end
-- ==== Proof.LruEntry.lean ====
/-
  The reference's operations before its loop: what its loop starts from, at every index.
-/
module

public import proofs.«01_k».proof.Proof.LruRef

@[expose] public section

set_option maxRecDepth 16384

noncomputable section

namespace Cert.Lru

open Idealize.ShloMosaic Idealize.ShloMosaic.TcCoe Idealize.SL.Sem Idealize.ShloMosaic.StableHlo
open Cert.ReferenceIdeal Cert.ReferenceIdeal.Gen Cert.ReferenceIdeal.Value

/-- The contents of every buffer. -/
abbrev Val := Valuation τ sig (Elt Ideal)

/-- The arguments held by a valuation. -/
def argsV (V : Val) : Args where
  x := V (Proc.devRef .tc main_arg0)
  md := V (Proc.devRef .tc main_arg1)
  g := V (Proc.devRef .tc main_arg2)
  w := V (Proc.devRef .tc main_arg3)
  cw := V (Proc.devRef .tc main_arg4)
  cb := V (Proc.devRef .tc main_arg5)
  gaw := V (Proc.devRef .tc main_arg6)
  gab := V (Proc.devRef .tc main_arg7)
  gxw := V (Proc.devRef .tc main_arg8)
  gxb := V (Proc.devRef .tc main_arg9)
  lam := V (Proc.devRef .tc main_arg10)
  og := V (Proc.devRef .tc main_arg11)

variable (V : Val)

theorem read_v33 : (after hostOps0 V (Proc.devRef .tc main_v33) : FVec Ideal S8x2048x256 .f32) =
    (rRaw (rP (rH (V (Proc.devRef .tc main_arg0)) (V (Proc.devRef .tc main_arg1)) (V (Proc.devRef .tc main_arg2))) (V (Proc.devRef .tc main_arg3))) : FVec Ideal S8x2048x256 .f32) := by
  after_reads_simp
  rfl

theorem read_v34 : (after hostOps0 V (Proc.devRef .tc main_v34) : FVec Ideal S8x2048x256 .f32) =
    (rXg (rP (rH (V (Proc.devRef .tc main_arg0)) (V (Proc.devRef .tc main_arg1)) (V (Proc.devRef .tc main_arg2))) (V (Proc.devRef .tc main_arg3))) : FVec Ideal S8x2048x256 .f32) := by
  after_reads_simp
  rfl

theorem read_c : (after hostOps0 V (Proc.devRef .tc main_c) : IVec S_ 32) = constantI S_ 32 0#32 := by
  after_reads_simp

theorem read_v35 (hc : (V (Proc.devRef .tc main_c) : IVec S_ 32) = constantI S_ 32 0#32) :
    (after hostOps0_1 V (Proc.devRef .tc main_v35) : FVec Ideal S8x2051x256 .f32) = rPad (V (Proc.devRef .tc main_v33)) := by
  after_reads_simp
  rw [hc]
  rfl

theorem read_v67 : (after hostOps0_2 V (Proc.devRef .tc main_v67) : FVec Ideal S8x2048x256 .f32) =
    (rConv (V (Proc.devRef .tc main_v35)) (V (Proc.devRef .tc main_arg4)) (V (Proc.devRef .tc main_arg5)) : FVec Ideal S8x2048x256 .f32) := by
  after_reads_simp
  rfl

theorem read_v92 : (after hostOps0_2 V (Proc.devRef .tc main_v92) : FVec Ideal S8x2048x256 .f32) =
    (rGate (rConv (V (Proc.devRef .tc main_v35)) (V (Proc.devRef .tc main_arg4)) (V (Proc.devRef .tc main_arg5))) (V (Proc.devRef .tc main_arg8)) (V (Proc.devRef .tc main_arg9)) : FVec Ideal S8x2048x256 .f32) := by
  after_reads_simp
  rfl

theorem read_v94 : (after hostOps0_2 V (Proc.devRef .tc main_v94) : FVec Ideal S8x2048x256 .f32) =
    (rScale (rGate (rConv (V (Proc.devRef .tc main_v35)) (V (Proc.devRef .tc main_arg4)) (V (Proc.devRef .tc main_arg5))) (V (Proc.devRef .tc main_arg6)) (V (Proc.devRef .tc main_arg7))) : FVec Ideal S8x2048x256 .f32) := by
  after_reads_simp
  rfl

theorem read_v95 : (after hostOps0_2 V (Proc.devRef .tc main_v95) : FVec Ideal S256 .f32) =
    (Host.negf (V (Proc.devRef .tc main_arg10) : FVec Ideal S256 .f32) : FVec Ideal S256 .f32) := by
  after_reads_simp

theorem read_v96 : (after hostOps0_3 V (Proc.devRef .tc main_v96) : FVec Ideal S256 .f32) =
    (rSoft (V (Proc.devRef .tc main_v95)) : FVec Ideal S256 .f32) := by
  after_reads_simp
  rfl

theorem read_v100 : (after hostOps0_4 V (Proc.devRef .tc main_v100) : FVec Ideal S8x2048x256 .f32) =
    (Host.exp (rLL (V (Proc.devRef .tc main_v94)) (V (Proc.devRef .tc main_v96))) : FVec Ideal S8x2048x256 .f32) := by
  after_reads_simp
  rfl

theorem read_v105 : (after hostOps0_4 V (Proc.devRef .tc main_v105) : FVec Ideal S8x2048x256 .f32) =
    (rMu (rLL (V (Proc.devRef .tc main_v94)) (V (Proc.devRef .tc main_v96))) : FVec Ideal S8x2048x256 .f32) := by
  after_reads_simp
  rfl

theorem read_v109 : (after hostOps0_4 V (Proc.devRef .tc main_v109) : IVec S1x2048x1 1) =
    (rMask : IVec S1x2048x1 1) := by
  after_reads_simp
  rfl

theorem read_cst_11 : (after hostOps0_4 V (Proc.devRef .tc main_cst_11) : FVec Ideal S_ .f32) = (constant S_ .f32 0x3F800000#32 : FVec Ideal S_ .f32) := by
  after_reads_simp

theorem read_v110 (hc : (V (Proc.devRef .tc main_cst_11) : FVec Ideal S_ .f32) = (constant S_ .f32 0x3F800000#32 : FVec Ideal S_ .f32)) :
    (after hostOps0_5 V (Proc.devRef .tc main_v110) : FVec Ideal S8x2048x256 .f32) = rSel (V (Proc.devRef .tc main_v109)) (V (Proc.devRef .tc main_v105)) := by
  after_reads_simp
  rw [hc]
  rfl

theorem read_v131_0 : (after hostOps0_6 V (Proc.devRef .tc main_v131_0) : FVec Ideal S2048x8x256 .f32) =
    (rTr (V (Proc.devRef .tc main_v100)) : FVec Ideal S2048x8x256 .f32) := by
  after_reads_simp
  rfl

theorem read_v131_1 : (after hostOps0_6 V (Proc.devRef .tc main_v131_1) : FVec Ideal S2048x8x256 .f32) =
    (rTr (rU (V (Proc.devRef .tc main_v110)) (V (Proc.devRef .tc main_v92)) (V (Proc.devRef .tc main_v67))) : FVec Ideal S2048x8x256 .f32) := by
  after_reads_simp
  rfl

theorem read_v131_2 : (after hostOps0_6 V (Proc.devRef .tc main_v131_2) : FVec Ideal S2048x8x256 .f32) =
    (rTr (rGelu (V (Proc.devRef .tc main_v34))) : FVec Ideal S2048x8x256 .f32) := by
  after_reads_simp
  rfl

theorem read_v131_4 : (after hostOps0_6 V (Proc.devRef .tc main_v131_4) : FVec Ideal S8x256 .f32) =
    (broadcastInDim S8x256 ![] bcast_S_S8x256 (constant S_ .f32 0x00000000#32) : FVec Ideal S8x256 .f32) := by
  after_reads_simp
  rfl

theorem keep1_v34 : after hostOps0_1 V (Proc.devRef .tc main_v34) = V (Proc.devRef .tc main_v34) :=
  after_of_writes_sub hostOps0_1 V hostOps0_1_writes (by decide +kernel)
theorem keep2_v34 : after hostOps0_2 V (Proc.devRef .tc main_v34) = V (Proc.devRef .tc main_v34) :=
  after_of_writes_sub hostOps0_2 V hostOps0_2_writes (by decide +kernel)
theorem keep3_v34 : after hostOps0_3 V (Proc.devRef .tc main_v34) = V (Proc.devRef .tc main_v34) :=
  after_of_writes_sub hostOps0_3 V hostOps0_3_writes (by decide +kernel)
theorem keep3_v67 : after hostOps0_3 V (Proc.devRef .tc main_v67) = V (Proc.devRef .tc main_v67) :=
  after_of_writes_sub hostOps0_3 V hostOps0_3_writes (by decide +kernel)
theorem keep3_v92 : after hostOps0_3 V (Proc.devRef .tc main_v92) = V (Proc.devRef .tc main_v92) :=
  after_of_writes_sub hostOps0_3 V hostOps0_3_writes (by decide +kernel)
theorem keep3_v94 : after hostOps0_3 V (Proc.devRef .tc main_v94) = V (Proc.devRef .tc main_v94) :=
  after_of_writes_sub hostOps0_3 V hostOps0_3_writes (by decide +kernel)
theorem keep4_v34 : after hostOps0_4 V (Proc.devRef .tc main_v34) = V (Proc.devRef .tc main_v34) :=
  after_of_writes_sub hostOps0_4 V hostOps0_4_writes (by decide +kernel)
theorem keep4_v67 : after hostOps0_4 V (Proc.devRef .tc main_v67) = V (Proc.devRef .tc main_v67) :=
  after_of_writes_sub hostOps0_4 V hostOps0_4_writes (by decide +kernel)
theorem keep4_v92 : after hostOps0_4 V (Proc.devRef .tc main_v92) = V (Proc.devRef .tc main_v92) :=
  after_of_writes_sub hostOps0_4 V hostOps0_4_writes (by decide +kernel)
theorem keep5_v34 : after hostOps0_5 V (Proc.devRef .tc main_v34) = V (Proc.devRef .tc main_v34) :=
  after_of_writes_sub hostOps0_5 V hostOps0_5_writes (by decide +kernel)
theorem keep5_v67 : after hostOps0_5 V (Proc.devRef .tc main_v67) = V (Proc.devRef .tc main_v67) :=
  after_of_writes_sub hostOps0_5 V hostOps0_5_writes (by decide +kernel)
theorem keep5_v92 : after hostOps0_5 V (Proc.devRef .tc main_v92) = V (Proc.devRef .tc main_v92) :=
  after_of_writes_sub hostOps0_5 V hostOps0_5_writes (by decide +kernel)
theorem keep5_v100 : after hostOps0_5 V (Proc.devRef .tc main_v100) = V (Proc.devRef .tc main_v100) :=
  after_of_writes_sub hostOps0_5 V hostOps0_5_writes (by decide +kernel)

/-- The contents after the first stretches of operations, numbered. -/
def E0 : Val := after hostOps0 V
def E1 : Val := after hostOps0_1 (E0 V)
def E2 : Val := after hostOps0_2 (E1 V)
def E3 : Val := after hostOps0_3 (E2 V)
def E4 : Val := after hostOps0_4 (E3 V)
def E5 : Val := after hostOps0_5 (E4 V)
def E6 : Val := after hostOps0_6 (E5 V)

theorem e0_raw (b : Fin 8) (s : Fin 2048) (n : Fin 256) :
    (E0 V (Proc.devRef .tc main_v33) : FVec Ideal S8x2048x256 .f32) (ix3 b s n) = XRAW (argsV V) b s.val n :=
  (congrFun (read_v33 V) (ix3 b s n)).trans (rRaw_apply (argsV V) _ (rP_apply (argsV V)) b s n)

theorem e0_xg (b : Fin 8) (s : Fin 2048) (n : Fin 256) :
    (E0 V (Proc.devRef .tc main_v34) : FVec Ideal S8x2048x256 .f32) (ix3 b s n) = XG (argsV V) b s.val n :=
  (congrFun (read_v34 V) (ix3 b s n)).trans (rXg_apply (argsV V) _ (rP_apply (argsV V)) b s n)

theorem e1_pad (b : Fin 8) (s : Fin 2051) (n : Fin 256) :
    (E1 V (Proc.devRef .tc main_v35) : FVec Ideal S8x2051x256 .f32) (ix3 b s n)
      = if 3 ≤ s.val then XRAW (argsV V) b (s.val - 3) n else 0 :=
  (congrFun (read_v35 (E0 V) (read_c V)) (ix3 b s n)).trans (rPad_apply (argsV V) _ (e0_raw V) b s n)

theorem e1_arg4 : E1 V (Proc.devRef .tc main_arg4) = V (Proc.devRef .tc main_arg4) :=
  (keep_main_arg4_hostOps0_1 _).trans (keep_main_arg4_hostOps0 V)
theorem e1_arg5 : E1 V (Proc.devRef .tc main_arg5) = V (Proc.devRef .tc main_arg5) :=
  (keep_main_arg5_hostOps0_1 _).trans (keep_main_arg5_hostOps0 V)
theorem e1_arg6 : E1 V (Proc.devRef .tc main_arg6) = V (Proc.devRef .tc main_arg6) :=
  (keep_main_arg6_hostOps0_1 _).trans (keep_main_arg6_hostOps0 V)
theorem e1_arg7 : E1 V (Proc.devRef .tc main_arg7) = V (Proc.devRef .tc main_arg7) :=
  (keep_main_arg7_hostOps0_1 _).trans (keep_main_arg7_hostOps0 V)
theorem e1_arg8 : E1 V (Proc.devRef .tc main_arg8) = V (Proc.devRef .tc main_arg8) :=
  (keep_main_arg8_hostOps0_1 _).trans (keep_main_arg8_hostOps0 V)
theorem e1_arg9 : E1 V (Proc.devRef .tc main_arg9) = V (Proc.devRef .tc main_arg9) :=
  (keep_main_arg9_hostOps0_1 _).trans (keep_main_arg9_hostOps0 V)
theorem e1_arg10 : E1 V (Proc.devRef .tc main_arg10) = V (Proc.devRef .tc main_arg10) :=
  (keep_main_arg10_hostOps0_1 _).trans (keep_main_arg10_hostOps0 V)

/-- The convolved array. -/
abbrev convV : FVec Ideal S8x2048x256 .f32 :=
  rConv (E1 V (Proc.devRef .tc main_v35)) (V (Proc.devRef .tc main_arg4)) (V (Proc.devRef .tc main_arg5))

theorem convV_apply (b : Fin 8) (s : Fin 2048) (n : Fin 256) : convV V (ix3 b s n) = XR (argsV V) b s.val n :=
  rConv_apply (argsV V) _ (e1_pad V) b s n

theorem e2_xr (b : Fin 8) (s : Fin 2048) (n : Fin 256) :
    (E2 V (Proc.devRef .tc main_v67) : FVec Ideal S8x2048x256 .f32) (ix3 b s n) = XR (argsV V) b s.val n := by
  refine (congrFun (read_v67 (E1 V)) (ix3 b s n)).trans ?_
  rw [e1_arg4, e1_arg5]
  exact convV_apply V b s n

theorem e2_ig (b : Fin 8) (s : Fin 2048) (n : Fin 256) :
    (E2 V (Proc.devRef .tc main_v92) : FVec Ideal S8x2048x256 .f32) (ix3 b s n) = IG (argsV V) b s.val n := by
  refine (congrFun (read_v92 (E1 V)) (ix3 b s n)).trans ?_
  rw [e1_arg4, e1_arg5, e1_arg8, e1_arg9]
  refine (rGate_apply (convV V) _ _ b s n).trans ?_
  exact congrArg (fun q => gate _ _ q n) (funext (convV_apply V b s))

theorem e2_rg (b : Fin 8) (s : Fin 2048) (n : Fin 256) :
    (E2 V (Proc.devRef .tc main_v94) : FVec Ideal S8x2048x256 .f32) (ix3 b s n)
      = Ideal.ofBits .f32 0xC1000000#32 * RG (argsV V) b s.val n := by
  refine (congrFun (read_v94 (E1 V)) (ix3 b s n)).trans ?_
  rw [e1_arg4, e1_arg5, e1_arg6, e1_arg7]
  refine (rScale_apply _ b s n).trans (congrArg (fun q => Ideal.ofBits .f32 0xC1000000#32 * q) ?_)
  refine (rGate_apply (convV V) _ _ b s n).trans ?_
  exact congrArg (fun q => gate _ _ q n) (funext (convV_apply V b s))

theorem e3_sp (n : Fin 256) :
    (E3 V (Proc.devRef .tc main_v96) : FVec Ideal S256 .f32) (ix1 n) = softplus (-((argsV V).lam (ix1 n))) := by
  refine (congrFun (read_v96 (E2 V)) (ix1 n)).trans ((rSoft_apply _ n).trans (congrArg softplus ?_))
  refine (congrFun (read_v95 (E1 V)) (ix1 n)).trans ?_
  rw [e1_arg10]
  rfl

/-- The logarithm of the decay that the reference forms. -/
abbrev llV : FVec Ideal S8x2048x256 .f32 := rLL (E3 V (Proc.devRef .tc main_v94)) (E3 V (Proc.devRef .tc main_v96))

theorem llV_apply (b : Fin 8) (s : Fin 2048) (n : Fin 256) : llV V (ix3 b s n) = LL (argsV V) b s.val n := by
  have e : (E3 V (Proc.devRef .tc main_v94) : FVec Ideal S8x2048x256 .f32) = E2 V (Proc.devRef .tc main_v94) := keep3_v94 _
  refine (rLL_apply _ _ b s n).trans ?_
  rw [e3_sp, e, e2_rg]
  rfl

theorem e4_aa (b : Fin 8) (s : Fin 2048) (n : Fin 256) :
    (E4 V (Proc.devRef .tc main_v100) : FVec Ideal S8x2048x256 .f32) (ix3 b s n) = AA (argsV V) b s.val n :=
  (congrFun (read_v100 (E3 V)) (ix3 b s n)).trans (congrArg Ideal.exp (llV_apply V b s n))

theorem e5_mu (b : Fin 8) (s : Fin 2048) (n : Fin 256) :
    (E5 V (Proc.devRef .tc main_v110) : FVec Ideal S8x2048x256 .f32) (ix3 b s n) = MU (argsV V) b s.val n := by
  refine (congrFun (read_v110 (E4 V) (read_cst_11 (E3 V))) (ix3 b s n)).trans ?_
  have e : (E4 V (Proc.devRef .tc main_v109) : IVec S1x2048x1 1) = rMask := read_v109 (E3 V)
  have e' : (E4 V (Proc.devRef .tc main_v105) : FVec Ideal S8x2048x256 .f32) = rMu (llV V) := read_v105 (E3 V)
  rw [e, e']
  refine (rSel_apply _ b s n).trans ?_
  rw [rMu_apply, llV_apply]
  rfl

theorem e6_u (b : Fin 8) (s : Fin 2048) (n : Fin 256) :
    (E6 V (Proc.devRef .tc main_v131_1) : FVec Ideal S2048x8x256 .f32) (ix3 s b n) = UU (argsV V) b s.val n := by
  refine (congrFun (read_v131_1 (E5 V)) (ix3 s b n)).trans ((rTr_apply _ b s n).trans ((rU_apply _ _ _ b s n).trans ?_))
  have e : (E5 V (Proc.devRef .tc main_v92) : FVec Ideal S8x2048x256 .f32) = E2 V (Proc.devRef .tc main_v92) :=
    (keep5_v92 _).trans ((keep4_v92 _).trans (keep3_v92 _))
  have e' : (E5 V (Proc.devRef .tc main_v67) : FVec Ideal S8x2048x256 .f32) = E2 V (Proc.devRef .tc main_v67) :=
    (keep5_v67 _).trans ((keep4_v67 _).trans (keep3_v67 _))
  rw [e, e', e5_mu, e2_ig, e2_xr]
  rfl

theorem e6_a (b : Fin 8) (s : Fin 2048) (n : Fin 256) :
    (E6 V (Proc.devRef .tc main_v131_0) : FVec Ideal S2048x8x256 .f32) (ix3 s b n) = AA (argsV V) b s.val n := by
  refine (congrFun (read_v131_0 (E5 V)) (ix3 s b n)).trans ((rTr_apply _ b s n).trans ?_)
  have e : (E5 V (Proc.devRef .tc main_v100) : FVec Ideal S8x2048x256 .f32) = E4 V (Proc.devRef .tc main_v100) := keep5_v100 _
  rw [e]
  exact e4_aa V b s n

theorem e6_g (b : Fin 8) (s : Fin 2048) (n : Fin 256) :
    (E6 V (Proc.devRef .tc main_v131_2) : FVec Ideal S2048x8x256 .f32) (ix3 s b n) = gelu (XG (argsV V) b s.val n) := by
  refine (congrFun (read_v131_2 (E5 V)) (ix3 s b n)).trans ((rTr_apply _ b s n).trans ((rGelu_apply _ b s n).trans (congrArg gelu ?_)))
  have e : (E5 V (Proc.devRef .tc main_v34) : FVec Ideal S8x2048x256 .f32) = E0 V (Proc.devRef .tc main_v34) :=
    (keep5_v34 _).trans ((keep4_v34 _).trans ((keep3_v34 _).trans ((keep2_v34 _).trans (keep1_v34 _))))
  rw [e]
  exact e0_xg V b s n

theorem e6_h (b : Fin 8) (n : Fin 256) : (E6 V (Proc.devRef .tc main_v131_4) : FVec Ideal S8x256 .f32) (ix2 b n) = (0 : EReal) := by
  refine (congrFun (read_v131_4 (E5 V)) (ix2 b n)).trans ?_
  show (broadcastInDim S8x256 ![] bcast_S_S8x256 (constant (F := Ideal) S_ .f32 0x00000000#32)) (ix2 b n) = (0 : EReal)
  pointwise []

variable (m : (ℓ : Loc nD τ sig) → Buf (Elt Ideal) ℓ) (c : Dev nD)

/-- The arguments the reference is given. -/
def argsR : Args := argsV (launchContents m c)

theorem entry_eq : entryContents preI m c = E6 (launchContents m c) := rfl

/-- The loop starts from the decays, the scaled inputs, the gates and the zero state. -/
theorem inv_entry : Inv (fun b s n => AA (argsR m c) b s.val n) (fun b s n => UU (argsR m c) b s.val n)
    (fun b s n => gelu (XG (argsR m c) b s.val n)) (ST (argsR m c)) 0 (entryContents preI m c) where
  a s b n := e6_a (launchContents m c) b s n
  u s b n := e6_u (launchContents m c) b s n
  g s b n := e6_g (launchContents m c) b s n
  ctr := congrFun (ctr_entry m c) _
  h b n := e6_h (launchContents m c) b n
  y s b n hs := absurd hs (Nat.not_lt_zero _)

/-- The rows the loop leaves. -/
theorem loop_rows (b : Fin 8) (s : Fin 2048) (n : Fin 256) :
    (STEP^[2048] (entryContents preI m c) (Proc.devRef .tc main_v131_5) : FVec Ideal S2048x8x256 .f32) (ix3 s b n)
      = YY (argsR m c) b s.val n :=
  (inv_iter (fun b n s => rfl) (inv_entry m c) 2048 (le_refl _)).y s b n s.isLt

/-- The projection from the contents after the loop. -/
theorem rProj_apply (b : Fin 8) (s : Fin 2048) (n : Fin 2944) :
    rP (rH (STEP^[2048] (entryContents preI m c) (Proc.devRef .tc main_arg0)) (STEP^[2048] (entryContents preI m c) (Proc.devRef .tc main_arg1))
      (STEP^[2048] (entryContents preI m c) (Proc.devRef .tc main_arg2))) (STEP^[2048] (entryContents preI m c) (Proc.devRef .tc main_arg3))
      (ix3 b s n) = PR (argsR m c) b s.val n := by
  rw [iter_main_arg0, iter_main_arg1, iter_main_arg2, iter_main_arg3]
  exact rP_apply (argsR m c) b s n

theorem ra_apply (b : Fin 8) (s : Fin 2048) (n : Fin 768) :
    (out_main_v179 (STEP^[2048] (entryContents preI m c)) : FVec Ideal S8x2048x768 .f32) (ix3 b s n)
      = PR (argsR m c) b s.val ⟨n.val, by omega⟩ := by
  have e : ∀ P : FVec Ideal S8x2048x2944 .f32, extractStridedSlice S8x2048x768 ![0, 0, 0] P slices_S8x2048x2944_S8x2048x768_0_0_0 (ix3 b s n)
      = P (ix3 b s ⟨n.val, by omega⟩) := by
    intro P
    pointwise []
  exact (e _).trans (rProj_apply m c b s _)

theorem rb_apply (b : Fin 8) (s : Fin 2048) (n : Fin 768) :
    (out_main_v180 (STEP^[2048] (entryContents preI m c)) : FVec Ideal S8x2048x768 .f32) (ix3 b s n)
      = PR (argsR m c) b s.val ⟨768 + n.val, by omega⟩ := by
  have e : ∀ P : FVec Ideal S8x2048x2944 .f32, extractStridedSlice S8x2048x768 ![0, 0, 768] P slices_S8x2048x2944_S8x2048x768_0_0_768 (ix3 b s n)
      = P (ix3 b s ⟨768 + n.val, by omega⟩) := by
    intro P
    pointwise []
  exact (e _).trans (rProj_apply m c b s _)

theorem rd_apply (b : Fin 8) (s : Fin 2048) (n : Fin 896) :
    (out_main_v182 (STEP^[2048] (entryContents preI m c)) : FVec Ideal S8x2048x896 .f32) (ix3 b s n)
      = PR (argsR m c) b s.val ⟨2048 + n.val, by omega⟩ := by
  have e : ∀ P : FVec Ideal S8x2048x2944 .f32, extractStridedSlice S8x2048x896 ![0, 0, 2048] P slices_S8x2048x2944_S8x2048x896_0_0_2048 (ix3 b s n)
      = P (ix3 b s ⟨2048 + n.val, by omega⟩) := by
    intro P
    pointwise []
  exact (e _).trans (rProj_apply m c b s _)

theorem rc_apply (b : Fin 8) (s : Fin 2048) (n : Fin 256) :
    (out_main_v149 (STEP^[2048] (entryContents preI m c)) : FVec Ideal S8x2048x256 .bf16) (ix3 b s n)
      = YC (argsR m c) b s.val n :=
  rYc_YC (argsR m c) _ _ (loop_rows m c) (iter_main_arg11 m c 2048) b s n

end Cert.Lru

end
-- ==== Proof.LruPre.lean ====
/-
  The precondition of the first program: every entry of every argument is a real number.
-/
module

public import proofs.«01_k».proof.Pre_finite
public import proofs.«01_k».proof.Proof.LruSpec
public import Idealize.ShloMosaic.Lib.ReduceAll
public import Idealize.ShloMosaic.Lib.Pointwise

@[expose] public section

set_option maxRecDepth 16384

noncomputable section

namespace Cert.Lru

open Idealize.ShloMosaic Cert.Pre_finite

theorem pre_facts : Cert.Pre_finite.Facts := by
  constructor <;> decide

/-- An extended real whose size is below infinity is a real number. -/
theorem real_of_lt {x : EReal} (h : max x (-x) < ⊤) : IsR x := by
  induction x with
  | bot => exact absurd h (by simp)
  | top => exact absurd h (by simp)
  | coe r => exact ⟨r, rfl⟩

instance : Subsingleton S_.Idx := ⟨fun a b => funext fun k => k.elim0⟩

theorem and_both {a b : IVec S_ 1} {j : S_.Idx} (h : andi a b j = 1#1) : a j = 1#1 ∧ b j = 1#1 := by
  have e : ∀ x y : BitVec 1, IntOp.andi x y = 1#1 → x = 1#1 ∧ y = 1#1 := by decide
  exact e _ _ h

/-- What one conjunct of the precondition says. -/
theorem real_of_all {s : Shape} {axes : List (Fin s.rank)} (v : FVec Ideal s .f32) (hb : S_.BroadcastsInDim s (![] : Fin 0 → Fin s.rank)) (h : s.ReducesTo axes S_) (hu : 0 < S_.numel) (j : S_.Idx)
    (e : Host.reduce IntOp.andi (cmpf .olt (Host.absf v) (broadcastInDim s ![] hb (constant S_ .f32 0x7F800000#32))) (constantI S_ 1 1#1) h hu j = 1#1)
    (i : s.Idx) : IsR (v i) := by
  have e1 := Host.reduce_andi_all _ _ _ _ j e i
  have e2 : (FloatOps.cmpf (F := Ideal) .olt (max (v i) (-(v i)) : EReal) (Ideal.ofBits .f32 0x7F800000#32) : BitVec 1) = 1#1 := e1
  have ht : Ideal.ofBits .f32 0x7F800000#32 = ⊤ := by simp [Ideal.ofBits, Ideal.ieee]
  rw [ht] at e2
  refine real_of_lt ?_
  by_contra hn
  have e3 : (FloatOps.cmpf (F := Ideal) (φ := .f32) .olt (max (v i) (-(v i)) : EReal) (⊤ : EReal) : BitVec 1) = 0#1 := by
    show BitVec.ofBool (decide (max (v i) (-(v i)) < (⊤ : EReal))) = 0#1
    rw [decide_eq_false hn]
    rfl
  rw [e3] at e2
  exact absurd e2 (by decide)

attribute [local instance] pre_facts

/-- The precondition read entry by entry. -/
theorem fin_of_pre (A : Args) (h : fn (F := Ideal) A.x A.md A.g A.w A.cw A.cb A.gaw A.gab A.gxw A.gxb A.lam A.og = fun _ => 1#1) : Fin' A := by
  have h0 := congrFun h (fun k => k.elim0)
  unfold fn fn_part1 fn_part2 fn_part3 at h0
  dsimp only at h0
  obtain ⟨h0, p11⟩ := and_both h0
  obtain ⟨h0, p10⟩ := and_both h0
  obtain ⟨h0, p9⟩ := and_both h0
  obtain ⟨h0, p8⟩ := and_both h0
  obtain ⟨h0, p7⟩ := and_both h0
  obtain ⟨h0, p6⟩ := and_both h0
  obtain ⟨h0, p5⟩ := and_both h0
  obtain ⟨h0, p4⟩ := and_both h0
  obtain ⟨h0, p3⟩ := and_both h0
  obtain ⟨h0, p2⟩ := and_both h0
  obtain ⟨h0, p1⟩ := and_both h0
  obtain ⟨h0, p0⟩ := and_both h0
  exact ⟨real_of_all _ _ _ _ _ p0, real_of_all _ _ _ _ _ p1, real_of_all _ _ _ _ _ p2, real_of_all _ _ _ _ _ p3,
    real_of_all _ _ _ _ _ p4, real_of_all _ _ _ _ _ p5, real_of_all _ _ _ _ _ p6, real_of_all _ _ _ _ _ p7,
    real_of_all _ _ _ _ _ p8, real_of_all _ _ _ _ _ p9, real_of_all _ _ _ _ _ p10, real_of_all _ _ _ _ _ p11⟩

end Cert.Lru

end
-- ==== Proof.LruClaim.lean ====
/-
  The claims about the mixer's projection and its recurrent branch: the kernel and the reference leave the same four arrays.
-/
module

public import proofs.«01_k».proof.Defs
public import proofs.«01_k».proof.Proof.LruKernel
public import proofs.«01_k».proof.Proof.LruEntry
public import proofs.«01_k».proof.Proof.LruPre
public import proofs.«01_k».proof.Proof.Gen.Kernel.Frame
public import Idealize.ShloMosaic.Lib.Quiescent

@[expose] public section

set_option maxRecDepth 16384

noncomputable section

namespace Cert.Lru

open Idealize.ShloMosaic Idealize.ShloMosaic.TcCoe Idealize.SL.Sem

/-- Two arrays of three axes equal at every triple of coordinates are equal. -/
theorem ext3 {α : Type} {p q r : ℕ} {u v : (⟨3, ![p, q, r]⟩ : Shape).Idx → α} (h : ∀ (b : Fin p) (s : Fin q) (n : Fin r), u (ix3 b s n) = v (ix3 b s n)) : u = v := by
  funext i
  have e : i = ix3 (i 0) (i 1) (i 2) := by idx_ext
  rw [e]
  exact h _ _ _

/-- Every run of the kernel terminates, keeps the arguments and leaves the counters at zero. -/
theorem frame_kernel : Cert.quiescent_Kernel := fun m ρ _ => Cert.Kernel.Gen.frame m ρ

/-- The same of the kernel over the extended reals. -/
theorem frame_ideal : Cert.quiescent_KernelIdeal := fun m ρ _ => Cert.KernelIdeal.Gen.frame m ρ

/-- The same of the reference over the extended reals. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The kernel and the reference, started on the same real arguments, end with the same four arrays. -/
theorem algebraic : @Cert.algebraic_KernelIdeal_ReferenceIdeal_pre_finite _ _ pre_facts := by
  intro m g m' g' hp hag
  refine ⟨fun c => Cert.KernelIdeal.Value.G13 m c, fun c => Cert.KernelIdeal.Value.G14 m c, fun c => Cert.KernelIdeal.Value.G15 m c,
    fun c => Cert.KernelIdeal.Value.G16 m c, Cert.KernelIdeal.Value.run m g, ?_⟩
  have hA : ∀ c : Dev Cert.KernelIdeal.nD, argsR m' c = argsK m c := by
    intro c
    obtain ⟨h0, h1, h2, h3, h4, h5, h6, h7, h8, h9, h10, h11⟩ := hag c
    unfold argsR argsV argsK
    congr 1
  have hF : ∀ c : Dev Cert.KernelIdeal.nD, Fin' (argsK m c) := fun c => fin_of_pre (argsK m c) (hp c)
  refine (θ_run Cert.ReferenceIdeal.defs _ _).mono (fun r h c => ⟨(h c).1.trans ?_, (h c).2.1.trans ?_, (h c).2.2.1.trans ?_,
      (h c).2.2.2.1.trans ?_, (h c).2.2.2.2⟩)
    (Cert.ReferenceIdeal.Value.run (F := Ideal) m' g')
  · exact ext3 fun b s n => (ra_apply m' c b s n).trans ((congrArg (fun A => PR A b s.val _) (hA c)).trans (pa_apply c b s n).symm)
  · exact ext3 fun b s n => (rb_apply m' c b s n).trans ((congrArg (fun A => PR A b s.val _) (hA c)).trans (pb_apply c b s n).symm)
  · exact ext3 fun b s n => (rc_apply m' c b s n).trans ((congrArg (fun A => YC A b s.val n) (hA c)).trans (yc_apply (hF c) b s n).symm)
  · exact ext3 fun b s n => (rd_apply m' c b s n).trans ((congrArg (fun A => PR A b s.val _) (hA c)).trans (pd_apply c b s n).symm)

end Cert.Lru

end
-- ==== Proof.StickMath.lean ====
/-
  The mathematics of stick-breaking attention over the real numbers: the weights by sums over the keys that follow, these sums
  taken tile by tile from the last one backwards, and sums over the lanes of one head.
-/
module

public import proofs.«01_k».proof.Proof.LruMath

@[expose] public section

noncomputable section

namespace Cert.Stick

open Idealize.ShloMosaic Cert.Lru

/-- The softplus function of a real number. -/
def sr (a : ℝ) : ℝ := max a 0 + Real.log (1 + Real.exp (-(max a (-a))))

theorem softplus_coe (a : ℝ) : softplus (a : EReal) = ((sr a : ℝ) : EReal) := by
  have hp : ¬ (1 + Real.exp (-(max a (-a))) ≤ 0) := by linarith [Real.exp_pos (-(max a (-a)))]
  have e1 : max (a : EReal) (-(a : EReal)) = ((max a (-a) : ℝ) : EReal) := by
    rw [← EReal.coe_neg]; exact (EReal.coe_strictMono.monotone.map_max (a := a) (b := -a)).symm
  have e2 : max (a : EReal) 0 = ((max a 0 : ℝ) : EReal) := by
    rw [← EReal.coe_zero]; exact (EReal.coe_strictMono.monotone.map_max (a := a) (b := 0)).symm
  have e3 : Ideal.log1p ((Real.exp (-(max a (-a))) : ℝ) : EReal) = ((Real.log (1 + Real.exp (-(max a (-a)))) : ℝ) : EReal) := by
    show Ideal.log (1 + _) = _
    rw [← EReal.coe_one, ← EReal.coe_add, Ideal.log_coe, if_neg hp]
  unfold softplus sr
  rw [e1, e2, ← EReal.coe_neg, Ideal.exp_coe, e3, ← EReal.coe_add]

theorem sr_neg (a : ℝ) : sr (-a) = sr a - a := by
  unfold sr
  rw [neg_neg, max_comm (-a) a]
  rcases le_total a 0 with h | h
  · rw [max_eq_left (by linarith : 0 ≤ -a), max_eq_right h]; ring
  · rw [max_eq_right (by linarith : -a ≤ 0), max_eq_left h]; ring

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_mul_ite (r : ℝ) (p : Prop) [Decidable p] :
    (r : EReal) * (if p then 1 else 0) = ((r * (if p then 1 else 0) : ℝ) : EReal) := by
  split_ifs <;> simp

theorem c_8inv : Ideal.ofBits .f32 0x3E000000#32 = ((1 / 8 : ℝ) : EReal) := by
  simp [Ideal.ofBits, Ideal.ieee]
  rw [← EReal.coe_mul]
  norm_num

/-- The logarithm of what key `s` leaves over for the keys before it, for the query at `t`. -/
def ell (z : ℕ → ℝ) (t s : ℕ) : ℝ := if s < t then -(sr (z s)) else 0

/-- Its sum over the keys from `a` on. -/
def SS (z : ℕ → ℝ) (t a : ℕ) : ℝ := ∑ s ∈ Finset.Ico a 2048, ell z t s

/-- The weight of key `s` for the query at `t`. -/
def ww (z : ℕ → ℝ) (t s : ℕ) : ℝ := if s < t then Real.exp (z s - sr (z s) + SS z t (s + 1)) else 0

/-- The weighted sum of values over the keys from `a` on. -/
def WW (z : ℕ → ℝ) (t : ℕ) (v : ℕ → ℝ) (a : ℕ) : ℝ := ∑ s ∈ Finset.Ico a 2048, ww z t s * v s

theorem sum_tri (f : ℕ → ℝ) (a c : ℕ) : ∑ j : Fin 256, f (a + j.val) * (if c ≤ j.val then 1 else 0) = ∑ s ∈ Finset.Ico (a + c) (a + 256), f s := by
  rw [Fin.sum_univ_eq_sum_range (fun j => f (a + j) * (if c ≤ j then 1 else 0)) 256]
  simp only [mul_ite, mul_one, mul_zero]
  rw [← Finset.sum_filter]
  have e : (Finset.range 256).filter (fun j => c ≤ j) = Finset.Ico c 256 := by
    ext j; simp only [Finset.mem_filter, Finset.mem_range, Finset.mem_Ico]; omega
  rw [e, Finset.sum_Ico_add f c 256 a, Nat.add_comm c a, Nat.add_comm 256 a]

theorem S_step (z : ℕ → ℝ) (t a c : ℕ) (ha : a + 256 ≤ 2048) (hc : c < 256) :
    (∑ j : Fin 256, ell z t (a + j.val) * (if c ≤ j.val then 1 else 0)) - ell z t (a + c) + SS z t (a + 256) = SS z t (a + c + 1) := by
  rw [sum_tri (ell z t) a c, Finset.sum_eq_sum_Ico_succ_bot (by omega), add_sub_cancel_left]
  exact Finset.sum_Ico_consecutive _ (by omega) ha

theorem S_base (z : ℕ → ℝ) (t a : ℕ) (ha : a + 256 ≤ 2048) :
    SS z t (a + 256) + (∑ j : Fin 256, ell z t (a + j.val) * (if 0 ≤ j.val then 1 else 0)) = SS z t a := by
  rw [sum_tri (ell z t) a 0, add_comm]
  exact Finset.sum_Ico_consecutive _ (by omega) ha

theorem W_step (z : ℕ → ℝ) (t : ℕ) (v : ℕ → ℝ) (a : ℕ) (ha : a + 256 ≤ 2048) :
    WW z t v (a + 256) + (∑ j : Fin 256, ww z t (a + j.val) * v (a + j.val)) = WW z t v a := by
  have e := sum_tri (fun s => ww z t s * v s) a 0
  simp only [Nat.zero_le, if_true, mul_one, Nat.add_zero] at e
  rw [e, add_comm]
  exact Finset.sum_Ico_consecutive _ (by omega) ha

theorem S_zero (z : ℕ → ℝ) (t a : ℕ) (h : t ≤ a) : SS z t a = 0 :=
  Finset.sum_eq_zero fun s hs => if_neg (by have := (Finset.mem_Ico.1 hs).1; omega)

theorem W_zero (z : ℕ → ℝ) (t : ℕ) (v : ℕ → ℝ) (a : ℕ) (h : t ≤ a) : WW z t v a = 0 :=
  Finset.sum_eq_zero fun s hs => by rw [ww, if_neg (by have := (Finset.mem_Ico.1 hs).1; omega), zero_mul]

/-- The lanes of one head of a scaled query. -/
def qm (x : ℕ → ℕ → ℝ) (h t n : ℕ) : ℝ := if n / 64 = h then x t n * (1 / 8) else 0

/-- The lanes of one head of a value. -/
def vm (x : ℕ → ℕ → ℝ) (h s n : ℕ) : ℝ := if n / 64 = h then x s (512 + n) else 0

/-- The logit of a query and a key. -/
def zz (x : ℕ → ℕ → ℝ) (h t s : ℕ) : ℝ := ∑ n : Fin 256, qm x h t n.val * x s (256 + n.val)

theorem sum_head (F : ℕ → ℝ) (h : ℕ) (hh : h < 4) :
    ∑ n : Fin 256, (if n.val / 64 = h then F n.val else 0) = ∑ d : Fin 64, F (64 * h + d.val) := by
  rw [Fin.sum_univ_eq_sum_range (fun n => if n / 64 = h then F n else 0) 256, ← Finset.sum_filter]
  have e : (Finset.range 256).filter (fun n => n / 64 = h) = Finset.Ico (0 + 64 * h) (64 + 64 * h) := by
    ext j; simp only [Finset.mem_filter, Finset.mem_range, Finset.mem_Ico]; omega
  rw [e, ← Finset.sum_Ico_add F 0 64 (64 * h), Fin.sum_univ_eq_sum_range (fun d => F (64 * h + d)) 64, Finset.range_eq_Ico]

theorem zz_eq (x : ℕ → ℕ → ℝ) (h t s : ℕ) (hh : h < 4) :
    zz x h t s = (∑ d : Fin 64, x t (64 * h + d.val) * x s (256 + (64 * h + d.val))) * (1 / 8) := by
  unfold zz qm
  simp only [ite_mul, zero_mul]
  rw [sum_head (fun n => x t n * (1 / 8) * x s (256 + n)) h hh, Finset.sum_mul]
  exact Finset.sum_congr rfl fun d _ => by ring

/-- One entry of what the query at `t` gathers. -/
def oo (x : ℕ → ℕ → ℝ) (t n : ℕ) : ℝ := ∑ s : Fin 2048, x s.val (512 + n) * ww (zz x (n / 64) t) t s.val

theorem W_head (x : ℕ → ℕ → ℝ) (h t n : ℕ) :
    WW (zz x h t) t (fun s => vm x h s n) 0 = if n / 64 = h then oo x t n else 0 := by
  unfold WW vm
  split_ifs with e
  · subst e
    rw [← Finset.range_eq_Ico, ← Fin.sum_univ_eq_sum_range (fun s => ww (zz x (n / 64) t) t s * x s (512 + n)) 2048]
    exact Finset.sum_congr rfl fun s _ => mul_comm _ _
  · simp only [mul_zero, Finset.sum_const_zero]

theorem four_heads (x : ℕ → ℕ → ℝ) (t n : ℕ) (hn : n < 256) :
    0 + WW (zz x 0 t) t (fun s => vm x 0 s n) 0 + WW (zz x 1 t) t (fun s => vm x 1 s n) 0 + WW (zz x 2 t) t (fun s => vm x 2 s n) 0
      + WW (zz x 3 t) t (fun s => vm x 3 s n) 0 = oo x t n := by
  simp only [W_head]
  have h : n / 64 < 4 := by omega
  generalize n / 64 = q at h
  interval_cases q <;> simp

end Cert.Stick

end
-- ==== Proof.StickPay.lean ====
/-
  The stick-breaking kernel's arithmetic on one tile, read at every index: the four heads' steps are one step, which takes the
  sums over the keys of the tiles behind to the sums over the keys of this tile and those behind it.
-/
module

public import proofs.«01_k».proof.Proof.StickMath
public import proofs.«01_k».proof.Proof.LruPay
public import proofs.«01_k».proof.Proof.LruBlocks
public import proofs.«01_k».proof.Proof.LruScan
public import proofs.«01_k».proof.Proof.Gen.Kernel4Ideal.Skeleton
public import Idealize.ShloMosaic.Lib.Pointwise

@[expose] public section

set_option maxRecDepth 16384

noncomputable section

namespace Cert.Stick

open Idealize.ShloMosaic Idealize.ShloMosaic.TcCoe Idealize.SL.Sem
open Cert.Kernel4Ideal Cert.Kernel4Ideal.Gen Cert.Lru

/-! ### The heads' steps are one step -/

/-- What a loop carries: the sums over the keys behind and what the queries have gathered. -/
abbrev St := FVec Ideal S256x1 .f32 × FVec Ideal S256x256 .f32

/-- The step on a tile before the diagonal. -/
def inner (tri : FVec Ideal S256x256 .bf16) (vmask : IVec S1x256 1) (q : FVec Ideal S256x256 .bf16) (st : St)
    (kb vb : Vec Ideal S1x256x256 .f32) : St :=
  (k0_pay6 tri q st.1 kb, k0_pay7 tri vmask q st.1 st.2 kb vb)

/-- The step on the diagonal. -/
def diag (tri : FVec Ideal S256x256 .bf16) (vmask : IVec S1x256 1) (q : FVec Ideal S256x256 .bf16) (acc : FVec Ideal S256x256 .f32)
    (kb vb : Vec Ideal S1x256x256 .f32) : St :=
  (k0_pay63 tri k0_pay52 k0_pay56 (k0_pay4 q kb),
    k0_pay64 tri k0_pay52 acc vmask k0_pay56 (k0_pay4 q kb) (subf (k0_pay2 q kb) (k0_pay3 q kb)) vb)

section
variable (tri : FVec Ideal S256x256 .bf16) (vmask : IVec S1x256 1) (q : FVec Ideal S256x256 .bf16) (q6 : FVec Ideal S256x256 .f32)
  (acc : FVec Ideal S256x256 .f32) (st : St) (qb kb vb : Vec Ideal S1x256x256 .f32) (v84 : IVec S256x256 1) (v85 : FVec Ideal S256x256 .f32)

theorem diag1 : (k0_pay63 tri k0_pay52 k0_pay56 (k0_pay59 qb kb),
    k0_pay64 tri k0_pay52 acc vmask k0_pay56 (k0_pay59 qb kb) (k0_pay60 qb kb) vb) = diag tri vmask (k0_pay55 qb) acc kb vb := rfl
theorem diag2 : (k0_pay74 q6 tri k0_pay52 v84 v85 kb, k0_pay77 acc (k0_pay75 q6 tri k0_pay52 v84 v85 kb) (k0_pay76 vmask vb))
    = diag tri vmask (k0_pay68 q6 v84 v85) acc kb vb := rfl
theorem diag3 : (k0_pay88 tri k0_pay80 (k0_pay85 q6 k0_pay52 kb) (k0_pay86 q6 k0_pay52 kb) (constant S256x256 .f32 0x00000000#32),
    k0_pay89 tri k0_pay52 acc vmask k0_pay80 (k0_pay83 q6 kb) (k0_pay84 q6 k0_pay52 kb) (k0_pay85 q6 k0_pay52 kb) (k0_pay86 q6 k0_pay52 kb)
      (constant S256x256 .f32 0x00000000#32) vb) = diag tri vmask (k0_pay79 q6) acc kb vb := rfl
theorem diag4 : (k0_pay97 tri k0_pay52 q k0_pay92 kb, k0_pay98 tri k0_pay52 acc vmask q k0_pay92 kb vb) = diag tri vmask q acc kb vb := rfl
theorem inner3 : (k0_pay18 tri q st.1 kb, k0_pay19 tri vmask q st.1 st.2 kb vb) = inner tri vmask q st kb vb := rfl
theorem inner5 : (k0_pay30 tri q st.1 kb, k0_pay31 tri vmask q st.1 st.2 kb vb) = inner tri vmask q st kb vb := rfl
theorem inner7 : (k0_pay42 tri q st.1 kb, k0_pay43 tri vmask q st.1 st.2 kb vb) = inner tri vmask q st kb vb := rfl
end

/-! ### Payloads at an index -/

theorem toInt_small (a : ℕ) (h : a < 2048) : (BitVec.ofNat 32 a).toInt = a := by
  have e : (BitVec.ofNat 32 a).toNat = a := by rw [BitVec.toNat_ofNat]; exact Nat.mod_eq_of_lt (by omega)
  rw [BitVec.toInt_eq_toNat_of_lt (by rw [e]; omega), e]

theorem slt_ofNat (a b : ℕ) (ha : a < 2048) (hb : b < 2048) :
    IntOp.cmpi CmpIPredicate.slt (BitVec.ofNat 32 a) (BitVec.ofNat 32 b) = if a < b then 1#1 else 0#1 := by
  show BitVec.ofBool (decide ((BitVec.ofNat 32 a).toInt < (BitVec.ofNat 32 b).toInt)) = _
  rw [toInt_small a ha, toInt_small b hb]
  split_ifs with h
  · rw [decide_eq_true (by omega)]; rfl
  · rw [decide_eq_false (by omega)]; rfl

theorem mask0 : ∀ n : Fin 256, (k0_pay54 : IVec S1x256 1) (ix2 0 n) = if n.val / 64 = 0 then 1#1 else 0#1 := by decide +kernel
theorem mask1 : ∀ n : Fin 256, (k0_pay65 : IVec S1x256 1) (ix2 0 n) = if n.val / 64 = 1 then 1#1 else 0#1 := by decide +kernel
theorem mask2 : ∀ n : Fin 256, (k0_pay78 : IVec S1x256 1) (ix2 0 n) = if n.val / 64 = 2 then 1#1 else 0#1 := by decide +kernel
theorem mask3 : ∀ n : Fin 256, (k0_pay90 : IVec S1x256 1) (ix2 0 n) = if n.val / 64 = 3 then 1#1 else 0#1 := by decide +kernel

theorem causal (i j : Fin 256) : (k0_pay52 : IVec S256x256 1) (ix2 i j) = if j.val < i.val then 1#1 else 0#1 := by
  rw [← slt_ofNat j.val i.val (by omega) (by omega)]
  pointwise [k0_pay52]

theorem sel_if {α : Type} (p : Prop) [Decidable p] (x y : α) : Scalar.select (if p then 1#1 else 0#1) x y = if p then x else y := by
  split_ifs <;> rfl

section
variable (tri : FVec Ideal S256x256 .bf16) (vmask : IVec S1x256 1) (q : FVec Ideal S256x256 .bf16)
  (acc : FVec Ideal S256x256 .f32) (later : FVec Ideal S256x1 .f32) (qb kb vb : Vec Ideal S1x256x256 .f32) (i j n : Fin 256)

theorem pay2_apply : k0_pay2 q kb (ix2 i j) = ∑ k : Fin 256, q (ix2 i k) * kb (ix3 0 j k) := by
  pointwise [k0_pay2]

theorem pay3_apply : k0_pay3 q kb (ix2 i j) = softplus (k0_pay2 q kb (ix2 i j)) := by
  pointwise [k0_pay3, softplus]
  simp only [sub_eq_add_neg, zero_add]
  rfl

theorem pay4_apply : k0_pay4 q kb (ix2 i j) = -(k0_pay3 q kb (ix2 i j)) := by
  pointwise [k0_pay4]
  simp only [sub_eq_add_neg, zero_add]

theorem pay5_apply : k0_pay5 tri q kb (ix2 i j) = ∑ k : Fin 256, k0_pay4 q kb (ix2 i k) * tri (ix2 k j)
    + ∑ k : Fin 256, (k0_pay4 q kb (ix2 i k) - k0_pay4 q kb (ix2 i k)) * tri (ix2 k j) := by
  pointwise [k0_pay5]

theorem pay6_apply : k0_pay6 tri q later kb (ix2 i 0) = later (ix2 i 0) + k0_pay5 tri q kb (ix2 i 0) := by
  pointwise [k0_pay6]

theorem pay7_apply : k0_pay7 tri vmask q later acc kb vb (ix2 i n) = acc (ix2 i n)
    + ∑ k : Fin 256, Ideal.exp (k0_pay2 q kb (ix2 i k) - k0_pay3 q kb (ix2 i k) + (k0_pay5 tri q kb (ix2 i k) - k0_pay4 q kb (ix2 i k)) + later (ix2 i 0))
      * Scalar.select (vmask (ix2 0 n)) (vb (ix3 0 k n)) 0 := by
  pointwise [k0_pay7]

variable (d e : FVec Ideal S256x256 .f32)

theorem pay61_apply : k0_pay61 k0_pay52 d (ix2 i j) = if j.val < i.val then d (ix2 i j) else 0 := by
  rw [← sel_if, ← causal i j]
  pointwise [k0_pay61]

theorem pay62_apply : k0_pay62 tri k0_pay52 d (ix2 i j) = ∑ k : Fin 256, k0_pay61 k0_pay52 d (ix2 i k) * tri (ix2 k j)
    + ∑ k : Fin 256, (k0_pay61 k0_pay52 d (ix2 i k) - k0_pay61 k0_pay52 d (ix2 i k)) * tri (ix2 k j) := by
  pointwise [k0_pay62]

theorem pay63_apply : k0_pay63 tri k0_pay52 k0_pay56 d (ix2 i 0) = k0_pay62 tri k0_pay52 d (ix2 i 0) := by
  pointwise [k0_pay63, k0_pay56]

theorem pay64_apply : k0_pay64 tri k0_pay52 acc vmask k0_pay56 d e vb (ix2 i n) = acc (ix2 i n)
    + ∑ k : Fin 256, (if k.val < i.val then Ideal.exp (e (ix2 i k) + (k0_pay62 tri k0_pay52 d (ix2 i k) - k0_pay61 k0_pay52 d (ix2 i k))) else 0)
      * Scalar.select (vmask (ix2 0 n)) (vb (ix3 0 k n)) 0 := by
  refine Eq.trans (b := acc (ix2 i n) + ∑ k : Fin 256, Scalar.select ((k0_pay52 : IVec S256x256 1) (ix2 i k))
    (Ideal.exp (e (ix2 i k) + (k0_pay62 tri k0_pay52 d (ix2 i k) - k0_pay61 k0_pay52 d (ix2 i k)))) 0
      * Scalar.select (vmask (ix2 0 n)) (vb (ix3 0 k n)) 0) ?_ ?_
  · pointwise [k0_pay64, k0_pay56]
  · simp only [causal, sel_if]

theorem pay53_apply : (k0_pay53 : FVec Ideal S256x256 .f32) (ix2 i j) = 0 := by
  pointwise [k0_pay53]

theorem q0_apply : k0_pay55 qb (ix2 i n) = if n.val / 64 = 0 then qb (ix3 0 i n) * Ideal.ofBits .f32 0x3E000000#32 else 0 := by
  rw [← sel_if, ← mask0 n]
  pointwise [k0_pay55, k0_pay50]

theorem q1_apply : k0_pay68 (k0_pay50 qb) k0_pay66 k0_pay67 (ix2 i n)
    = if n.val / 64 = 1 then qb (ix3 0 i n) * Ideal.ofBits .f32 0x3E000000#32 else 0 := by
  rw [← sel_if, ← mask1 n]
  pointwise [k0_pay68, k0_pay66, k0_pay67, k0_pay50]

theorem q2_apply : k0_pay79 (k0_pay50 qb) (ix2 i n)
    = if n.val / 64 = 2 then qb (ix3 0 i n) * Ideal.ofBits .f32 0x3E000000#32 else 0 := by
  rw [← sel_if, ← mask2 n]
  pointwise [k0_pay79, k0_pay50]

theorem q3_apply : k0_pay91 (k0_pay50 qb) (ix2 i n)
    = if n.val / 64 = 3 then qb (ix3 0 i n) * Ideal.ofBits .f32 0x3E000000#32 else 0 := by
  rw [← sel_if, ← mask3 n]
  pointwise [k0_pay91, k0_pay50]

/-- The normalised output. -/
theorem out_apply (bd : Vec Ideal S256x256 .bf16) (og : Vec Ideal S1x256 .f32)
    (hbd : ∀ k c : Fin 256, bd (ix2 k c) = if k.val / 64 = c.val / 64 then 1 else 0) (y : Fin 256 → EReal)
    (hy : ∀ c : Fin 256, acc (ix2 i c) = y c) (hR : ∀ c, IsR (y c)) :
    k0_pay1 acc bd og (ix3 0 i n) = y n * Ideal.rsqrt (MS y n + Ideal.ofBits .f32 0x358637BD#32) * og (ix2 0 n) := by
  unfold MS
  rw [← split_sum y hR n, c_64, div_eq_mul (m := 1 / 64) (by norm_num) (by norm_num), ← c_64inv]
  simp only [← hy, ← hbd]
  pointwise [k0_pay1]
end

end Cert.Stick

end
-- ==== Proof.StickStep.lean ====
/-
  The sums that a step of the stick-breaking kernel carries from tile to tile, over the real numbers.
-/
module

public import proofs.«01_k».proof.Proof.StickPay

@[expose] public section

set_option maxRecDepth 16384

noncomputable section

namespace Cert.Stick

open Idealize.ShloMosaic Idealize.ShloMosaic.TcCoe Idealize.SL.Sem
open Cert.Kernel4Ideal Cert.Kernel4Ideal.Gen Cert.Lru

/-- What is carried once the keys from `a` on are done, for head `h` of the queries from `a0` on. -/
def Inv (x : ℕ → ℕ → ℝ) (h a0 : ℕ) (base : Fin 256 → Fin 256 → ℝ) (a : ℕ) (st : St) : Prop :=
  (∀ i : Fin 256, st.1 (ix2 i 0) = ((SS (zz x h (a0 + i.val)) (a0 + i.val) a : ℝ) : EReal)) ∧
  ∀ i n : Fin 256, st.2 (ix2 i n)
    = ((base i n + WW (zz x h (a0 + i.val)) (a0 + i.val) (fun s => vm x h s n.val) a : ℝ) : EReal)

/-- What a step reads. -/
structure Reads (x : ℕ → ℕ → ℝ) (h a0 a : ℕ) (tri : FVec Ideal S256x256 .bf16) (vmask : IVec S1x256 1) (q : FVec Ideal S256x256 .bf16)
    (kb vb : Vec Ideal S1x256x256 .f32) : Prop where
  q : ∀ i n : Fin 256, q (ix2 i n) = ((qm x h (a0 + i.val) n.val : ℝ) : EReal)
  m : ∀ n : Fin 256, vmask (ix2 0 n) = if n.val / 64 = h then 1#1 else 0#1
  tri : ∀ j c : Fin 256, tri (ix2 j c) = if c.val ≤ j.val then 1 else 0
  k : ∀ j n : Fin 256, kb (ix3 0 j n) = ((x (a + j.val) (256 + n.val) : ℝ) : EReal)
  v : ∀ j n : Fin 256, vb (ix3 0 j n) = ((x (a + j.val) (512 + n.val) : ℝ) : EReal)

section
variable {x : ℕ → ℕ → ℝ} {h a0 a : ℕ} {tri : FVec Ideal S256x256 .bf16} {vmask : IVec S1x256 1} {q : FVec Ideal S256x256 .bf16}
  {kb vb : Vec Ideal S1x256x256 .f32}

theorem Reads.z (R : Reads x h a0 a tri vmask q kb vb) (i j : Fin 256) :
    k0_pay2 q kb (ix2 i j) = ((zz x h (a0 + i.val) (a + j.val) : ℝ) : EReal) := by
  rw [pay2_apply]
  simp only [R.q, R.k, ← EReal.coe_mul]
  exact coe_sum _ _

theorem Reads.sp (R : Reads x h a0 a tri vmask q kb vb) (i j : Fin 256) :
    k0_pay3 q kb (ix2 i j) = ((sr (zz x h (a0 + i.val) (a + j.val)) : ℝ) : EReal) := by
  rw [pay3_apply, R.z, softplus_coe]

theorem Reads.val (R : Reads x h a0 a tri vmask q kb vb) (k n : Fin 256) :
    Scalar.select (vmask (ix2 0 n)) (vb (ix3 0 k n)) 0 = ((vm x h (a + k.val) n.val : ℝ) : EReal) := by
  rw [R.m, sel_if, R.v]
  unfold vm
  split_ifs <;> simp

/-- A split number against the triangle. -/
theorem tri_sum (htri : ∀ j c : Fin 256, tri (ix2 j c) = if c.val ≤ j.val then 1 else 0) (f : ℕ → ℝ) (y : Fin 256 → EReal)
    (hy : ∀ j : Fin 256, y j = ((f (a + j.val) : ℝ) : EReal)) (c : Fin 256) :
    ∑ k : Fin 256, y k * tri (ix2 k c) + ∑ k : Fin 256, (y k - y k) * tri (ix2 k c)
      = ((∑ j : Fin 256, f (a + j.val) * (if c.val ≤ j.val then 1 else 0) : ℝ) : EReal) := by
  have e : ∀ k, y k - y k = 0 := fun k => IsR.sub_self ⟨_, hy k⟩
  simp only [e, zero_mul, Finset.sum_const_zero, add_zero]
  simp only [hy, htri, coe_mul_ite]
  exact coe_sum _ _

theorem exp_ww (z : ℕ → ℝ) (t s : ℕ) (hs : s < t) (r : ℝ) (hr : r = z s - sr (z s) + SS z t (s + 1)) : Ideal.exp ((r : ℝ) : EReal) = ((ww z t s : ℝ) : EReal) := by
  rw [Ideal.exp_coe, ww, if_pos hs, hr]

theorem inner_inv (R : Reads x h a0 a tri vmask q kb vb) (ha : a + 256 ≤ a0) (ha0 : a0 + 256 ≤ 2048) (base : Fin 256 → Fin 256 → ℝ)
    (st : St) (hi : Inv x h a0 base (a + 256) st) : Inv x h a0 base a (inner tri vmask q st kb vb) := by
  have h4 : ∀ i j : Fin 256, k0_pay4 q kb (ix2 i j) = ((ell (zz x h (a0 + i.val)) (a0 + i.val) (a + j.val) : ℝ) : EReal) := by
    intro i j
    rw [pay4_apply, R.sp, ell, if_pos (by omega), EReal.coe_neg]
  have h5 : ∀ i c : Fin 256, k0_pay5 tri q kb (ix2 i c)
      = ((∑ j : Fin 256, ell (zz x h (a0 + i.val)) (a0 + i.val) (a + j.val) * (if c.val ≤ j.val then 1 else 0) : ℝ) : EReal) := by
    intro i c
    rw [pay5_apply]
    exact tri_sum R.tri (ell (zz x h (a0 + i.val)) (a0 + i.val)) _ (h4 i) c
  refine ⟨fun i => ?_, fun i n => ?_⟩
  · refine (pay6_apply tri q st.1 kb i).trans ?_
    rw [hi.1, h5, ← EReal.coe_add]
    exact congrArg _ (S_base _ _ _ (by omega))
  · refine (pay7_apply tri vmask q st.2 st.1 kb vb i n).trans ?_
    have e : ∀ k : Fin 256, Ideal.exp (k0_pay2 q kb (ix2 i k) - k0_pay3 q kb (ix2 i k) + (k0_pay5 tri q kb (ix2 i k) - k0_pay4 q kb (ix2 i k)) + st.1 (ix2 i 0))
        * Scalar.select (vmask (ix2 0 n)) (vb (ix3 0 k n)) 0
        = ((ww (zz x h (a0 + i.val)) (a0 + i.val) (a + k.val) * vm x h (a + k.val) n.val : ℝ) : EReal) := by
      intro k
      rw [R.val, R.z, R.sp, h5, h4, hi.1, ← EReal.coe_sub, ← EReal.coe_sub, ← EReal.coe_add, ← EReal.coe_add,
        exp_ww (zz x h (a0 + i.val)) (a0 + i.val) (a + k.val) (by omega) _ ?_, ← EReal.coe_mul]
      rw [← S_step _ _ a k.val (by omega) k.isLt]
      ring
    simp only [e]
    rw [hi.2, coe_sum, ← EReal.coe_add, add_assoc]
    exact congrArg _ (congrArg _ (W_step _ _ (fun s => vm x h s n.val) a (by omega)))

theorem diag_inv (R : Reads x h a0 a0 tri vmask q kb vb) (ha0 : a0 + 256 ≤ 2048) (base : Fin 256 → Fin 256 → ℝ)
    (acc : FVec Ideal S256x256 .f32) (hb : ∀ i n : Fin 256, acc (ix2 i n) = ((base i n : ℝ) : EReal)) :
    Inv x h a0 base a0 (diag tri vmask q acc kb vb) := by
  have h4 : ∀ i j : Fin 256, k0_pay61 k0_pay52 (k0_pay4 q kb) (ix2 i j)
      = ((ell (zz x h (a0 + i.val)) (a0 + i.val) (a0 + j.val) : ℝ) : EReal) := by
    intro i j
    rw [pay61_apply, pay4_apply, R.sp, ell]
    by_cases hj : j.val < i.val
    · rw [if_pos hj, if_pos (by omega), EReal.coe_neg]
    · rw [if_neg hj, if_neg (by omega), EReal.coe_zero]
  have h5 : ∀ i c : Fin 256, k0_pay62 tri k0_pay52 (k0_pay4 q kb) (ix2 i c)
      = ((∑ j : Fin 256, ell (zz x h (a0 + i.val)) (a0 + i.val) (a0 + j.val) * (if c.val ≤ j.val then 1 else 0) : ℝ) : EReal) := by
    intro i c
    rw [pay62_apply]
    exact tri_sum R.tri (ell (zz x h (a0 + i.val)) (a0 + i.val)) _ (h4 i) c
  have s0 : ∀ i : Fin 256, SS (zz x h (a0 + i.val)) (a0 + i.val) (a0 + 256) = 0 := fun i => S_zero _ _ _ (by omega)
  refine ⟨fun i => ?_, fun i n => ?_⟩
  · refine (pay63_apply tri i (k0_pay4 q kb)).trans ?_
    rw [h5]
    have e := S_base (zz x h (a0 + i.val)) (a0 + i.val) a0 ha0
    rw [s0, zero_add] at e
    exact congrArg _ e
  · refine (pay64_apply tri vmask acc vb i n (k0_pay4 q kb) (subf (k0_pay2 q kb) (k0_pay3 q kb))).trans ?_
    have e : ∀ k : Fin 256, (if k.val < i.val then Ideal.exp ((subf (k0_pay2 q kb) (k0_pay3 q kb)) (ix2 i k) + (k0_pay62 tri k0_pay52 (k0_pay4 q kb) (ix2 i k) - k0_pay61 k0_pay52 (k0_pay4 q kb) (ix2 i k))) else 0)
        * Scalar.select (vmask (ix2 0 n)) (vb (ix3 0 k n)) 0
        = ((ww (zz x h (a0 + i.val)) (a0 + i.val) (a0 + k.val) * vm x h (a0 + k.val) n.val : ℝ) : EReal) := by
      intro k
      rw [R.val]
      by_cases hk : k.val < i.val
      · have e2 : (subf (k0_pay2 q kb) (k0_pay3 q kb)) (ix2 i k) = k0_pay2 q kb (ix2 i k) - k0_pay3 q kb (ix2 i k) := rfl
        rw [if_pos hk, e2, R.z, R.sp, h5, h4, ← EReal.coe_sub, ← EReal.coe_sub, ← EReal.coe_add,
          exp_ww (zz x h (a0 + i.val)) (a0 + i.val) (a0 + k.val) (by omega) _ ?_, ← EReal.coe_mul]
        rw [← S_step _ _ a0 k.val ha0 k.isLt, s0]
        ring
      · rw [if_neg hk, ww, if_neg (by omega), zero_mul, zero_mul, EReal.coe_zero]
    simp only [e]
    have ew := W_step (zz x h (a0 + i.val)) (a0 + i.val) (fun s => vm x h s n.val) a0 ha0
    rw [W_zero _ _ _ _ (by omega), zero_add] at ew
    rw [hb, coe_sum, ← EReal.coe_add]
    exact congrArg _ (congrArg _ ew)
end

end Cert.Stick

end
-- ==== Proof.StickLoop.lean ====
/-
  The four loops of the stick-breaking kernel, one per head: what they carry after their last trip.
-/
module

public import proofs.«01_k».proof.Proof.StickStep
public import proofs.«01_k».proof.Proof.Gen.Kernel4Ideal.Value
public import Idealize.ShloMosaic.Lib.Pipeline.ValueKit
public import Idealize.ShloMosaic.Lib.Pipeline.ReadBack
public import Idealize.ShloMosaic.Lib.WholeRead

@[expose] public section

set_option maxRecDepth 16384

noncomputable section

namespace Cert.Stick

open Idealize.ShloMosaic Idealize.ShloMosaic.TcCoe Idealize.SL.Sem
open Cert.Kernel4Ideal Cert.Kernel4Ideal.Gen Cert.Lru

/-- A block of the projection read at its rows and columns. -/
theorem ld_apply (x : ℕ → ℕ → ℝ) (x0 : Vec Ideal S1x2048x768 .f32)
    (hx : ∀ (s : Fin 2048) (c : Fin 768), x0 (ix3 0 s c) = ((x s.val c.val : ℝ) : EReal)) (off : Fin 3 → ℕ)
    (inb : ∀ a, off a + S1x256x256.size a ≤ S1x2048x768.size a) (a o : ℕ) (h : off = ![0, a, o]) (j n : Fin 256) :
    (View.ld x0 (Rect.unit (s := S1x2048x768) off S1x256x256.size inb) : Vec Ideal S1x256x256 .f32) (ix3 0 j n)
      = ((x (a + j.val) (o + n.val) : ℝ) : EReal) := by
  subst h
  have h1 : a + 256 ≤ 2048 := inb 1
  have h2 : o + 256 ≤ 768 := inb 2
  refine (View.ld_unit_apply_of x0 _ _ inb (ix3 0 j n) (ix3 0 ⟨a + j.val, by omega⟩ ⟨o + n.val, by omega⟩)
    (by intro a; fin_cases a <;> simp [ix3])).trans (hx _ _)

/-- The same of a load through the block's buffer. -/
def rd (arg2 : Memref sig .tc .vmem S1x2048x768 .f32) (X : BufTy.Contents (Elt Ideal) arg2.view.ty) (off : Fin 3 → ℕ)
    (inb : ∀ a, off a + S1x256x256.size a ≤ S1x2048x768.size a) : Vec Ideal S1x256x256 .f32 :=
  View.readAt (Elt Ideal) arg2.view (Rect.unit (s := S1x2048x768) off S1x256x256.size inb).toLoadRect X

theorem rd_apply (arg2 : Memref sig .tc .vmem S1x2048x768 .f32) (harg2 : arg2.IsWhole) (x : ℕ → ℕ → ℝ) (x0 : Vec Ideal S1x2048x768 .f32)
    (hx : ∀ (s : Fin 2048) (c : Fin 768), x0 (ix3 0 s c) = ((x s.val c.val : ℝ) : EReal)) (off : Fin 3 → ℕ)
    (inb : ∀ a, off a + S1x256x256.size a ≤ S1x2048x768.size a) (a o : ℕ) (h : off = ![0, a, o]) (j n : Fin 256) :
    rd arg2 (harg2.unread x0) off inb (ix3 0 j n) = ((x (a + j.val) (o + n.val) : ℝ) : EReal) :=
  (harg2.readAt_unread x0 _ _).trans (ld_apply x x0 hx off inb a o h j n)

/-- Steps from the diagonal back to the first key. -/
theorem loop_inv (x : ℕ → ℕ → ℝ) (h qi : ℕ) (hq : qi < 8) (base : Fin 256 → Fin 256 → ℝ) (tri : FVec Ideal S256x256 .bf16)
    (vmask : IVec S1x256 1) (q : FVec Ideal S256x256 .bf16) (s : ℕ → St) (N : ℕ) (hN : N = qi) (h0 : Inv x h (256 * qi) base (256 * qi) (s 0))
    (hs : ∀ k, k < N → ∃ kb vb, Reads x h (256 * qi) (256 * (qi - 1 - k)) tri vmask q kb vb ∧ s (k + 1) = inner tri vmask q (s k) kb vb) :
    Inv x h (256 * qi) base 0 (s N) := by
  subst hN
  have e : ∀ k, k ≤ N → Inv x h (256 * N) base (256 * (N - k)) (s k) := by
    intro k
    induction k with
    | zero => intro _; exact h0
    | succ k ih =>
      intro hk
      obtain ⟨kb, vb, hR, hst⟩ := hs k (by omega)
      have hi := ih (by omega)
      have e1 : 256 * (N - k) = 256 * (N - 1 - k) + 256 := by omega
      have e2 : N - (k + 1) = N - 1 - k := by omega
      rw [e1] at hi
      rw [hst, e2]
      exact inner_inv hR (by omega) (by omega) base _ hi
  have := e N le_rfl
  rwa [Nat.sub_self, Nat.mul_zero] at this

/-! ### Head 0 -/

theorem trips1 : ∀ i : grid0.Coords, (k0_t1_loop i).trips = (i 1).val := by decide +kernel
theorem trips2 (i : grid0.Coords) : (k0_t2_loop i).trips = 0 := Nat.le_zero.1 (k0_t2_abs i).2.1
theorem off4 : ∀ (i : grid0.Coords) (k : Fin (k0_t1_loop i).trips), k0_off4 i k = ![0, 256 * ((i 1).val - 1 - k.val), 256] := by decide +kernel
theorem off5 : ∀ (i : grid0.Coords) (k : Fin (k0_t1_loop i).trips), k0_off5 i k = ![0, 256 * ((i 1).val - 1 - k.val), 512] := by decide +kernel

theorem trip1 (𝒱 : Variants) (c : Dev nD) (bd : Option 𝒱.V) (i : grid0.Coords) (arg2 : Memref sig .tc .vmem S1x2048x768 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256x256 .bf16) (harg6 : arg6.IsWhole) (arg1 : BitVec 32) (v1 : BitVec 32) (v8 : FVec Ideal S256x256 .bf16) (v11 : IVec S256x256 1) (v12 : FVec Ideal S256x256 .f32) (v18 : IVec S1x256 1) (v23 : FVec Ideal S256x256 .bf16) (v24 : FVec Ideal S256x1 .f32) (v39 : FVec Ideal S256x256 .f32) (v40 : FVec Ideal S256x256 .f32) (X : BufTy.Contents (Elt Ideal) arg2.view.ty) (k : Fin (k0_t1_loop i).trips) (acc : St) :
    tripR_k0_t1 𝒱 c bd i arg2 harg2 arg3 harg3 arg4 harg4 arg5 harg5 arg6 harg6 arg1 v1 v8 v11 v12 v18 v23 v24 v39 v40 X k acc
      = inner v8 v18 v23 acc (rd arg2 X (k0_off4 i k) (k0_off4_inb i k)) (rd arg2 X (k0_off5 i k) (k0_off5_inb i k)) := by
  unfold tripR_k0_t1 trip_k0_t1
  rfl

theorem rem2 (𝒱 : Variants) (c : Dev nD) (bd : Option 𝒱.V) (i : grid0.Coords) (arg2 : Memref sig .tc .vmem S1x2048x768 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256x256 .bf16) (harg6 : arg6.IsWhole) (arg1 : BitVec 32) (v1 : BitVec 32) (v8 : FVec Ideal S256x256 .bf16) (v11 : IVec S256x256 1) (v12 : FVec Ideal S256x256 .f32) (v18 : IVec S1x256 1) (v23 : FVec Ideal S256x256 .bf16) (v24 : FVec Ideal S256x1 .f32) (v39 : FVec Ideal S256x256 .f32) (v40 : FVec Ideal S256x256 .f32) (v74 : BitVec 32) (X : BufTy.Contents (Elt Ideal) arg2.view.ty) (init : St) :
    st_k0_t2 𝒱 c bd i arg2 harg2 arg3 harg3 arg4 harg4 arg5 harg5 arg6 harg6 arg1 v1 v8 v11 v12 v18 v23 v24 v39 v40 v74 X init (k0_t2_loop i).trips = init := by
  rw [trips2]
  exact st_k0_t2_zero ..

/-- What the head adds to what the queries have gathered. -/
theorem head1 (x : ℕ → ℕ → ℝ) (h : ℕ) (x0 : Vec Ideal S1x2048x768 .f32)
    (hx : ∀ (s : Fin 2048) (c : Fin 768), x0 (ix3 0 s c) = ((x s.val c.val : ℝ) : EReal))
    (base : Fin 256 → Fin 256 → ℝ) (𝒱 : Variants) (c : Dev nD) (bd : Option 𝒱.V) (i : grid0.Coords) (arg2 : Memref sig .tc .vmem S1x2048x768 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256x256 .bf16) (harg6 : arg6.IsWhole) (arg1 : BitVec 32) (v1 : BitVec 32) (v8 : FVec Ideal S256x256 .bf16) (v11 : IVec S256x256 1) (v12 : FVec Ideal S256x256 .f32) (v18 : IVec S1x256 1) (v23 : FVec Ideal S256x256 .bf16) (v24 : FVec Ideal S256x1 .f32) (v39 : FVec Ideal S256x256 .f32) (v40 : FVec Ideal S256x256 .f32) (v74 : BitVec 32)
    (kb vb : Vec Ideal S1x256x256 .f32) (R : Reads x h (256 * (i 1).val) (256 * (i 1).val) v8 v18 v23 kb vb) (acc : FVec Ideal S256x256 .f32)
    (hb : ∀ r n : Fin 256, acc (ix2 r n) = ((base r n : ℝ) : EReal)) (init : St) (hinit : init = diag v8 v18 v23 acc kb vb) (r n : Fin 256) :
    (st_k0_t2 𝒱 c bd i arg2 harg2 arg3 harg3 arg4 harg4 arg5 harg5 arg6 harg6 arg1 v1 v8 v11 v12 v18 v23 v24 v39 v40 v74 (harg2.unread x0) (st_k0_t1 𝒱 c bd i arg2 harg2 arg3 harg3 arg4 harg4 arg5 harg5 arg6 harg6 arg1 v1 v8 v11 v12 v18 v23 v24 v39 v40 (harg2.unread x0) init (k0_t1_loop i).trips) (k0_t2_loop i).trips).2 (ix2 r n)
      = ((base r n + WW (zz x h (256 * (i 1).val + r.val)) (256 * (i 1).val + r.val) (fun s => vm x h s n.val) 0 : ℝ) : EReal) := by
  rw [rem2]
  have hq : (i 1).val < 8 := (i 1).isLt
  refine (loop_inv x h (i 1).val hq base v8 v18 v23 (st_k0_t1 𝒱 c bd i arg2 harg2 arg3 harg3 arg4 harg4 arg5 harg5 arg6 harg6 arg1 v1 v8 v11 v12 v18 v23 v24 v39 v40 (harg2.unread x0) init) _ (trips1 i) ?_ ?_).2 r n
  · rw [st_k0_t1_zero, hinit]
    exact diag_inv R (by omega) base acc hb
  · intro k hk
    refine ⟨_, _, ⟨R.q, R.m, R.tri, ?_, ?_⟩, (st_k0_t1_succ 𝒱 c bd i arg2 harg2 arg3 harg3 arg4 harg4 arg5 harg5 arg6 harg6 arg1 v1 v8 v11 v12 v18 v23 v24 v39 v40 (harg2.unread x0) init ⟨k, hk⟩).trans (trip1 ..)⟩
    · exact fun j n => rd_apply arg2 harg2 x x0 hx _ _ _ _ (off4 i ⟨k, hk⟩) j n
    · exact fun j n => rd_apply arg2 harg2 x x0 hx _ _ _ _ (off5 i ⟨k, hk⟩) j n

/-! ### Head 1 -/

theorem trips3 : ∀ i : grid0.Coords, (k0_t3_loop i).trips = (i 1).val := by decide +kernel
theorem trips4 (i : grid0.Coords) : (k0_t4_loop i).trips = 0 := Nat.le_zero.1 (k0_t4_abs i).2.1
theorem off8 : ∀ (i : grid0.Coords) (k : Fin (k0_t3_loop i).trips), k0_off8 i k = ![0, 256 * ((i 1).val - 1 - k.val), 256] := by decide +kernel
theorem off9 : ∀ (i : grid0.Coords) (k : Fin (k0_t3_loop i).trips), k0_off9 i k = ![0, 256 * ((i 1).val - 1 - k.val), 512] := by decide +kernel

theorem trip3 (𝒱 : Variants) (c : Dev nD) (bd : Option 𝒱.V) (i : grid0.Coords) (arg2 : Memref sig .tc .vmem S1x2048x768 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256x256 .bf16) (harg6 : arg6.IsWhole) (arg1 : BitVec 32) (v1 : BitVec 32) (v6 : FVec Ideal S256x256 .f32) (v8 : FVec Ideal S256x256 .bf16) (v11 : IVec S256x256 1) (v76_1 : FVec Ideal S256x256 .f32) (v82 : IVec S1x256 1) (v87 : FVec Ideal S256x256 .bf16) (v129 : FVec Ideal S256x1 .f32) (v130 : FVec Ideal S256x256 .bf16) (v131 : FVec Ideal S256x256 .bf16) (X : BufTy.Contents (Elt Ideal) arg2.view.ty) (k : Fin (k0_t3_loop i).trips) (acc : St) :
    tripR_k0_t3 𝒱 c bd i arg2 harg2 arg3 harg3 arg4 harg4 arg5 harg5 arg6 harg6 arg1 v1 v6 v8 v11 v76_1 v82 v87 v129 v130 v131 X k acc
      = inner v8 v82 v87 acc (rd arg2 X (k0_off8 i k) (k0_off8_inb i k)) (rd arg2 X (k0_off9 i k) (k0_off9_inb i k)) := by
  unfold tripR_k0_t3 trip_k0_t3
  rfl

theorem rem4 (𝒱 : Variants) (c : Dev nD) (bd : Option 𝒱.V) (i : grid0.Coords) (arg2 : Memref sig .tc .vmem S1x2048x768 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256x256 .bf16) (harg6 : arg6.IsWhole) (arg1 : BitVec 32) (v1 : BitVec 32) (v6 : FVec Ideal S256x256 .f32) (v8 : FVec Ideal S256x256 .bf16) (v11 : IVec S256x256 1) (v76_1 : FVec Ideal S256x256 .f32) (v82 : IVec S1x256 1) (v87 : FVec Ideal S256x256 .bf16) (v129 : FVec Ideal S256x1 .f32) (v130 : FVec Ideal S256x256 .bf16) (v131 : FVec Ideal S256x256 .bf16) (v138 : BitVec 32) (X : BufTy.Contents (Elt Ideal) arg2.view.ty) (init : St) :
    st_k0_t4 𝒱 c bd i arg2 harg2 arg3 harg3 arg4 harg4 arg5 harg5 arg6 harg6 arg1 v1 v6 v8 v11 v76_1 v82 v87 v129 v130 v131 v138 X init (k0_t4_loop i).trips = init := by
  rw [trips4]
  exact st_k0_t4_zero ..

/-- What the head adds to what the queries have gathered. -/
theorem head3 (x : ℕ → ℕ → ℝ) (h : ℕ) (x0 : Vec Ideal S1x2048x768 .f32)
    (hx : ∀ (s : Fin 2048) (c : Fin 768), x0 (ix3 0 s c) = ((x s.val c.val : ℝ) : EReal))
    (base : Fin 256 → Fin 256 → ℝ) (𝒱 : Variants) (c : Dev nD) (bd : Option 𝒱.V) (i : grid0.Coords) (arg2 : Memref sig .tc .vmem S1x2048x768 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256x256 .bf16) (harg6 : arg6.IsWhole) (arg1 : BitVec 32) (v1 : BitVec 32) (v6 : FVec Ideal S256x256 .f32) (v8 : FVec Ideal S256x256 .bf16) (v11 : IVec S256x256 1) (v76_1 : FVec Ideal S256x256 .f32) (v82 : IVec S1x256 1) (v87 : FVec Ideal S256x256 .bf16) (v129 : FVec Ideal S256x1 .f32) (v130 : FVec Ideal S256x256 .bf16) (v131 : FVec Ideal S256x256 .bf16) (v138 : BitVec 32)
    (kb vb : Vec Ideal S1x256x256 .f32) (R : Reads x h (256 * (i 1).val) (256 * (i 1).val) v8 v82 v87 kb vb) (acc : FVec Ideal S256x256 .f32)
    (hb : ∀ r n : Fin 256, acc (ix2 r n) = ((base r n : ℝ) : EReal)) (init : St) (hinit : init = diag v8 v82 v87 acc kb vb) (r n : Fin 256) :
    (st_k0_t4 𝒱 c bd i arg2 harg2 arg3 harg3 arg4 harg4 arg5 harg5 arg6 harg6 arg1 v1 v6 v8 v11 v76_1 v82 v87 v129 v130 v131 v138 (harg2.unread x0) (st_k0_t3 𝒱 c bd i arg2 harg2 arg3 harg3 arg4 harg4 arg5 harg5 arg6 harg6 arg1 v1 v6 v8 v11 v76_1 v82 v87 v129 v130 v131 (harg2.unread x0) init (k0_t3_loop i).trips) (k0_t4_loop i).trips).2 (ix2 r n)
      = ((base r n + WW (zz x h (256 * (i 1).val + r.val)) (256 * (i 1).val + r.val) (fun s => vm x h s n.val) 0 : ℝ) : EReal) := by
  rw [rem4]
  have hq : (i 1).val < 8 := (i 1).isLt
  refine (loop_inv x h (i 1).val hq base v8 v82 v87 (st_k0_t3 𝒱 c bd i arg2 harg2 arg3 harg3 arg4 harg4 arg5 harg5 arg6 harg6 arg1 v1 v6 v8 v11 v76_1 v82 v87 v129 v130 v131 (harg2.unread x0) init) _ (trips3 i) ?_ ?_).2 r n
  · rw [st_k0_t3_zero, hinit]
    exact diag_inv R (by omega) base acc hb
  · intro k hk
    refine ⟨_, _, ⟨R.q, R.m, R.tri, ?_, ?_⟩, (st_k0_t3_succ 𝒱 c bd i arg2 harg2 arg3 harg3 arg4 harg4 arg5 harg5 arg6 harg6 arg1 v1 v6 v8 v11 v76_1 v82 v87 v129 v130 v131 (harg2.unread x0) init ⟨k, hk⟩).trans (trip3 ..)⟩
    · exact fun j n => rd_apply arg2 harg2 x x0 hx _ _ _ _ (off8 i ⟨k, hk⟩) j n
    · exact fun j n => rd_apply arg2 harg2 x x0 hx _ _ _ _ (off9 i ⟨k, hk⟩) j n

/-! ### Head 2 -/

theorem trips5 : ∀ i : grid0.Coords, (k0_t5_loop i).trips = (i 1).val := by decide +kernel
theorem trips6 (i : grid0.Coords) : (k0_t6_loop i).trips = 0 := Nat.le_zero.1 (k0_t6_abs i).2.1
theorem off12 : ∀ (i : grid0.Coords) (k : Fin (k0_t5_loop i).trips), k0_off12 i k = ![0, 256 * ((i 1).val - 1 - k.val), 256] := by decide +kernel
theorem off13 : ∀ (i : grid0.Coords) (k : Fin (k0_t5_loop i).trips), k0_off13 i k = ![0, 256 * ((i 1).val - 1 - k.val), 512] := by decide +kernel

theorem trip5 (𝒱 : Variants) (c : Dev nD) (bd : Option 𝒱.V) (i : grid0.Coords) (arg2 : Memref sig .tc .vmem S1x2048x768 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256x256 .bf16) (harg6 : arg6.IsWhole) (arg1 : BitVec 32) (v1 : BitVec 32) (v6 : FVec Ideal S256x256 .f32) (v8 : FVec Ideal S256x256 .bf16) (v11 : IVec S256x256 1) (v140_1 : FVec Ideal S256x256 .f32) (v146 : IVec S1x256 1) (v151 : FVec Ideal S256x256 .bf16) (v152 : FVec Ideal S256x1 .f32) (v168 : FVec Ideal S256x256 .f32) (v170 : FVec Ideal S256x256 .f32) (v171 : FVec Ideal S256x256 .bf16) (v174 : FVec Ideal S256x256 .bf16) (cst_52 : FVec Ideal S256x256 .f32) (X : BufTy.Contents (Elt Ideal) arg2.view.ty) (k : Fin (k0_t5_loop i).trips) (acc : St) :
    tripR_k0_t5 𝒱 c bd i arg2 harg2 arg3 harg3 arg4 harg4 arg5 harg5 arg6 harg6 arg1 v1 v6 v8 v11 v140_1 v146 v151 v152 v168 v170 v171 v174 cst_52 X k acc
      = inner v8 v146 v151 acc (rd arg2 X (k0_off12 i k) (k0_off12_inb i k)) (rd arg2 X (k0_off13 i k) (k0_off13_inb i k)) := by
  unfold tripR_k0_t5 trip_k0_t5
  rfl

theorem rem6 (𝒱 : Variants) (c : Dev nD) (bd : Option 𝒱.V) (i : grid0.Coords) (arg2 : Memref sig .tc .vmem S1x2048x768 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256x256 .bf16) (harg6 : arg6.IsWhole) (arg1 : BitVec 32) (v1 : BitVec 32) (v6 : FVec Ideal S256x256 .f32) (v8 : FVec Ideal S256x256 .bf16) (v11 : IVec S256x256 1) (v140_1 : FVec Ideal S256x256 .f32) (v146 : IVec S1x256 1) (v151 : FVec Ideal S256x256 .bf16) (v152 : FVec Ideal S256x1 .f32) (v168 : FVec Ideal S256x256 .f32) (v170 : FVec Ideal S256x256 .f32) (v171 : FVec Ideal S256x256 .bf16) (v174 : FVec Ideal S256x256 .bf16) (cst_52 : FVec Ideal S256x256 .f32) (v202 : BitVec 32) (X : BufTy.Contents (Elt Ideal) arg2.view.ty) (init : St) :
    st_k0_t6 𝒱 c bd i arg2 harg2 arg3 harg3 arg4 harg4 arg5 harg5 arg6 harg6 arg1 v1 v6 v8 v11 v140_1 v146 v151 v152 v168 v170 v171 v174 cst_52 v202 X init (k0_t6_loop i).trips = init := by
  rw [trips6]
  exact st_k0_t6_zero ..

/-- What the head adds to what the queries have gathered. -/
theorem head5 (x : ℕ → ℕ → ℝ) (h : ℕ) (x0 : Vec Ideal S1x2048x768 .f32)
    (hx : ∀ (s : Fin 2048) (c : Fin 768), x0 (ix3 0 s c) = ((x s.val c.val : ℝ) : EReal))
    (base : Fin 256 → Fin 256 → ℝ) (𝒱 : Variants) (c : Dev nD) (bd : Option 𝒱.V) (i : grid0.Coords) (arg2 : Memref sig .tc .vmem S1x2048x768 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256x256 .bf16) (harg6 : arg6.IsWhole) (arg1 : BitVec 32) (v1 : BitVec 32) (v6 : FVec Ideal S256x256 .f32) (v8 : FVec Ideal S256x256 .bf16) (v11 : IVec S256x256 1) (v140_1 : FVec Ideal S256x256 .f32) (v146 : IVec S1x256 1) (v151 : FVec Ideal S256x256 .bf16) (v152 : FVec Ideal S256x1 .f32) (v168 : FVec Ideal S256x256 .f32) (v170 : FVec Ideal S256x256 .f32) (v171 : FVec Ideal S256x256 .bf16) (v174 : FVec Ideal S256x256 .bf16) (cst_52 : FVec Ideal S256x256 .f32) (v202 : BitVec 32)
    (kb vb : Vec Ideal S1x256x256 .f32) (R : Reads x h (256 * (i 1).val) (256 * (i 1).val) v8 v146 v151 kb vb) (acc : FVec Ideal S256x256 .f32)
    (hb : ∀ r n : Fin 256, acc (ix2 r n) = ((base r n : ℝ) : EReal)) (init : St) (hinit : init = diag v8 v146 v151 acc kb vb) (r n : Fin 256) :
    (st_k0_t6 𝒱 c bd i arg2 harg2 arg3 harg3 arg4 harg4 arg5 harg5 arg6 harg6 arg1 v1 v6 v8 v11 v140_1 v146 v151 v152 v168 v170 v171 v174 cst_52 v202 (harg2.unread x0) (st_k0_t5 𝒱 c bd i arg2 harg2 arg3 harg3 arg4 harg4 arg5 harg5 arg6 harg6 arg1 v1 v6 v8 v11 v140_1 v146 v151 v152 v168 v170 v171 v174 cst_52 (harg2.unread x0) init (k0_t5_loop i).trips) (k0_t6_loop i).trips).2 (ix2 r n)
      = ((base r n + WW (zz x h (256 * (i 1).val + r.val)) (256 * (i 1).val + r.val) (fun s => vm x h s n.val) 0 : ℝ) : EReal) := by
  rw [rem6]
  have hq : (i 1).val < 8 := (i 1).isLt
  refine (loop_inv x h (i 1).val hq base v8 v146 v151 (st_k0_t5 𝒱 c bd i arg2 harg2 arg3 harg3 arg4 harg4 arg5 harg5 arg6 harg6 arg1 v1 v6 v8 v11 v140_1 v146 v151 v152 v168 v170 v171 v174 cst_52 (harg2.unread x0) init) _ (trips5 i) ?_ ?_).2 r n
  · rw [st_k0_t5_zero, hinit]
    exact diag_inv R (by omega) base acc hb
  · intro k hk
    refine ⟨_, _, ⟨R.q, R.m, R.tri, ?_, ?_⟩, (st_k0_t5_succ 𝒱 c bd i arg2 harg2 arg3 harg3 arg4 harg4 arg5 harg5 arg6 harg6 arg1 v1 v6 v8 v11 v140_1 v146 v151 v152 v168 v170 v171 v174 cst_52 (harg2.unread x0) init ⟨k, hk⟩).trans (trip5 ..)⟩
    · exact fun j n => rd_apply arg2 harg2 x x0 hx _ _ _ _ (off12 i ⟨k, hk⟩) j n
    · exact fun j n => rd_apply arg2 harg2 x x0 hx _ _ _ _ (off13 i ⟨k, hk⟩) j n

/-! ### Head 3 -/

theorem trips7 : ∀ i : grid0.Coords, (k0_t7_loop i).trips = (i 1).val := by decide +kernel
theorem trips8 (i : grid0.Coords) : (k0_t8_loop i).trips = 0 := Nat.le_zero.1 (k0_t8_abs i).2.1
theorem off16 : ∀ (i : grid0.Coords) (k : Fin (k0_t7_loop i).trips), k0_off16 i k = ![0, 256 * ((i 1).val - 1 - k.val), 256] := by decide +kernel
theorem off17 : ∀ (i : grid0.Coords) (k : Fin (k0_t7_loop i).trips), k0_off17 i k = ![0, 256 * ((i 1).val - 1 - k.val), 512] := by decide +kernel

theorem trip7 (𝒱 : Variants) (c : Dev nD) (bd : Option 𝒱.V) (i : grid0.Coords) (arg2 : Memref sig .tc .vmem S1x2048x768 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256x256 .bf16) (harg6 : arg6.IsWhole) (arg1 : BitVec 32) (v8 : FVec Ideal S256x256 .bf16) (v210 : IVec S1x256 1) (v215 : FVec Ideal S256x256 .bf16) (c0_i32_81 : BitVec 32) (X : BufTy.Contents (Elt Ideal) arg2.view.ty) (k : Fin (k0_t7_loop i).trips) (acc : St) :
    tripR_k0_t7 𝒱 c bd i arg2 harg2 arg3 harg3 arg4 harg4 arg5 harg5 arg6 harg6 arg1 v8 v210 v215 c0_i32_81 X k acc
      = inner v8 v210 v215 acc (rd arg2 X (k0_off16 i k) (k0_off16_inb i k)) (rd arg2 X (k0_off17 i k) (k0_off17_inb i k)) := by
  unfold tripR_k0_t7 trip_k0_t7
  rfl

theorem rem8 (𝒱 : Variants) (c : Dev nD) (bd : Option 𝒱.V) (i : grid0.Coords) (arg2 : Memref sig .tc .vmem S1x2048x768 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256x256 .bf16) (harg6 : arg6.IsWhole) (arg1 : BitVec 32) (v8 : FVec Ideal S256x256 .bf16) (v210 : IVec S1x256 1) (v215 : FVec Ideal S256x256 .bf16) (v266 : BitVec 32) (X : BufTy.Contents (Elt Ideal) arg2.view.ty) (init : St) :
    st_k0_t8 𝒱 c bd i arg2 harg2 arg3 harg3 arg4 harg4 arg5 harg5 arg6 harg6 arg1 v8 v210 v215 v266 X init (k0_t8_loop i).trips = init := by
  rw [trips8]
  exact st_k0_t8_zero ..

/-- What the head adds to what the queries have gathered. -/
theorem head7 (x : ℕ → ℕ → ℝ) (h : ℕ) (x0 : Vec Ideal S1x2048x768 .f32)
    (hx : ∀ (s : Fin 2048) (c : Fin 768), x0 (ix3 0 s c) = ((x s.val c.val : ℝ) : EReal))
    (base : Fin 256 → Fin 256 → ℝ) (𝒱 : Variants) (c : Dev nD) (bd : Option 𝒱.V) (i : grid0.Coords) (arg2 : Memref sig .tc .vmem S1x2048x768 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256x256 .bf16) (harg6 : arg6.IsWhole) (arg1 : BitVec 32) (v8 : FVec Ideal S256x256 .bf16) (v210 : IVec S1x256 1) (v215 : FVec Ideal S256x256 .bf16) (c0_i32_81 : BitVec 32) (v266 : BitVec 32)
    (kb vb : Vec Ideal S1x256x256 .f32) (R : Reads x h (256 * (i 1).val) (256 * (i 1).val) v8 v210 v215 kb vb) (acc : FVec Ideal S256x256 .f32)
    (hb : ∀ r n : Fin 256, acc (ix2 r n) = ((base r n : ℝ) : EReal)) (init : St) (hinit : init = diag v8 v210 v215 acc kb vb) (r n : Fin 256) :
    (st_k0_t8 𝒱 c bd i arg2 harg2 arg3 harg3 arg4 harg4 arg5 harg5 arg6 harg6 arg1 v8 v210 v215 v266 (harg2.unread x0) (st_k0_t7 𝒱 c bd i arg2 harg2 arg3 harg3 arg4 harg4 arg5 harg5 arg6 harg6 arg1 v8 v210 v215 c0_i32_81 (harg2.unread x0) init (k0_t7_loop i).trips) (k0_t8_loop i).trips).2 (ix2 r n)
      = ((base r n + WW (zz x h (256 * (i 1).val + r.val)) (256 * (i 1).val + r.val) (fun s => vm x h s n.val) 0 : ℝ) : EReal) := by
  rw [rem8]
  have hq : (i 1).val < 8 := (i 1).isLt
  refine (loop_inv x h (i 1).val hq base v8 v210 v215 (st_k0_t7 𝒱 c bd i arg2 harg2 arg3 harg3 arg4 harg4 arg5 harg5 arg6 harg6 arg1 v8 v210 v215 c0_i32_81 (harg2.unread x0) init) _ (trips7 i) ?_ ?_).2 r n
  · rw [st_k0_t7_zero, hinit]
    exact diag_inv R (by omega) base acc hb
  · intro k hk
    refine ⟨_, _, ⟨R.q, R.m, R.tri, ?_, ?_⟩, (st_k0_t7_succ 𝒱 c bd i arg2 harg2 arg3 harg3 arg4 harg4 arg5 harg5 arg6 harg6 arg1 v8 v210 v215 c0_i32_81 (harg2.unread x0) init ⟨k, hk⟩).trans (trip7 ..)⟩
    · exact fun j n => rd_apply arg2 harg2 x x0 hx _ _ _ _ (off16 i ⟨k, hk⟩) j n
    · exact fun j n => rd_apply arg2 harg2 x x0 hx _ _ _ _ (off17 i ⟨k, hk⟩) j n

end Cert.Stick

end
-- ==== Proof.StickKernel.lean ====
/-
  The array the stick-breaking attention leaves, at every index.
-/
module

public import proofs.«01_k».proof.Proof.StickLoop

@[expose] public section

set_option maxRecDepth 16384

noncomputable section

namespace Cert.Stick

open Idealize.ShloMosaic Idealize.ShloMosaic.TcCoe Idealize.SL.Sem
open Cert.Kernel4Ideal Cert.Kernel4Ideal.Gen Cert.Lru

theorem q_real (x : ℕ → ℕ → ℝ) (h a0 : ℕ) (qb : Vec Ideal S1x256x256 .f32)
    (hq : ∀ r n : Fin 256, qb (ix3 0 r n) = ((x (a0 + r.val) (0 + n.val) : ℝ) : EReal)) (r n : Fin 256) :
    (if n.val / 64 = h then qb (ix3 0 r n) * Ideal.ofBits .f32 0x3E000000#32 else 0) = ((qm x h (a0 + r.val) n.val : ℝ) : EReal) := by
  rw [hq, c_8inv, qm, Nat.zero_add]
  split_ifs
  · exact (EReal.coe_mul _ _).symm
  · exact EReal.coe_zero.symm

theorem tri_apply (x3 : Vec Ideal S256x256 .bf16) (j c : Fin 256) : k0_pay51 x3 (ix2 j c) = x3 (ix2 j c) := by
  pointwise [k0_pay51]

/-- What one head adds. -/
def wh (x : ℕ → ℕ → ℝ) (a0 h : ℕ) (r n : Fin 256) : ℝ := WW (zz x h (a0 + r.val)) (a0 + r.val) (fun s => vm x h s n.val) 0

set_option maxHeartbeats 4000000 in
/-- The body normalises what the queries have gathered from the four heads. -/
theorem out_acc (x : ℕ → ℕ → ℝ) (c : Dev nD) (i : grid0.Coords) (arg2 : Memref sig .tc .vmem S1x2048x768 .f32) (harg2 : arg2.IsWhole) (arg3 : Memref sig .tc .vmem S1x256 .f32) (harg3 : arg3.IsWhole) (arg4 : Memref sig .tc .vmem S256x256 .bf16) (harg4 : arg4.IsWhole) (arg5 : Memref sig .tc .vmem S256x256 .bf16) (harg5 : arg5.IsWhole) (arg6 : Memref sig .tc .vmem S1x256x256 .bf16) (harg6 : arg6.IsWhole)
    (x0 : Vec Ideal S1x2048x768 .f32) (x1 : Vec Ideal S1x256 .f32) (x2 : Vec Ideal S256x256 .bf16) (x3 : Vec Ideal S256x256 .bf16)
    (hx : ∀ (s : Fin 2048) (c : Fin 768), x0 (ix3 0 s c) = ((x s.val c.val : ℝ) : EReal))
    (htri : ∀ j c : Fin 256, x3 (ix2 j c) = if c.val ≤ j.val then 1 else 0) :
    ∃ acc : FVec Ideal S256x256 .f32, (∀ r n : Fin 256, acc (ix2 r n) = ((oo x (256 * (i 1).val + r.val) n.val : ℝ) : EReal)) ∧
      out0_A_4 c i arg2 harg2 arg3 harg3 arg4 harg4 arg5 harg5 arg6 harg6 x0 x1 x2 x3 = k0_pay1 acc x2 x1 := by
  refine ⟨?acc, ?h, ?e⟩
  case e =>
    funext j
    frame_out
    rfl
  case h =>
    have hq := ld_apply x x0 hx (k0_off1 i) (k0_off1_inb i) _ _ (k0_off1_eq i)
    have hk := ld_apply x x0 hx (k0_off2 i) (k0_off2_inb i) _ _ (k0_off2_eq i)
    have hv := ld_apply x x0 hx (k0_off3 i) (k0_off3_inb i) _ _ (k0_off3_eq i)
    have ht : ∀ j c : Fin 256, k0_pay51 x3 (ix2 j c) = if c.val ≤ j.val then 1 else 0 := fun j c => (tri_apply x3 j c).trans (htri j c)
    have R0 := Reads.mk (x := x) (h := 0) (a0 := 256 * (i 1).val) (fun r n => (q0_apply _ r n).trans (q_real x 0 _ _ hq r n)) mask0 ht hk hv
    have R1 := Reads.mk (x := x) (h := 1) (a0 := 256 * (i 1).val) (fun r n => (q1_apply _ r n).trans (q_real x 1 _ _ hq r n)) mask1 ht hk hv
    have R2 := Reads.mk (x := x) (h := 2) (a0 := 256 * (i 1).val) (fun r n => (q2_apply _ r n).trans (q_real x 2 _ _ hq r n)) mask2 ht hk hv
    have R3 := Reads.mk (x := x) (h := 3) (a0 := 256 * (i 1).val) (fun r n => (q3_apply _ r n).trans (q_real x 3 _ _ hq r n)) mask3 ht hk hv
    intro r n
    rw [← four_heads x _ n.val n.isLt]
    refine head7 (x := x) (h := 3) (x0 := x0) (hx := hx) (R := R3) (hinit := diag4 ..)
      (base := fun r n => 0 + wh x (256 * (i 1).val) 0 r n + wh x (256 * (i 1).val) 1 r n + wh x (256 * (i 1).val) 2 r n) (hb := ?_) ..
    intro r n
    refine head5 (x := x) (h := 2) (x0 := x0) (hx := hx) (R := R2) (hinit := diag3 ..)
      (base := fun r n => 0 + wh x (256 * (i 1).val) 0 r n + wh x (256 * (i 1).val) 1 r n) (hb := ?_) ..
    intro r n
    refine head3 (x := x) (h := 1) (x0 := x0) (hx := hx) (R := R1) (hinit := diag2 ..)
      (base := fun r n => 0 + wh x (256 * (i 1).val) 0 r n) (hb := ?_) ..
    intro r n
    refine head1 (x := x) (h := 0) (x0 := x0) (hx := hx) (R := R0) (hinit := diag1 ..) (base := fun r n => 0) (hb := ?_) ..
    intro r n
    exact (pay53_apply r n).trans EReal.coe_zero.symm

/-! ### The arrays the host computes -/

/-- The host's triangle. -/
def triT : FVec Ideal S256x256 .bf16 :=
  truncf .bf16 (uitofp .f32 (cmpi .sge
    (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0)))) : FVec Ideal S256x256 .f32)
    bitsLt_bf16_f32

theorem sge_ofNat (a b : ℕ) (ha : a < 2048) (hb : b < 2048) :
    IntOp.cmpi CmpIPredicate.sge (BitVec.ofNat 32 a) (BitVec.ofNat 32 b) = if b ≤ a then 1#1 else 0#1 := by
  show BitVec.ofBool (decide ((BitVec.ofNat 32 b).toInt ≤ (BitVec.ofNat 32 a).toInt)) = _
  rw [toInt_small a ha, toInt_small b hb]
  split_ifs with h
  · rw [decide_eq_true (by omega)]; rfl
  · rw [decide_eq_false (by omega)]; rfl

theorem triT_apply (j c : Fin 256) : triT (ix2 j c) = if c.val ≤ j.val then 1 else 0 := by
  pointwise [triT]
  rw [sge_ofNat _ _ (by omega) (by omega)]
  split_ifs <;> simp [FloatOps.uitofp]

variable (m : (ℓ : Loc nD τ sig) → Buf (Elt Ideal) ℓ)

theorem V_v7 (c : Dev nD) : V m c main_v7 = triT := by
  unfold V
  simp only [hostOps0, hostOps0_1, hostOps0_2, List.flatten_cons, List.flatten_nil, List.append_nil, List.cons_append, List.nil_append]
  after_results
  rfl

theorem V_v8 (c : Dev nD) : V m c main_v8 = shapeCast S1x256 (m ((c : Thread nD τ).loc main_arg1)) shapeCasts_S256_S1x256 := by
  unfold V
  simp only [hostOps0, hostOps0_1, hostOps0_2, List.flatten_cons, List.flatten_nil, List.append_nil, List.cons_append, List.nil_append]
  after_results
  rfl

theorem V_v17 (c : Dev nD) : V m c main_v17 = (onesT : FVec Ideal S256x256 .bf16) := by
  unfold V
  simp only [hostOps0, hostOps0_1, hostOps0_2, List.flatten_cons, List.flatten_nil, List.append_nil, List.cons_append, List.nil_append]
  after_results
  rfl

theorem lt_64 (t : Fin cfg0.N) : t.val < 64 := lt_of_lt_of_eq t.isLt N_0

/-- The sequence that grid point `t` works on. -/
def bt (t : Fin cfg0.N) : Fin 8 := ⟨t.val / 8, by have := lt_64 t; omega⟩

/-- The row of the sequence at row `r` of the tile of grid point `t`. -/
def row (t : Fin cfg0.N) (r : Fin 256) : Fin 2048 := ⟨256 * (t.val % 8) + r.val, by omega⟩

theorem tile_of : ∀ t : Fin cfg0.N, ((grid0.coords t) 1).val = t.val % 8 := (by decide +kernel : ∀ t : Fin grid0.N, _)
theorem idx0 : ∀ t : Fin cfg0.N, win0_0.index t = ![t.val / 8, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 8, t.val % 8, 0] := (by decide +kernel : ∀ t : Fin grid0.N, _)
theorem flush4 : ∀ t : Fin cfg0.N, (cfg0.win 4).flush t = true := (by decide +kernel : ∀ t : Fin grid0.N, win0_4.flush t = true)

theorem blk0 (c : Dev nD) (t : Fin cfg0.N) (s : Fin 2048) (k : Fin 768) :
    (iblk m c 0 t : Vec Ideal S1x2048x768 .f32) (ix3 0 s k) = m ((c : Thread nD τ).loc main_arg0) (ix3 (bt t) s k) := by
  blk_ext [iblk, V_main_arg0, idx0 t, bt]

theorem blk1 (c : Dev nD) (t : Fin cfg0.N) (n : Fin 256) :
    (iblk m c 1 t : Vec Ideal S1x256 .f32) (ix2 0 n) = m ((c : Thread nD τ).loc main_arg1) (ix1 n) := by
  blk_simp [iblk]
  rw [V_v8]
  pointwise []
  blk_ext [idx1 t]

theorem blk2 (c : Dev nD) (t : Fin cfg0.N) (k n : Fin 256) :
    (iblk m c 2 t : Vec Ideal S256x256 .bf16) (ix2 k n) = onesT (ix2 k n) := by
  blk_simp [iblk]
  rw [V_v17]
  blk_ext [idx2 t]

theorem blk3 (c : Dev nD) (t : Fin cfg0.N) (k n : Fin 256) :
    (iblk m c 3 t : Vec Ideal S256x256 .bf16) (ix2 k n) = triT (ix2 k n) := by
  blk_simp [iblk]
  rw [V_v7]
  blk_ext [idx3 t]

/-- A result of the attention: a row gathered from the values and normalised in its head. -/
def res (x : ℕ → ℕ → ℝ) (s : ℕ) (g : EReal) (n : Fin 256) : EReal :=
  ((oo x s n.val : ℝ) : EReal) * Ideal.rsqrt (MS (fun k : Fin 256 => ((oo x s k.val : ℝ) : EReal)) n + Ideal.ofBits .f32 0x358637BD#32) * g

/-- What grid point `t` writes back, at an index of its tile. -/
theorem flushed_apply (c : Dev nD) (t : Fin cfg0.N) (x : ℕ → ℕ → ℝ)
    (hx : ∀ (s : Fin 2048) (k : Fin 768), m ((c : Thread nD τ).loc main_arg0) (ix3 (bt t) s k) = ((x s.val k.val : ℝ) : EReal))
    (r n : Fin 256) :
    ((dats m 0 c).flushed 4 t : Vec Ideal S1x256x256 .bf16) (ix3 0 r n)
      = res x (row t r).val (m ((c : Thread nD τ).loc main_arg1) (ix1 n)) n := by
  obtain ⟨acc, hacc, e⟩ := out_acc x c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t) (iblk m c 3 t) (fun s k => (blk0 m c t s k).trans (hx s k))
    (fun j k => (blk3 m c t j k).trans (triT_apply j k))
  have e1 : ((dats m 0 c).flushed 4 t : Vec Ideal S1x256x256 .bf16) (ix3 0 r n)
      = k0_pay1 acc (iblk m c 2 t) (iblk m c 1 t) (ix3 0 r n) := by
    rw [Value.flushed4_A, e]
    rfl
  rw [e1, out_apply acc r n _ _ (fun k c' => (blk2 m c t k c').trans (onesT_apply k c'))
    (fun k => ((oo x (row t r).val k.val : ℝ) : EReal)) (fun k => (hacc r k).trans (by rw [tile_of]; rfl)) (fun k => IsR.coe _), blk1]
  rfl

/-- A tile of the final array, at an index of the tile. -/
theorem read_apply (c : Dev nD) (t : Fin cfg0.N) (X : FVec Ideal S8x2048x256 .bf16) (r n : Fin 256) :
    (((cfg0.win 4).blk t).view.read (Elt Ideal) X : Vec Ideal S1x256x256 .bf16) (ix3 0 r n) = X (ix3 (bt t) (row t r) n) := by
  blk_ext [idx4 t, bt, row]

/-- The kernel's result array, at every index. -/
theorem kernel_apply (c : Dev nD) (b : Fin 8) (s : Fin 2048) (n : Fin 256) (x : ℕ → ℕ → ℝ)
    (hx : ∀ (s : Fin 2048) (k : Fin 768), m ((c : Thread nD τ).loc main_arg0) (ix3 b s k) = ((x s.val k.val : ℝ) : EReal)) :
    ((dats m 0 c).arrAt 4 cfg0.N : FVec Ideal S8x2048x256 .bf16) (ix3 b s n)
      = res x s.val (m ((c : Thread nD τ).loc main_arg1) (ix1 n)) n := by
  obtain ⟨t, ht⟩ : ∃ t : Fin cfg0.N, t.val = 8 * b.val + s.val / 256 :=
    ⟨⟨8 * b.val + s.val / 256, lt_of_lt_of_eq (by omega) N_0.symm⟩, rfl⟩
  have hb : bt t = b := Fin.ext (by simp only [bt]; omega)
  have hs : row t ⟨s.val % 256, by omega⟩ = s := Fin.ext (by simp only [row]; omega)
  have h := (read_apply c t ((dats m 0 c).arrAt 4 cfg0.N) ⟨s.val % 256, by omega⟩ n).symm.trans
    ((congrFun (Value.blocks4 m c t (flush4 t)) _).trans (flushed_apply m c t x (by rw [hb]; exact hx) ⟨s.val % 256, by omega⟩ n))
  rwa [hb, hs] at h

end Cert.Stick

end
-- ==== Proof.StickRef.lean ====
/-
  The reference of the stick-breaking attention in its stages, each read at every index.
-/
module

public import proofs.«01_k».proof.Proof.StickKernel
public import proofs.«01_k».proof.Proof.LruRef
public import proofs.«01_k».proof.Proof.Gen.Reference4Ideal.Run

@[expose] public section

set_option maxRecDepth 16384

noncomputable section

namespace Cert.Stick

open Idealize.ShloMosaic Idealize.ShloMosaic.TcCoe Idealize.SL.Sem
open Idealize.ShloMosaic.StableHlo Cert.Reference4Ideal Cert.Reference4Ideal.Gen Cert.Lru

/-- The logits. -/
def rLog (X : FVec Ideal S8x2048x768 .f32) : FVec Ideal S8x4x2048x2048 .f32 :=
  mulf (Host.dotGeneral dot_S8x2048x4x64_S8x2048x4x64_S8x4x2048x2048_3_3_1_1_02_02 none (shapeCast _ (extractStridedSlice S8x2048x256 ![0, 0, 0] X slices_S8x2048x768_S8x2048x256_0_0_0) shapeCasts_S8x2048x256_S8x2048x4x64 : FVec Ideal S8x2048x4x64 .f32) (shapeCast _ (extractStridedSlice S8x2048x256 ![0, 0, 256] X slices_S8x2048x768_S8x2048x256_0_0_256) shapeCasts_S8x2048x256_S8x2048x4x64 : FVec Ideal S8x2048x4x64 .f32)) (broadcastInDim S8x4x2048x2048 ![] bcast_S_S8x4x2048x2048 (constant S_ .f32 0x3E000000#32))

/-- Zero at every index. -/
def rZero : FVec Ideal S8x4x2048x2048 .f32 := broadcastInDim S8x4x2048x2048 ![] bcast_S_S8x4x2048x2048 (constant S_ .f32 0x00000000#32)

/-- The logarithm of the logistic function of the logits. -/
def rLb (Z : FVec Ideal S8x4x2048x2048 .f32) : FVec Ideal S8x4x2048x2048 .f32 :=
  Host.negf (select (cmpf .une (subf (Host.negf Z) rZero) (subf (Host.negf Z) rZero)) (addf (Host.negf Z) rZero) (addf (maximumf (Host.negf Z) rZero) (Host.log1p (Host.exp (Host.negf (Host.absf (subf (Host.negf Z) rZero)))))))

/-- The keys before a query. -/
def rCausal : IVec S8x4x2048x2048 1 :=
  broadcastInDim S8x4x2048x2048 ![2, 3] bcast_S2048x2048_S8x4x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- What a key leaves of the stick, as a logarithm. -/
def rLeft (LB Z : FVec Ideal S8x4x2048x2048 .f32) : FVec Ideal S8x4x2048x2048 .f32 :=
  select rCausal (subf LB Z) rZero

/-- The sums over the later keys. -/
def rSuf (L : FVec Ideal S8x4x2048x2048 .f32) : FVec Ideal S8x4x2048x2048 .f32 :=
  subf (Host.reduceWindowAdd ![1, 1, 1, 2048] ![1, 1, 1, 1] ![0, 0, 0, 0] ![0, 0, 0, 2047] L (broadcastInDim S_ ![] bcast_S_S_ (constant S_ .f32 0x00000000#32)) reduceWindows_S8x4x2048x2048_S8x4x2048x2048_w1s1p0_0_w1s1p0_0_w1s1p0_0_w2048s1p0_2047 h_S_) L

/-- The weights. -/
def rWt (LB S : FVec Ideal S8x4x2048x2048 .f32) : FVec Ideal S8x4x2048x2048 .f32 :=
  select rCausal (Host.exp (addf LB S)) rZero

/-- The weighted values. -/
def rAtt (X : FVec Ideal S8x2048x768 .f32) (W : FVec Ideal S8x4x2048x2048 .f32) : FVec Ideal S8x2048x4x64 .f32 :=
  transpose S8x2048x4x64 [0, 3, 1, 2] (Host.dotGeneral dot_S8x2048x4x64_S8x4x2048x2048_S8x4x64x2048_1_3_3_2_02_01 none (shapeCast _ (extractStridedSlice S8x2048x256 ![0, 0, 512] X slices_S8x2048x768_S8x2048x256_0_0_512) shapeCasts_S8x2048x256_S8x2048x4x64 : FVec Ideal S8x2048x4x64 .f32) W) transposes_S8x4x64x2048_S8x2048x4x64_0_3_1_2

/-- The heads normalised. -/
def rNorm (Z : FVec Ideal S8x2048x4x64 .f32) (g : FVec Ideal S256 .f32) : FVec Ideal S8x2048x256 .bf16 :=
  truncf .bf16 (shapeCast _ (mulf (mulf Z (broadcastInDim S8x2048x4x64 ![0, 1, 2, 3] bcast_S8x2048x4x1_S8x2048x4x64_0_1_2_3 (Host.rsqrt (addf (Host.divf (broadcastInDim S8x2048x4x1 ![0, 1, 2] bcast_S8x2048x4_S8x2048x4x1_0_1_2 (Host.reduceAdd (mulf Z Z) (constant S_ .f32 0x00000000#32) reducesTo_S8x2048x4x64_S8x2048x4_d3 h_S_)) (broadcastInDim S8x2048x4x1 ![] bcast_S_S8x2048x4x1 (constant S_ .f32 0x42800000#32))) (broadcastInDim S8x2048x4x1 ![] bcast_S_S8x2048x4x1 (constant S_ .f32 0x358637BD#32)))))) (broadcastInDim S8x2048x4x64 ![0, 1, 2, 3] bcast_S1x1x4x64_S8x2048x4x64_0_1_2_3 (broadcastInDim S1x1x4x64 ![2, 3] bcast_S4x64_S1x1x4x64_2_3 (shapeCast _ g shapeCasts_S256_S4x64)))) shapeCasts_S8x2048x4x64_S8x2048x256) bitsLt_bf16_f32

theorem rCausal_apply (b : Fin 8) (h : Fin 4) (t s : Fin 2048) : rCausal (ix4 b h t s) = if s.val < t.val then 1#1 else 0#1 := by
  rw [← slt_ofNat s.val t.val (by omega) (by omega)]
  pointwise [rCausal]

theorem foldl_add {N : ℕ} (g : Fin N → EReal) (v : EReal) : (List.finRange N).foldl (fun r n => r + g n) v = v + ∑ n, g n := by
  have e : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [e, ← List.ofFn_eq_map, List.sum_ofFn]

/-- The windows run along the last axis alone. -/
theorem window_sum (g : (⟨4, ![1, 1, 1, 2048]⟩ : Shape).Idx → EReal) : ∑ w, g w = ∑ k : Fin 2048, g (ix4 (0 : Fin 1) (0 : Fin 1) (0 : Fin 1) k) := by
  refine (Function.Bijective.sum_comp (e := fun k : Fin 2048 => (ix4 (0 : Fin 1) (0 : Fin 1) (0 : Fin 1) k : (⟨4, ![1, 1, 1, 2048]⟩ : Shape).Idx)) ⟨fun a b hab => ?_, fun w => ⟨w 3, ?_⟩⟩ g).symm
  · exact congrFun hab 3
  · have e : w = ix4 (w 0) (w 1) (w 2) (w 3) := by idx_ext
    refine Eq.trans ?_ e.symm
    show ix4 (0 : Fin 1) (0 : Fin 1) (0 : Fin 1) (w 3) = ix4 (w 0) (w 1) (w 2) (w 3)
    rw [Subsingleton.elim (α := Fin 1) (w 0) 0, Subsingleton.elim (α := Fin 1) (w 1) 0, Subsingleton.elim (α := Fin 1) (w 2) 0]
    rfl

/-- The reversed running sum along the last axis. -/
theorem suffix_apply (L : FVec Ideal S8x4x2048x2048 .f32) (b : Fin 8) (h : Fin 4) (t s : Fin 2048) :
    Host.reduceWindowAdd ![1, 1, 1, 2048] ![1, 1, 1, 1] ![0, 0, 0, 0] ![0, 0, 0, 2047] L (broadcastInDim S_ ![] bcast_S_S_ (constant S_ .f32 0x00000000#32)) reduceWindows_S8x4x2048x2048_S8x4x2048x2048_w1s1p0_0_w1s1p0_0_w1s1p0_0_w2048s1p0_2047 h_S_ (ix4 b h t s)
      = ∑ k : Fin 2048, if hk : s.val + k.val < 2048 then L (ix4 b h t ⟨s.val + k.val, hk⟩) else 0 := by
  have z : (broadcastInDim S_ ![] bcast_S_S_ (constant (F := Ideal) S_ .f32 0x00000000#32) : FVec Ideal S_ .f32) (Shape.Idx.first h_S_) = (0 : EReal) := by
    show Ideal.ofBits .f32 0x00000000#32 = 0
    simp [Ideal.ofBits, Ideal.ieee]
  unfold Host.reduceWindowAdd
  rw [z]
  change Ideal.hostReduceWindowAdd _ _ _ _ _ L 0 _ = _
  unfold Ideal.hostReduceWindowAdd
  unfold Host.reduceWindow
  dsimp only
  rw [foldl_add, zero_add]
  refine Eq.trans (Finset.sum_congr rfl fun n _ => ?_) ((Equiv.sum_comp (Shape.rowMajor (⟨4, ![1, 1, 1, 2048]⟩ : Shape)).symm
    (fun w => if hk : s.val + (w 3).val < 2048 then L (ix4 b h t ⟨s.val + (w 3).val, hk⟩) else 0)).trans (window_sum _))
  let w := (Shape.rowMajor (⟨4, ![1, 1, 1, 2048]⟩ : Shape)).symm n
  have w0 : (w 0).val < 1 := (w 0).isLt
  have w1 : (w 1).val < 1 := (w 1).isLt
  have w2 : (w 2).val < 1 := (w 2).isLt
  by_cases hk : s.val + (w 3).val < 2048
  · rw [dif_pos hk, dif_pos]
    · refine congrArg L (funext fun a => Fin.ext ?_)
      match a with
      | ⟨0, _⟩ => show b.val * 1 + (w 0).val - 0 = b.val; omega
      | ⟨1, _⟩ => show h.val * 1 + (w 1).val - 0 = h.val; omega
      | ⟨2, _⟩ => show t.val * 1 + (w 2).val - 0 = t.val; omega
      | ⟨3, _⟩ => show s.val * 1 + (w 3).val - 0 = s.val + (w 3).val; omega
    · intro a
      match a with
      | ⟨0, _⟩ => show 0 ≤ b.val * 1 + (w 0).val ∧ b.val * 1 + (w 0).val - 0 < 8; omega
      | ⟨1, _⟩ => show 0 ≤ h.val * 1 + (w 1).val ∧ h.val * 1 + (w 1).val - 0 < 4; omega
      | ⟨2, _⟩ => show 0 ≤ t.val * 1 + (w 2).val ∧ t.val * 1 + (w 2).val - 0 < 2048; omega
      | ⟨3, _⟩ => show 0 ≤ s.val * 1 + (w 3).val ∧ s.val * 1 + (w 3).val - 0 < 2048; omega
  · rw [dif_neg hk, dif_neg]
    intro hin
    have h3 : 0 ≤ s.val * 1 + (w 3).val ∧ s.val * 1 + (w 3).val - 0 < 2048 := hin 3
    omega

theorem sum_later (f : ℕ → ℝ) (s : ℕ) : ∑ k : Fin 2048, (if s + k.val < 2048 then f (s + k.val) else 0) = ∑ j ∈ Finset.Ico s 2048, f j := by
  rw [Fin.sum_univ_eq_sum_range (fun k => if s + k < 2048 then f (s + k) else 0) 2048, ← Finset.sum_filter, Finset.sum_Ico_eq_sum_range]
  refine Finset.sum_congr (Finset.ext fun k => ?_) fun _ _ => rfl
  rw [Finset.mem_filter, Finset.mem_range, Finset.mem_range]
  omega

theorem rLb_soft (Z : FVec Ideal S8x4x2048x2048 .f32) (b : Fin 8) (h : Fin 4) (t s : Fin 2048) :
    rLb Z (ix4 b h t s) = -(softplus (-(Z (ix4 b h t s)))) := by
  pointwise [rLb, rZero, softplus]
  rw [if_neg (fun h => h rfl)]
  rfl

section
variable (x : ℕ → ℕ → ℝ) (b : Fin 8)

theorem rLog_apply (X : FVec Ideal S8x2048x768 .f32)
    (hx : ∀ (s : Fin 2048) (k : Fin 768), X (ix3 b s k) = ((x s.val k.val : ℝ) : EReal)) (h : Fin 4) (t s : Fin 2048) :
    rLog X (ix4 b h t s) = ((zz x h.val t.val s.val : ℝ) : EReal) := by
  have e : rLog X (ix4 b h t s) = (∑ d : Fin 64, X (ix3 b t ⟨64 * h.val + d.val, by omega⟩) * X (ix3 b s ⟨256 + (64 * h.val + d.val), by omega⟩))
      * Ideal.ofBits .f32 0x3E000000#32 := by
    pointwise [rLog]
    simp only [Nat.mul_comm 64]
  rw [e, zz_eq x h.val t.val s.val h.isLt, c_8inv, EReal.coe_mul, ← coe_sum]
  simp only [hx, EReal.coe_mul]

theorem rLb_apply (Z : FVec Ideal S8x4x2048x2048 .f32)
    (hZ : ∀ (h : Fin 4) (t s : Fin 2048), Z (ix4 b h t s) = ((zz x h.val t.val s.val : ℝ) : EReal)) (h : Fin 4) (t s : Fin 2048) :
    rLb Z (ix4 b h t s) = ((zz x h.val t.val s.val - sr (zz x h.val t.val s.val) : ℝ) : EReal) := by
  rw [rLb_soft, hZ, ← EReal.coe_neg, softplus_coe, ← EReal.coe_neg, sr_neg, neg_sub]

theorem rLeft_apply (LB Z : FVec Ideal S8x4x2048x2048 .f32)
    (hZ : ∀ (h : Fin 4) (t s : Fin 2048), Z (ix4 b h t s) = ((zz x h.val t.val s.val : ℝ) : EReal))
    (hL : ∀ (h : Fin 4) (t s : Fin 2048), LB (ix4 b h t s) = ((zz x h.val t.val s.val - sr (zz x h.val t.val s.val) : ℝ) : EReal))
    (h : Fin 4) (t s : Fin 2048) :
    rLeft LB Z (ix4 b h t s) = ((ell (zz x h.val t.val) t.val s.val : ℝ) : EReal) := by
  have e : rLeft LB Z (ix4 b h t s) = Scalar.select (rCausal (ix4 b h t s)) (LB (ix4 b h t s) - Z (ix4 b h t s)) 0 := by
    pointwise [rLeft, rZero]
  rw [e, rCausal_apply, sel_if, hZ, hL, ← EReal.coe_sub, ell]
  split_ifs
  · exact congrArg _ (by ring)
  · exact EReal.coe_zero.symm

theorem rSuf_apply (L : FVec Ideal S8x4x2048x2048 .f32)
    (hL : ∀ (h : Fin 4) (t s : Fin 2048), L (ix4 b h t s) = ((ell (zz x h.val t.val) t.val s.val : ℝ) : EReal)) (h : Fin 4) (t s : Fin 2048) :
    rSuf L (ix4 b h t s) = ((SS (zz x h.val t.val) t.val (s.val + 1) : ℝ) : EReal) := by
  have e : rSuf L (ix4 b h t s) = (∑ k : Fin 2048, if hk : s.val + k.val < 2048 then L (ix4 b h t ⟨s.val + k.val, hk⟩) else 0) - L (ix4 b h t s) :=
    congrArg (fun v : EReal => v - L (ix4 b h t s)) (suffix_apply L b h t s)
  have e2 : ∀ k : Fin 2048, (if hk : s.val + k.val < 2048 then L (ix4 b h t ⟨s.val + k.val, hk⟩) else 0)
      = (((if s.val + k.val < 2048 then ell (zz x h.val t.val) t.val (s.val + k.val) else 0) : ℝ) : EReal) := by
    intro k
    split_ifs
    · exact hL _ _ _
    · exact EReal.coe_zero.symm
  rw [e, hL, Finset.sum_congr rfl fun k _ => e2 k, coe_sum, sum_later, ← EReal.coe_sub, SS,
    Finset.sum_eq_sum_Ico_succ_bot s.isLt, add_sub_cancel_left]

theorem rWt_apply (LB S : FVec Ideal S8x4x2048x2048 .f32)
    (hL : ∀ (h : Fin 4) (t s : Fin 2048), LB (ix4 b h t s) = ((zz x h.val t.val s.val - sr (zz x h.val t.val s.val) : ℝ) : EReal))
    (hS : ∀ (h : Fin 4) (t s : Fin 2048), S (ix4 b h t s) = ((SS (zz x h.val t.val) t.val (s.val + 1) : ℝ) : EReal))
    (h : Fin 4) (t s : Fin 2048) :
    rWt LB S (ix4 b h t s) = ((ww (zz x h.val t.val) t.val s.val : ℝ) : EReal) := by
  have e : rWt LB S (ix4 b h t s) = Scalar.select (rCausal (ix4 b h t s)) (Ideal.exp (LB (ix4 b h t s) + S (ix4 b h t s))) 0 := by
    pointwise [rWt, rZero]
  rw [e, rCausal_apply, sel_if, hL, hS, ← EReal.coe_add, ww]
  split_ifs
  · rfl
  · exact EReal.coe_zero.symm

theorem rAtt_apply (X : FVec Ideal S8x2048x768 .f32) (W : FVec Ideal S8x4x2048x2048 .f32)
    (hx : ∀ (s : Fin 2048) (k : Fin 768), X (ix3 b s k) = ((x s.val k.val : ℝ) : EReal))
    (hW : ∀ (h : Fin 4) (t s : Fin 2048), W (ix4 b h t s) = ((ww (zz x h.val t.val) t.val s.val : ℝ) : EReal))
    (t : Fin 2048) (h : Fin 4) (d : Fin 64) :
    rAtt X W (ix4 b t h d) = ((oo x t.val (64 * h.val + d.val) : ℝ) : EReal) := by
  have e : rAtt X W (ix4 b t h d) = ∑ s : Fin 2048, X (ix3 b s ⟨512 + (64 * h.val + d.val), by omega⟩) * W (ix4 b h t s) := by
    pointwise [rAtt]
    simp only [Nat.mul_comm 64]
  have e2 : (64 * h.val + d.val) / 64 = h.val := by omega
  rw [e, oo, e2, ← coe_sum]
  simp only [hx, hW, EReal.coe_mul]

theorem rNorm_apply (Z : FVec Ideal S8x2048x4x64 .f32) (g : FVec Ideal S256 .f32)
    (hZ : ∀ (t : Fin 2048) (h : Fin 4) (d : Fin 64), Z (ix4 b t h d) = ((oo x t.val (64 * h.val + d.val) : ℝ) : EReal))
    (t : Fin 2048) (n : Fin 256) : rNorm Z g (ix3 b t n) = res x t.val (g (ix1 n)) n := by
  have e : rNorm Z g (ix3 b t n) = Z (ix4 b t ⟨n.val / 64, by omega⟩ ⟨n.val % 64, by omega⟩)
      * Ideal.rsqrt (Ideal.div (∑ d : Fin 64, Z (ix4 b t ⟨n.val / 64, by omega⟩ d) * Z (ix4 b t ⟨n.val / 64, by omega⟩ d))
        (Ideal.ofBits .f32 0x42800000#32) + Ideal.ofBits .f32 0x358637BD#32) * g (ix1 n) := by
    pointwise [rNorm]
  have e2 : 64 * (n.val / 64) + n.val % 64 = n.val := by omega
  rw [e]
  simp only [hZ, e2]
  rfl

end

/-- The reference's result in its stages. -/
def rAll (X : FVec Ideal S8x2048x768 .f32) (g : FVec Ideal S256 .f32) : FVec Ideal S8x2048x256 .bf16 :=
  rNorm (rAtt X (rWt (rLb (rLog X)) (rSuf (rLeft (rLb (rLog X)) (rLog X))))) g

theorem rAll_apply (x : ℕ → ℕ → ℝ) (b : Fin 8) (X : FVec Ideal S8x2048x768 .f32) (g : FVec Ideal S256 .f32)
    (hx : ∀ (s : Fin 2048) (k : Fin 768), X (ix3 b s k) = ((x s.val k.val : ℝ) : EReal)) (t : Fin 2048) (n : Fin 256) :
    rAll X g (ix3 b t n) = res x t.val (g (ix1 n)) n := by
  have hZ := rLog_apply x b X hx
  have hL := rLb_apply x b _ hZ
  exact rNorm_apply x b _ g (rAtt_apply x b X _ hx (rWt_apply x b _ _ hL (rSuf_apply x b _ (rLeft_apply x b _ _ hZ hL)))) t n

/-- The reference's result array, at every index. -/
theorem reference_apply (m : (ℓ : Loc nD τ sig) → Buf (Elt Ideal) ℓ) (c : Dev nD) (b : Fin 8) (t : Fin 2048) (n : Fin 256) (x : ℕ → ℕ → ℝ)
    (hx : ∀ (s : Fin 2048) (k : Fin 768), m ((c.tc : Thread nD τ).loc main_arg0) (ix3 b s k) = ((x s.val k.val : ℝ) : EReal)) :
    (Value.res_main_v40 m c : FVec Ideal S8x2048x256 .bf16) (ix3 b t n) = res x t.val (m ((c.tc : Thread nD τ).loc main_arg1) (ix1 n)) n := by
  have e : (Value.res_main_v40 m c : FVec Ideal S8x2048x256 .bf16)
      = rAll (m ((c.tc : Thread nD τ).loc main_arg0)) (m ((c.tc : Thread nD τ).loc main_arg1)) := by
    unfold Value.res_main_v40
    rfl
  rw [e]
  exact rAll_apply x b _ _ hx t n

end Cert.Stick

end
-- ==== Proof.StickClaim.lean ====
/-
  The claims about the stick-breaking attention: the kernel and the reference leave the same array.
-/
module

public import proofs.«01_k».proof.Defs
public import proofs.«01_k».proof.Proof.StickKernel
public import proofs.«01_k».proof.Proof.StickRef
public import proofs.«01_k».proof.Proof.LruPre
public import proofs.«01_k».proof.Proof.Gen.Kernel4.Frame
public import Idealize.ShloMosaic.Lib.Quiescent

@[expose] public section

set_option maxRecDepth 16384

noncomputable section

namespace Cert.Stick

open Idealize.ShloMosaic Idealize.ShloMosaic.TcCoe Idealize.SL.Sem

theorem pre_facts : Cert.Pre_finite4.Facts := by
  constructor <;> decide

/-- Two arrays of the result's shape equal at every triple of coordinates are equal. -/
theorem ext3 {u v : FVec Ideal Cert.Kernel4Ideal.S8x2048x256 .bf16} (h : ∀ b s n, u (ix3 b s n) = v (ix3 b s n)) : u = v := by
  funext i
  have e : i = ix3 (i 0) (i 1) (i 2) := by idx_ext
  rw [e]
  exact h _ _ _

section
attribute [local instance] pre_facts

/-- The precondition: every projected entry is a real number. -/
theorem fin_of_pre (X : FVec Ideal Cert.Pre_finite4.S8x2048x768 .f32) (g : FVec Ideal Cert.Pre_finite4.S256 .f32)
    (h : Cert.Pre_finite4.fn (F := Ideal) X g = fun _ => 1#1) (i : Cert.Pre_finite4.S8x2048x768.Idx) : Cert.Lru.IsR (X i) := by
  have h0 := congrFun h (fun k => k.elim0)
  unfold Cert.Pre_finite4.fn at h0
  dsimp only at h0
  exact Cert.Lru.real_of_all _ _ _ _ _ h0 i
end

/-- Every run of the kernel terminates, keeps the arguments and leaves the counters at zero. -/
theorem frame_kernel : Cert.quiescent_Kernel4 := fun m ρ _ => Cert.Kernel4.Gen.frame m ρ

/-- The same of the kernel over the extended reals. -/
theorem frame_ideal : Cert.quiescent_Kernel4Ideal := fun m ρ _ => Cert.Kernel4Ideal.Gen.frame m ρ

/-- The same of the reference over the extended reals. -/
theorem frame_reference : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The entries of one sequence as real numbers. -/
def reals (X : FVec Ideal Cert.Kernel4Ideal.S8x2048x768 .f32) (b : Fin 8) (s k : ℕ) : ℝ :=
  if h : s < 2048 ∧ k < 768 then (X (ix3 b ⟨s, h.1⟩ ⟨k, h.2⟩)).toReal else 0

theorem reals_apply (X : FVec Ideal Cert.Kernel4Ideal.S8x2048x768 .f32) (hX : ∀ i, Cert.Lru.IsR (X i)) (b : Fin 8) (s : Fin 2048) (k : Fin 768) :
    X (ix3 b s k) = ((reals X b s.val k.val : ℝ) : EReal) := by
  obtain ⟨r, hr⟩ := hX (ix3 b s k)
  rw [reals, dif_pos ⟨s.isLt, k.isLt⟩, hr, EReal.toReal_coe]

/-- The kernel and the reference, started on the same real projection and the same gain, end with the same array. -/
theorem algebraic : @Cert.algebraic_Kernel4Ideal_Reference4Ideal_pre_finite4 _ _ pre_facts := by
  intro m g m' g' hp hag
  refine ⟨fun c => (Cert.Kernel4Ideal.Gen.dats m 0 c).arrAt 4 Cert.Kernel4Ideal.cfg0.N,
    Cert.Kernel4Ideal.Value.run_blocks m g, ?_⟩
  refine (θ_run Cert.Reference4Ideal.defs _ _).mono (fun r h c => ⟨(h c).1.trans ?_, (h c).2⟩)
    (Cert.Reference4Ideal.Value.run (F := Ideal) m' g')
  obtain ⟨h0, h1⟩ := hag c
  have hX := reals_apply _ (fin_of_pre _ _ (hp c))
  refine ext3 fun b s n => (reference_apply m' c b s n _ fun s k => (congrFun h0 _).trans (hX b s k)).trans
    (Eq.trans ?_ (kernel_apply m c b s n _ fun s k => hX b s k).symm)
  rw [h1]

end Cert.Stick

end
-- ==== Proof.lean ====
/-
  The claims of this certificate, assembled from the modules beside this file.
-/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.AdaClaim
public import proofs.«01_k».proof.Proof.FfnClaim
public import proofs.«01_k».proof.Proof.LruClaim
public import proofs.«01_k».proof.Proof.StickClaim

@[expose] public section

noncomputable section

namespace Cert.Proof

open Idealize.ShloMosaic Idealize.SL.Sem

/-- All the claims: about the projection with the recurrent branch, about the output projection with the feed-forward part,
    about the condition's projection, and about the stick-breaking attention. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Lru.pre_facts, Cert.Stick.pre_facts,
    Cert.Lru.frame_kernel, Cert.Lru.frame_ideal, fun m ρ _ => Cert.Lru.frame_ideal m ρ trivial,
    Cert.Lru.frame_reference, fun m ρ _ => Cert.Lru.frame_reference m ρ trivial,
    Cert.Ffn.frame_kernel, Cert.Ffn.frame_ideal, Cert.Ffn.frame_reference,
    Cert.Ada.frame_kernel, Cert.Ada.frame_ideal, Cert.Ada.frame_reference,
    Cert.Stick.frame_kernel, Cert.Stick.frame_ideal, fun m ρ _ => Cert.Stick.frame_ideal m ρ trivial,
    Cert.Stick.frame_reference, fun m ρ _ => Cert.Stick.frame_reference m ρ trivial,
    trivial, Cert.Lru.algebraic, trivial, Cert.Ffn.algebraic, trivial, Cert.Ada.algebraic,
    trivial, Cert.Stick.algebraic⟩

end Cert.Proof

end
